-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_args [hPre_finite_args : Cert.Pre_finite_args.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.2.2.1 = (fun _ => 1#1)
    ∧ (Cert.Pre_finite_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_args [hPre_finite_args : Cert.Pre_finite_args.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.2.2.1 = (fun _ => 1#1)
    ∧ (Cert.Pre_finite_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_above_padding [hPre_above_padding : Cert.Pre_above_padding.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_above_padding.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_above_padding [hPre_above_padding : Cert.Pre_above_padding.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_above_padding.fn (F := Ideal) (m ((c.tc : Thread Cert.Reference6Ideal.nD Cert.Reference6Ideal.τ).loc Cert.Reference6Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_args [hKernel3Ideal : Cert.Kernel3Ideal.Facts] [hPre_finite_args : Cert.Pre_finite_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_args m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_args [hReference3Ideal : Cert.Reference3Ideal.Facts] [hPre_finite_args : Cert.Pre_finite_args.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_args m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_above_padding [hKernel6Ideal : Cert.Kernel6Ideal.Facts] [hPre_above_padding : Cert.Pre_above_padding.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_above_padding m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_above_padding [hReference6Ideal : Cert.Reference6Ideal.Facts] [hPre_above_padding : Cert.Pre_above_padding.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_above_padding m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_args [hKernel3Ideal : Cert.Kernel3Ideal.Facts] [hReference3Ideal : Cert.Reference3Ideal.Facts] [hPre_finite_args : Cert.Pre_finite_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_args m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_above_padding [hKernel6Ideal : Cert.Kernel6Ideal.Facts] [hReference6Ideal : Cert.Reference6Ideal.Facts] [hPre_above_padding : Cert.Pre_above_padding.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_above_padding m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v3)) (v1 : (c : Dev Cert.Kernel6Ideal.nD) → Buf (Elt Ideal) ((c.tc : Thread Cert.Kernel6Ideal.nD Cert.Kernel6Ideal.τ).loc Cert.Kernel6Ideal.main_v4)) (v2 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_v4) = v1 c
          ∧ r.2.mem ((c.tc : Thread Cert.Kernel6Ideal.nD Cert.Kernel6Ideal.τ).loc Cert.Kernel6Ideal.main_v6) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_indices) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qkv : Cert.Pre_finite_qkv.Facts) (hPre_finite_args : Cert.Pre_finite_args.Facts) (hPre_above_padding : Cert.Pre_above_padding.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_args (hKernel3Ideal := hKernel3Ideal) (hPre_finite_args := hPre_finite_args)
    ∧ quiescent_Reference3Ideal (hReference3Ideal := hReference3Ideal)
    ∧ quiescent_Reference3Ideal_pre_finite_args (hReference3Ideal := hReference3Ideal) (hPre_finite_args := hPre_finite_args)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_above_padding (hKernel6Ideal := hKernel6Ideal) (hPre_above_padding := hPre_above_padding)
    ∧ quiescent_Reference6Ideal (hReference6Ideal := hReference6Ideal)
    ∧ quiescent_Reference6Ideal_pre_above_padding (hReference6Ideal := hReference6Ideal) (hPre_above_padding := hPre_above_padding)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_args (hKernel3Ideal := hKernel3Ideal) (hReference3Ideal := hReference3Ideal) (hPre_finite_args := hPre_finite_args)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_above_padding (hKernel6Ideal := hKernel6Ideal) (hReference6Ideal := hReference6Ideal) (hPre_above_padding := hPre_above_padding)
-- ==== Pre_above_padding.lean ====
abbrev S16384x32 : Shape := ⟨2, ![16384, 32]⟩
abbrev S_ : Shape := ⟨0, ![]⟩

class Facts : Prop where
  bcast_S_S16384x32 : S_.BroadcastsInDim S16384x32 (![] : Fin 0 → Fin S16384x32.rank)

variable [Facts]

def fn {F : FTy → Type} [FloatOps F] (main_arg0 : FVec F S16384x32 .f32) : IVec S16384x32 1 :=
  let main_cst : FVec F S_ .f32 := constant S_ .f32 0xF149F2CA#32
  let main_v0 : FVec F S16384x32 .f32 := broadcastInDim S16384x32 ![] bcast_S_S16384x32 main_cst
  let main_v1 : IVec S16384x32 1 := cmpf .ogt main_arg0 main_v0
  main_v1
-- ==== Pre_finite_args.lean ====
abbrev S16384x1024 : Shape := ⟨2, ![16384, 1024]⟩
abbrev S16384x11776 : Shape := ⟨2, ![16384, 11776]⟩
abbrev S4x4096x2048 : Shape := ⟨3, ![4, 4096, 2048]⟩
abbrev S4x1x2048 : Shape := ⟨3, ![4, 1, 2048]⟩
abbrev S2048 : Shape := ⟨1, ![2048]⟩
abbrev S1024x2048 : Shape := ⟨2, ![1024, 2048]⟩
abbrev S2048x2048 : Shape := ⟨2, ![2048, 2048]⟩
abbrev S2048x32 : Shape := ⟨2, ![2048, 32]⟩
abbrev S32 : Shape := ⟨1, ![32]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S4x4096x2048 : S_.BroadcastsInDim S4x4096x2048 (![] : Fin 0 → Fin S4x4096x2048.rank)
  bcast_S_S4x1x2048 : S_.BroadcastsInDim S4x1x2048 (![] : Fin 0 → Fin S4x1x2048.rank)
  bcast_S_S2048 : S_.BroadcastsInDim S2048 (![] : Fin 0 → Fin S2048.rank)
  bcast_S_S1024x2048 : S_.BroadcastsInDim S1024x2048 (![] : Fin 0 → Fin S1024x2048.rank)
  bcast_S_S2048x2048 : S_.BroadcastsInDim S2048x2048 (![] : Fin 0 → Fin S2048x2048.rank)
  bcast_S_S2048x32 : S_.BroadcastsInDim S2048x32 (![] : Fin 0 → Fin S2048x32.rank)

variable [Facts]

def fn_part1 {F : FTy → Type} [FloatOps F] (main_arg7 : FVec F S4x1x2048 .f32) (main_arg8 : FVec F S1024x2048 .f32) (main_arg9 : FVec F S1024x2048 .f32) (main_arg10 : FVec F S2048x2048 .f32) (main_arg11 : FVec F S2048x32 .f32) (main_v3 : IVec S16384x1024 1) (main_v7 : IVec S16384x1024 1) (main_v10 : IVec S4x4096x2048 1) (main_v13 : IVec S4x1x2048 1) (main_v16 : IVec S2048 1) (main_v17 : FVec F S4x1x2048 .f32) (main_cst_4 : FVec F S_ .f32) : IVec S16384x1024 1 × IVec S16384x1024 1 × IVec S4x4096x2048 1 × IVec S4x1x2048 1 × IVec S2048 1 × IVec S4x1x2048 1 × IVec S4x1x2048 1 × IVec S1024x2048 1 × IVec S1024x2048 1 × IVec S2048x2048 1 × IVec S2048x32 1 :=
  let main_v18 : FVec F S4x1x2048 .f32 := broadcastInDim S4x1x2048 ![] bcast_S_S4x1x2048 main_cst_4
  let main_v19 : IVec S4x1x2048 1 := cmpf .olt main_v17 main_v18
  let main_v20 : FVec F S4x1x2048 .f32 := Host.absf main_arg7
  let main_cst_5 : FVec F S_ .f32 := constant S_ .f32 0x7F800000#32
  let main_v21 : FVec F S4x1x2048 .f32 := broadcastInDim S4x1x2048 ![] bcast_S_S4x1x2048 main_cst_5
  let main_v22 : IVec S4x1x2048 1 := cmpf .olt main_v20 main_v21
  let main_v23 : FVec F S1024x2048 .f32 := Host.absf main_arg8
  let main_cst_6 : FVec F S_ .f32 := constant S_ .f32 0x7F800000#32
  let main_v24 : FVec F S1024x2048 .f32 := broadcastInDim S1024x2048 ![] bcast_S_S1024x2048 main_cst_6
  let main_v25 : IVec S1024x2048 1 := cmpf .olt main_v23 main_v24
  let main_v26 : FVec F S1024x2048 .f32 := Host.absf main_arg9
  let main_cst_7 : FVec F S_ .f32 := constant S_ .f32 0x7F800000#32
  let main_v27 : FVec F S1024x2048 .f32 := broadcastInDim S1024x2048 ![] bcast_S_S1024x2048 main_cst_7
  let main_v28 : IVec S1024x2048 1 := cmpf .olt main_v26 main_v27
  let main_v29 : FVec F S2048x2048 .f32 := Host.absf main_arg10
  let main_cst_8 : FVec F S_ .f32 := constant S_ .f32 0x7F800000#32
  let main_v30 : FVec F S2048x2048 .f32 := broadcastInDim S2048x2048 ![] bcast_S_S2048x2048 main_cst_8
  let main_v31 : IVec S2048x2048 1 := cmpf .olt main_v29 main_v30
  let main_v32 : FVec F S2048x32 .f32 := Host.absf main_arg11
  let main_cst_9 : FVec F S_ .f32 := constant S_ .f32 0x7F800000#32
  let main_v33 : FVec F S2048x32 .f32 := broadcastInDim S2048x32 ![] bcast_S_S2048x32 main_cst_9
  let main_v34 : IVec S2048x32 1 := cmpf .olt main_v32 main_v33
  (main_v3, main_v7, main_v10, main_v13, main_v16, main_v19, main_v22, main_v25, main_v28, main_v31, main_v34)

def fn {F : FTy → Type} [FloatOps F] (main_arg0 : FVec F S16384x1024 .bf16) (main_arg1 : FVec F S16384x1024 .bf16) (main_arg2 : FVec F S16384x11776 .f32) (main_arg3 : FVec F S4x4096x2048 .f32) (main_arg4 : FVec F S4x1x2048 .f32) (main_arg5 : FVec F S2048 .f32) (main_arg6 : FVec F S4x1x2048 .f32) (main_arg7 : FVec F S4x1x2048 .f32) (main_arg8 : FVec F S1024x2048 .f32) (main_arg9 : FVec F S1024x2048 .f32) (main_arg10 : FVec F S2048x2048 .f32) (main_arg11 : FVec F S2048x32 .f32) (main_arg12 : FVec F S32 .f32) : IVec S16384x1024 1 × IVec S16384x1024 1 × IVec S4x4096x2048 1 × IVec S4x1x2048 1 × IVec S2048 1 × IVec S4x1x2048 1 × IVec S4x1x2048 1 × IVec S1024x2048 1 × IVec S1024x2048 1 × IVec S2048x2048 1 × IVec S2048x32 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S4x4096x2048 .f32 := Host.absf main_arg3
  let main_cst_1 : FVec F S_ .f32 := constant S_ .f32 0x7F800000#32
  let main_v9 : FVec F S4x4096x2048 .f32 := broadcastInDim S4x4096x2048 ![] bcast_S_S4x4096x2048 main_cst_1
  let main_v10 : IVec S4x4096x2048 1 := cmpf .olt main_v8 main_v9
  let main_v11 : FVec F S4x1x2048 .f32 := Host.absf main_arg4
  let main_cst_2 : FVec F S_ .f32 := constant S_ .f32 0x7F800000#32
  let main_v12 : FVec F S4x1x2048 .f32 := broadcastInDim S4x1x2048 ![] bcast_S_S4x1x2048 main_cst_2
  let main_v13 : IVec S4x1x2048 1 := cmpf .olt main_v11 main_v12
  let main_v14 : FVec F S2048 .f32 := Host.absf main_arg5
  let main_cst_3 : FVec F S_ .f32 := constant S_ .f32 0x7F800000#32
  let main_v15 : FVec F S2048 .f32 := broadcastInDim S2048 ![] bcast_S_S2048 main_cst_3
  let main_v16 : IVec S2048 1 := cmpf .olt main_v14 main_v15
  let main_v17 : FVec F S4x1x2048 .f32 := Host.absf main_arg6
  let main_cst_4 : FVec F S_ .f32 := constant S_ .f32 0x7F800000#32
  fn_part1 (F := F) main_arg7 main_arg8 main_arg9 main_arg10 main_arg11 main_v3 main_v7 main_v10 main_v13 main_v16 main_v17 main_cst_4
-- ==== Pre_finite_qkv.lean ====
abbrev S16384x11776 : Shape := ⟨2, ![16384, 11776]⟩
abbrev S4x4096 : Shape := ⟨2, ![4, 4096]⟩
abbrev S1024 : Shape := ⟨1, ![1024]⟩
abbrev S16384x3072 : Shape := ⟨2, ![16384, 3072]⟩
abbrev S_ : Shape := ⟨0, ![]⟩

class Facts : Prop where
  slices_S16384x11776_S16384x3072_0_0 : S16384x11776.Slices ![0, 0] S16384x3072
  bcast_S_S16384x3072 : S_.BroadcastsInDim S16384x3072 (![] : Fin 0 → Fin S16384x3072.rank)

variable [Facts]

def fn {F : FTy → Type} [FloatOps F] (main_arg0 : FVec F S16384x11776 .f32) (main_arg1 : IVec S4x4096 32) (main_arg2 : FVec F S1024 .f32) : IVec S16384x3072 1 :=
  let main_v0 : FVec F S16384x3072 .f32 := (extractStridedSlice S16384x3072 ![0, 0] · slices_S16384x11776_S16384x3072_0_0) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  main_v3
-- ==== Kernel.lean ====
abbrev S16384x11776 : Shape := ⟨2, ![16384, 11776]⟩
abbrev S4x4096 : Shape := ⟨2, ![4, 4096]⟩
abbrev S1024 : Shape := ⟨1, ![1024]⟩
abbrev S64 : Shape := ⟨1, ![64]⟩
abbrev S_ : Shape := ⟨0, ![]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S8 : Shape := ⟨1, ![8]⟩
abbrev S8x1x1 : Shape := ⟨3, ![8, 1, 1]⟩
abbrev S8x1x128 : Shape := ⟨3, ![8, 1, 128]⟩
abbrev S1x1024 : Shape := ⟨2, ![1, 1024]⟩
abbrev S16384x1024 : Shape := ⟨2, ![16384, 1024]⟩
abbrev S256x1024 : Shape := ⟨2, ![256, 1024]⟩
abbrev S256x128 : Shape := ⟨2, ![256, 128]⟩
abbrev S8x128x128 : Shape := ⟨3, ![8, 128, 128]⟩
abbrev S256x256 : Shape := ⟨2, ![256, 256]⟩
abbrev S1x1x128 : Shape := ⟨3, ![1, 1, 128]⟩
abbrev S1x256 : Shape := ⟨2, ![1, 256]⟩
abbrev S1x128x128 : Shape := ⟨3, ![1, 128, 128]⟩
abbrev S128x128 : Shape := ⟨2, ![128, 128]⟩
abbrev S128x256 : Shape := ⟨2, ![128, 256]⟩
abbrev S256 : Shape := ⟨1, ![256]⟩
abbrev S256x1 : Shape := ⟨2, ![256, 1]⟩

abbrev nBuf : Space → Nat
  | .hbm => 40
  | .vmem => 17
  | .smem => 0
  | _ => 0

abbrev bufTy : (tb : Table) → Fin (tcTables nBuf tb) → BufTy
  | .hbm, ⟨0, _⟩ => ⟨S16384x11776, .f32⟩
  | .hbm, ⟨1, _⟩ => ⟨S4x4096, .i32⟩
  | .hbm, ⟨2, _⟩ => ⟨S1024, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S1x128, .f32⟩
  | .hbm, ⟨13, _⟩ => ⟨S16384x1, .i32⟩
  | .hbm, ⟨14, _⟩ => ⟨S16384x1, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .i32⟩
  | .hbm, ⟨19, _⟩ => ⟨S16384x128, .f32⟩
  | .hbm, ⟨20, _⟩ => ⟨S16384x128, .f32⟩
  | .hbm, ⟨21, _⟩ => ⟨S_, .i32⟩
  | .hbm, ⟨22, _⟩ => ⟨S16384x128, .i32⟩
  | .hbm, ⟨23, _⟩ => ⟨S16384x128, .i1⟩
  | .hbm, ⟨24, _⟩ => ⟨S16384x128, .f32⟩
  | .hbm, ⟨25, _⟩ => ⟨S16384x128, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8x1x1, .f32⟩
  | .hbm, ⟨37, _⟩ => ⟨S8x1x128, .f32⟩
  | .hbm, ⟨38, _⟩ => ⟨S1x1024, .f32⟩
  | .hbm, ⟨39, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x1x128, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S8x128x128, .f32⟩
  | _, _ => ⟨S16384x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x11776 : Shape := ⟨2, ![16384, 11776]⟩
abbrev S4x4096 : Shape := ⟨2, ![4, 4096]⟩
abbrev S1024 : Shape := ⟨1, ![1024]⟩
abbrev S16384x4096 : Shape := ⟨2, ![16384, 4096]⟩
abbrev S4x4096x4096 : Shape := ⟨3, ![4, 4096, 4096]⟩
abbrev S4x4096x1024 : Shape := ⟨3, ![4, 4096, 1024]⟩
abbrev S4x4096x8x128 : Shape := ⟨4, ![4, 4096, 8, 128]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S4x4096x1x64 : Shape := ⟨4, ![4, 4096, 1, 64]⟩
abbrev S4x4096x8x64 : Shape := ⟨4, ![4, 4096, 8, 64]⟩
abbrev S8 : Shape := ⟨1, ![8]⟩
abbrev S4x32x128x8x128 : Shape := ⟨5, ![4, 32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S4x32x8x128x128 : Shape := ⟨5, ![4, 32, 8, 128, 128]⟩
abbrev S1x1x8x128x128 : Shape := ⟨5, ![1, 1, 8, 128, 128]⟩
abbrev S1x8 : Shape := ⟨2, ![1, 8]⟩
abbrev S128x8 : Shape := ⟨2, ![128, 8]⟩
abbrev S1x1x128x8x1 : Shape := ⟨5, ![1, 1, 128, 8, 1]⟩
abbrev S32x4x8x128x128 : Shape := ⟨5, ![32, 4, 8, 128, 128]⟩
abbrev S4x8x128x128 : Shape := ⟨4, ![4, 8, 128, 128]⟩
abbrev S1x4x8x128x128 : Shape := ⟨5, ![1, 4, 8, 128, 128]⟩
abbrev S1x8x1x1 : Shape := ⟨4, ![1, 8, 1, 1]⟩
abbrev S4x4096x8 : Shape := ⟨3, ![4, 4096, 8]⟩
abbrev S4x4096x8x1 : Shape := ⟨4, ![4, 4096, 8, 1]⟩
abbrev S1x1x1024 : Shape := ⟨3, ![1, 1, 1024]⟩
abbrev S16384x1024 : Shape := ⟨2, ![16384, 1024]⟩

abbrev nBuf : Space → Nat
  | .hbm => 221
  | .vmem => 0
  | .smem => 0
  | _ => 0

abbrev hbmTy0_0 (i : Nat) : BufTy := match i % 128 with
  | 0 => ⟨S16384x11776, .f32⟩
  | 1 => ⟨S4x4096, .i32⟩
  | 2 => ⟨S1024, .f32⟩
  | 3 => ⟨S16384x4096, .f32⟩
  | 4 => ⟨S4x4096x4096, .f32⟩
  | 5 => ⟨S4x4096x1024, .f32⟩
  | 6 => ⟨S4x4096x1024, .f32⟩
  | 7 => ⟨S4x4096x1024, .f32⟩
  | 8 => ⟨S4x4096x1024, .f32⟩
  | 9 => ⟨S4x4096x8x128, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S4x4096, .f32⟩
  | 19 => ⟨S4x4096x1, .f32⟩
  | 20 => ⟨S1x1x64, .f32⟩
  | 21 => ⟨S4x4096x64, .f32⟩
  | 22 => ⟨S4x4096x64, .f32⟩
  | 23 => ⟨S4x4096x64, .f32⟩
  | 24 => ⟨S4x4096x64, .f32⟩
  | 25 => ⟨S4x4096x1x64, .f32⟩
  | 26 => ⟨S4x4096x64, .f32⟩
  | 27 => ⟨S4x4096x1x64, .f32⟩
  | 28 => ⟨S4x4096x8x64, .f32⟩
  | 29 => ⟨S4x4096x8x64, .f32⟩
  | 30 => ⟨S4x4096x8x64, .f32⟩
  | 31 => ⟨S4x4096x8x64, .f32⟩
  | 32 => ⟨S4x4096x8x64, .f32⟩
  | 33 => ⟨S4x4096x8x64, .f32⟩
  | 34 => ⟨S4x4096x8x64, .f32⟩
  | 35 => ⟨S4x4096x8x64, .f32⟩
  | 36 => ⟨S4x4096x8x64, .f32⟩
  | 37 => ⟨S4x4096x8x64, .f32⟩
  | 38 => ⟨S4x4096x8x64, .f32⟩
  | 39 => ⟨S4x4096x8x64, .f32⟩
  | 40 => ⟨S4x4096x8x128, .f32⟩
  | 41 => ⟨S4x4096x8x128, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S4x4096, .f32⟩
  | 51 => ⟨S4x4096x1, .f32⟩
  | 52 => ⟨S1x1x64, .f32⟩
  | 53 => ⟨S4x4096x64, .f32⟩
  | 54 => ⟨S4x4096x64, .f32⟩
  | 55 => ⟨S4x4096x64, .f32⟩
  | 56 => ⟨S4x4096x64, .f32⟩
  | 57 => ⟨S4x4096x1x64, .f32⟩
  | 58 => ⟨S4x4096x64, .f32⟩
  | 59 => ⟨S4x4096x1x64, .f32⟩
  | 60 => ⟨S4x4096x8x64, .f32⟩
  | 61 => ⟨S4x4096x8x64, .f32⟩
  | 62 => ⟨S4x4096x8x64, .f32⟩
  | 63 => ⟨S4x4096x8x64, .f32⟩
  | 64 => ⟨S4x4096x8x64, .f32⟩
  | 65 => ⟨S4x4096x8x64, .f32⟩
  | 66 => ⟨S4x4096x8x64, .f32⟩
  | 67 => ⟨S4x4096x8x64, .f32⟩
  | 68 => ⟨S4x4096x8x64, .f32⟩
  | 69 => ⟨S4x4096x8x64, .f32⟩
  | 70 => ⟨S4x4096x8x64, .f32⟩
  | 71 => ⟨S4x4096x8x64, .f32⟩
  | 72 => ⟨S4x4096x8x128, .f32⟩
  | 73 => ⟨S_, .f32⟩
  | 74 => ⟨S4x4096x8x128, .f32⟩
  | 75 => ⟨S4x4096x8x128, .f32⟩
  | 76 => ⟨S4x4096x8x128, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S8, .f32⟩
  | 87 => ⟨S4x32x128x8x128, .f32⟩
  | 88 => ⟨S4x32x128x8x128, .f32⟩
  | 89 => ⟨S4x32x128x8x128, .f32⟩
  | 90 => ⟨S128, .f32⟩
  | 91 => ⟨S128x1, .f32⟩
  | 92 => ⟨S1x128, .f32⟩
  | 93 => ⟨S128x128, .f32⟩
  | 94 => ⟨S128x128, .f32⟩
  | 95 => ⟨S128x128, .f32⟩
  | 96 => ⟨S_, .f32⟩
  | 97 => ⟨S128x128, .f32⟩
  | 98 => ⟨S128x128, .i1⟩
  | 99 => ⟨S_, .f32⟩
  | 100 => ⟨S128x128, .f32⟩
  | 101 => ⟨S128x128, .f32⟩
  | 102 => ⟨S1x128x128, .f32⟩
  | 103 => ⟨S8x1x1, .f32⟩
  | 104 => ⟨S8x128x128, .f32⟩
  | 105 => ⟨S8x128x128, .f32⟩
  | 106 => ⟨S8x128x128, .f32⟩
  | 107 => ⟨S8x128x128, .f32⟩
  | 108 => ⟨S_, .f32⟩
  | 109 => ⟨S_, .f32⟩
  | 110 => ⟨S8x128x128, .i1⟩
  | 111 => ⟨S8x128x128, .f32⟩
  | 112 => ⟨S8x128x128, .f32⟩
  | 113 => ⟨S4x32x8x128x128, .f32⟩
  | 114 => ⟨S1x1x8x128x128, .f32⟩
  | 115 => ⟨S4x32x8x128x128, .f32⟩
  | 116 => ⟨S4x32x8x128x128, .f32⟩
  | 117 => ⟨S4x32x8x128x128, .f32⟩
  | 118 => ⟨S4x32x128x8x128, .f32⟩
  | 119 => ⟨S_, .f32⟩
  | 120 => ⟨S128, .f32⟩
  | 121 => ⟨S128, .f32⟩
  | 122 => ⟨S128x1, .f32⟩
  | 123 => ⟨S1x8, .f32⟩
  | 124 => ⟨S128x8, .f32⟩
  | 125 => ⟨S128x8, .f32⟩
  | 126 => ⟨S128x8, .f32⟩
  | 127 => ⟨S128x8, .f32⟩
  | _ => ⟨S16384x11776, .f32⟩

abbrev hbmTy0_1 (i : Nat) : BufTy := match i % 128 with
  | 0 => ⟨S1x1x128x8x1, .f32⟩
  | 1 => ⟨S4x32x128x8x128, .f32⟩
  | 2 => ⟨S4x32x128x8x128, .f32⟩
  | 3 => ⟨S32x4x8x128x128, .f32⟩
  | 4 => ⟨S_, .f32⟩
  | 5 => ⟨S8, .f32⟩
  | 6 => ⟨S8, .f32⟩
  | 7 => ⟨S8, .f32⟩
  | 8 => ⟨S_, .f32⟩
  | 9 => ⟨S4x8x128x128, .f32⟩
  | 10 => ⟨S_, .f32⟩
  | 11 => ⟨S32x4x8x128x128, .f32⟩
  | 12 => ⟨S_, .i32⟩
  | 13 => ⟨S32x4x8x128x128, .f32⟩
  | 14 => ⟨S8, .f32⟩
  | 15 => ⟨S_, .i32⟩
  | 16 => ⟨S4x8x128x128, .f32⟩
  | 17 => ⟨S32x4x8x128x128, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S1x4x8x128x128, .f32⟩
  | 25 => ⟨S4x8x128x128, .f32⟩
  | 26 => ⟨S1x8x1x1, .f32⟩
  | 27 => ⟨S4x8x128x128, .f32⟩
  | 28 => ⟨S4x8x128x128, .f32⟩
  | 29 => ⟨S4x8x128x128, .f32⟩
  | 30 => ⟨S1x4x8x128x128, .f32⟩
  | 31 => ⟨S_, .i32⟩
  | 32 => ⟨S_, .i32⟩
  | 33 => ⟨S_, .i32⟩
  | 34 => ⟨S_, .i32⟩
  | 35 => ⟨S32x4x8x128x128, .f32⟩
  | 36 => ⟨S_, .i32⟩
  | 37 => ⟨S_, .i32⟩
  | 38 => ⟨S_, .f32⟩
  | 39 => ⟨S128, .f32⟩
  | 40 => ⟨S128, .f32⟩
  | 41 => ⟨S128x1, .f32⟩
  | 42 => ⟨S1x8, .f32⟩
  | 43 => ⟨S128x8, .f32⟩
  | 44 => ⟨S128x8, .f32⟩
  | 45 => ⟨S128x8, .f32⟩
  | 46 => ⟨S128x8, .f32⟩
  | 47 => ⟨S4x32x8x128x128, .f32⟩
  | 48 => ⟨S4x32x128x8x128, .f32⟩
  | 49 => ⟨S1x1x128x8x1, .f32⟩
  | 50 => ⟨S4x32x128x8x128, .f32⟩
  | 51 => ⟨S4x32x128x8x128, .f32⟩
  | 52 => ⟨S4x32x128x8x128, .f32⟩
  | 53 => ⟨S4x4096x8x128, .f32⟩
  | 54 => ⟨S_, .f32⟩
  | 55 => ⟨S4x4096x8, .f32⟩
  | 56 => ⟨S4x4096x8x1, .f32⟩
  | 57 => ⟨S_, .f32⟩
  | 58 => ⟨S4x4096x8x1, .f32⟩
  | 59 => ⟨S4x4096x8x1, .f32⟩
  | 60 => ⟨S4x4096x8x128, .f32⟩
  | 61 => ⟨S4x4096x8x128, .f32⟩
  | 62 => ⟨S4x4096x8x128, .f32⟩
  | 63 => ⟨S_, .f32⟩
  | 64 => ⟨S4x4096x8, .f32⟩
  | 65 => ⟨S4x4096x8x1, .f32⟩
  | 66 => ⟨S_, .f32⟩
  | 67 => ⟨S4x4096x8x1, .f32⟩
  | 68 => ⟨S4x4096x8x1, .f32⟩
  | 69 => ⟨S4x4096x8x128, .f32⟩
  | 70 => ⟨S4x4096x8x128, .f32⟩
  | 71 => ⟨S_, .f32⟩
  | 72 => ⟨S4x4096x8x1, .f32⟩
  | 73 => ⟨S4x4096x8x1, .f32⟩
  | 74 => ⟨S4x4096x8x1, .f32⟩
  | 75 => ⟨S4x4096x8x128, .f32⟩
  | 76 => ⟨S4x4096x8x128, .f32⟩
  | 77 => ⟨S4x4096x1024, .f32⟩
  | 78 => ⟨S1x1x1024, .f32⟩
  | 79 => ⟨S4x4096x1024, .f32⟩
  | 80 => ⟨S4x4096x1024, .f32⟩
  | 81 => ⟨S4x4096x1024, .f32⟩
  | 82 => ⟨S4x4096x1024, .f32⟩
  | 83 => ⟨S_, .f32⟩
  | 84 => ⟨S4x4096x1024, .f32⟩
  | 85 => ⟨S4x4096x1024, .f32⟩
  | 86 => ⟨S_, .f32⟩
  | 87 => ⟨S4x4096x1024, .f32⟩
  | 88 => ⟨S4x4096x1024, .f32⟩
  | 89 => ⟨S4x4096x1024, .f32⟩
  | 90 => ⟨S4x4096x1024, .f32⟩
  | 91 => ⟨S16384x1024, .f32⟩
  | 92 => ⟨S16384x1024, .bf16⟩
  | _ => ⟨S16384x11776, .f32⟩

abbrev hbmTy (i : Nat) : BufTy := match i / 128 with
  | 0 => hbmTy0_0 i
  | 1 => hbmTy0_1 i
  | _ => ⟨S16384x11776, .f32⟩

abbrev bufTy : (tb : Table) → Fin (tcTables nBuf tb) → BufTy
  | .hbm, ⟨i, _⟩ => hbmTy i
  | _, _ => ⟨S16384x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_3 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_cst_7 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_cst_9 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_10 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_11 : Ref sig .tc := ⟨.hbm, 136, rfl⟩
abbrev main_v118 : Ref sig .tc := ⟨.hbm, 137, rfl⟩
abbrev main_cst_12 : Ref sig .tc := ⟨.hbm, 138, rfl⟩
abbrev main_v119 : Ref sig .tc := ⟨.hbm, 139, rfl⟩
abbrev main_c : Ref sig .tc := ⟨.hbm, 140, rfl⟩
abbrev main_v120_0 : Ref sig .tc := ⟨.hbm, 141, rfl⟩
abbrev main_v120_1 : Ref sig .tc := ⟨.hbm, 142, rfl⟩
abbrev main_v120_2 : Ref sig .tc := ⟨.hbm, 143, rfl⟩
abbrev main_v120_3 : Ref sig .tc := ⟨.hbm, 144, rfl⟩
abbrev main_v120_4 : Ref sig .tc := ⟨.hbm, 145, rfl⟩
abbrev main_while0c_c_23 : Ref sig .tc := ⟨.hbm, 146, rfl⟩
abbrev main_while0c_v162 : Ref sig .tc := ⟨.hbm, 147, rfl⟩
abbrev main_while0b_call1_c : Ref sig .tc := ⟨.hbm, 148, rfl⟩
abbrev main_while0b_call1_c_0 : Ref sig .tc := ⟨.hbm, 149, rfl⟩
abbrev main_while0b_call1_c_1 : Ref sig .tc := ⟨.hbm, 150, rfl⟩
abbrev main_while0b_call1_c_2 : Ref sig .tc := ⟨.hbm, 151, rfl⟩
abbrev main_while0b_call1_v0 : Ref sig .tc := ⟨.hbm, 152, rfl⟩
abbrev main_while0b_v162 : Ref sig .tc := ⟨.hbm, 153, rfl⟩
abbrev main_while0b_v163 : Ref sig .tc := ⟨.hbm, 154, rfl⟩
abbrev main_while0b_v164 : Ref sig .tc := ⟨.hbm, 155, rfl⟩
abbrev main_while0b_v165 : Ref sig .tc := ⟨.hbm, 156, rfl⟩
abbrev main_while0b_v166 : Ref sig .tc := ⟨.hbm, 157, rfl⟩
abbrev main_while0b_call2_v0 : Ref sig .tc := ⟨.hbm, 158, rfl⟩
abbrev main_while0b_call2_c : Ref sig .tc := ⟨.hbm, 159, rfl⟩
abbrev main_while0b_call2_c_0 : Ref sig .tc := ⟨.hbm, 160, rfl⟩
abbrev main_while0b_call2_c_1 : Ref sig .tc := ⟨.hbm, 161, rfl⟩
abbrev main_while0b_call2_c_2 : Ref sig .tc := ⟨.hbm, 162, rfl⟩
abbrev main_while0b_v167 : Ref sig .tc := ⟨.hbm, 163, rfl⟩
abbrev main_while0b_c_23 : Ref sig .tc := ⟨.hbm, 164, rfl⟩
abbrev main_while0b_v168 : Ref sig .tc := ⟨.hbm, 165, rfl⟩
abbrev main_cst_13 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_14 : Ref sig .tc := ⟨.hbm, 182, rfl⟩
abbrev main_v136 : Ref sig .tc := ⟨.hbm, 183, rfl⟩
abbrev main_v137 : Ref sig .tc := ⟨.hbm, 184, rfl⟩
abbrev main_cst_15 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_16 : Ref sig .tc := ⟨.hbm, 191, rfl⟩
abbrev main_v143 : Ref sig .tc := ⟨.hbm, 192, rfl⟩
abbrev main_v144 : Ref sig .tc := ⟨.hbm, 193, rfl⟩
abbrev main_cst_17 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_18 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_call3_v0 : Ref sig .tc := ⟨.hbm, 209, rfl⟩
abbrev main_call3_v1 : Ref sig .tc := ⟨.hbm, 210, rfl⟩
abbrev main_call3_cst : Ref sig .tc := ⟨.hbm, 211, rfl⟩
abbrev main_call3_v2 : Ref sig .tc := ⟨.hbm, 212, rfl⟩
abbrev main_call3_v3 : Ref sig .tc := ⟨.hbm, 213, rfl⟩
abbrev main_call3_cst_0 : Ref sig .tc := ⟨.hbm, 214, rfl⟩
abbrev main_call3_v4 : Ref sig .tc := ⟨.hbm, 215, rfl⟩
abbrev main_call3_v5 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x2048 : Shape := ⟨3, ![4, 4096, 2048]⟩
abbrev S2048 : Shape := ⟨1, ![2048]⟩
abbrev S4x1x2048 : Shape := ⟨3, ![4, 1, 2048]⟩
abbrev S2048x11552 : Shape := ⟨2, ![2048, 11552]⟩
abbrev S2048x32 : Shape := ⟨2, ![2048, 32]⟩
abbrev S2048x3360 : Shape := ⟨2, ![2048, 3360]⟩
abbrev S2048x4096 : Shape := ⟨2, ![2048, 4096]⟩
abbrev S2048x3072 : Shape := ⟨2, ![2048, 3072]⟩
abbrev S2048x64 : Shape := ⟨2, ![2048, 64]⟩
abbrev S2048x160 : Shape := ⟨2, ![2048, 160]⟩
abbrev S_ : Shape := ⟨0, ![]⟩
abbrev S2048x256 : Shape := ⟨2, ![2048, 256]⟩
abbrev S2048x1 : Shape := ⟨2, ![2048, 1]⟩
abbrev S2048x128 : Shape := ⟨2, ![2048, 128]⟩
abbrev S2048x11776 : Shape := ⟨2, ![2048, 11776]⟩
abbrev S16384x2048 : Shape := ⟨2, ![16384, 2048]⟩
abbrev S1x2048 : Shape := ⟨2, ![1, 2048]⟩
abbrev S16384x11776 : Shape := ⟨2, ![16384, 11776]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 33
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x11552, .f32⟩
  | .hbm, ⟨5, _⟩ => ⟨S2048, .f32⟩
  | .hbm, ⟨6, _⟩ => ⟨S2048x32, .f32⟩
  | .hbm, ⟨7, _⟩ => ⟨S2048x3360, .f32⟩
  | .hbm, ⟨8, _⟩ => ⟨S2048x4096, .f32⟩
  | .hbm, ⟨9, _⟩ => ⟨S2048x4096, .f32⟩
  | .hbm, ⟨10, _⟩ => ⟨S2048x3072, .f32⟩
  | .hbm, ⟨11, _⟩ => ⟨S2048x64, .f32⟩
  | .hbm, ⟨12, _⟩ => ⟨S2048x64, .f32⟩
  | .hbm, ⟨13, _⟩ => ⟨S2048x160, .f32⟩
  | .hbm, ⟨14, _⟩ => ⟨S_, .i32⟩
  | .hbm, ⟨15, _⟩ => ⟨S_, .f32⟩
  | .hbm, ⟨16, _⟩ => ⟨S2048x256, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S_, .f32⟩
  | .hbm, ⟨26, _⟩ => ⟨S2048x64, .f32⟩
  | .hbm, ⟨27, _⟩ => ⟨S2048x128, .f32⟩
  | .hbm, ⟨28, _⟩ => ⟨S2048x11776, .f32⟩
  | .hbm, ⟨29, _⟩ => ⟨S2048x11776, .bf16⟩
  | .hbm, ⟨30, _⟩ => ⟨S16384x2048, .f32⟩
  | .hbm, ⟨31, _⟩ => ⟨S1x2048, .f32⟩
  | .hbm, ⟨32, _⟩ => ⟨S16384x11776, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x2048 : Shape := ⟨3, ![4, 4096, 2048]⟩
abbrev S2048 : Shape := ⟨1, ![2048]⟩
abbrev S4x1x2048 : Shape := ⟨3, ![4, 1, 2048]⟩
abbrev S2048x11552 : Shape := ⟨2, ![2048, 11552]⟩
abbrev S2048x32 : Shape := ⟨2, ![2048, 32]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11552 : Shape := ⟨3, ![4, 4096, 11552]⟩
abbrev S16384x11552 : Shape := ⟨2, ![16384, 11552]⟩
abbrev S16384x3360 : Shape := ⟨2, ![16384, 3360]⟩
abbrev S16384x4096 : Shape := ⟨2, ![16384, 4096]⟩
abbrev S16384x3072 : Shape := ⟨2, ![16384, 3072]⟩
abbrev S16384x128 : Shape := ⟨2, ![16384, 128]⟩
abbrev S16384x160 : Shape := ⟨2, ![16384, 160]⟩
abbrev S4x4096x32 : Shape := ⟨3, ![4, 4096, 32]⟩
abbrev S16384x32 : Shape := ⟨2, ![16384, 32]⟩
abbrev S16384x96 : Shape := ⟨2, ![16384, 96]⟩
abbrev S16384x64 : Shape := ⟨2, ![16384, 64]⟩
abbrev S16384x11776 : Shape := ⟨2, ![16384, 11776]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x11552, .f32⟩
  | .hbm, ⟨5, _⟩ => ⟨S2048, .f32⟩
  | .hbm, ⟨6, _⟩ => ⟨S2048x32, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x11552, .f32⟩
  | .hbm, ⟨31, _⟩ => ⟨S16384x11552, .f32⟩
  | .hbm, ⟨32, _⟩ => ⟨S16384x3360, .f32⟩
  | .hbm, ⟨33, _⟩ => ⟨S16384x4096, .f32⟩
  | .hbm, ⟨34, _⟩ => ⟨S16384x4096, .f32⟩
  | .hbm, ⟨35, _⟩ => ⟨S16384x3072, .f32⟩
  | .hbm, ⟨36, _⟩ => ⟨S16384x128, .f32⟩
  | .hbm, ⟨37, _⟩ => ⟨S16384x160, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S1x1x2048, .f32⟩
  | .hbm, ⟨42, _⟩ => ⟨S4x4096x2048, .f32⟩
  | .hbm, ⟨43, _⟩ => ⟨S4x4096x2048, .f32⟩
  | .hbm, ⟨44, _⟩ => ⟨S4x4096x32, .f32⟩
  | .hbm, ⟨45, _⟩ => ⟨S16384x32, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S4x4096x32, .f32⟩
  | .hbm, ⟨50, _⟩ => ⟨S16384x32, .f32⟩
  | .hbm, ⟨51, _⟩ => ⟨S_, .f32⟩
  | .hbm, ⟨52, _⟩ => ⟨S16384x96, .f32⟩
  | .hbm, ⟨53, _⟩ => ⟨S_, .f32⟩
  | .hbm, ⟨54, _⟩ => ⟨S16384x64, .f32⟩
  | .hbm, ⟨55, _⟩ => ⟨S16384x11776, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S16384x1024 : Shape := ⟨2, ![16384, 1024]⟩
abbrev S16384x11776 : Shape := ⟨2, ![16384, 11776]⟩
abbrev S4x4096x2048 : Shape := ⟨3, ![4, 4096, 2048]⟩
abbrev S4x1x2048 : Shape := ⟨3, ![4, 1, 2048]⟩
abbrev S2048 : Shape := ⟨1, ![2048]⟩
abbrev S1024x2048 : Shape := ⟨2, ![1024, 2048]⟩
abbrev S2048x2048 : Shape := ⟨2, ![2048, 2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S16384x2048 : Shape := ⟨2, ![16384, 2048]⟩
abbrev S1x2048 : Shape := ⟨2, ![1, 2048]⟩
abbrev S16384x128 : Shape := ⟨2, ![16384, 128]⟩
abbrev S256x1024 : Shape := ⟨2, ![256, 1024]⟩
abbrev S256x2048 : Shape := ⟨2, ![256, 2048]⟩
abbrev S1x1x2048 : Shape := ⟨3, ![1, 1, 2048]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x11776, .f32⟩
  | .hbm, ⟨3, _⟩ => ⟨S4x4096x2048, .f32⟩
  | .hbm, ⟨4, _⟩ => ⟨S4x1x2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048x32, .f32⟩
  | .hbm, ⟨12, _⟩ => ⟨S32, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x128, .bf16⟩
  | .hbm, ⟨17, _⟩ => ⟨S2048x128, .f32⟩
  | .hbm, ⟨18, _⟩ => ⟨S2048x128, .f32⟩
  | .hbm, ⟨19, _⟩ => ⟨S2048x128, .bf16⟩
  | .hbm, ⟨20, _⟩ => ⟨S_, .f32⟩
  | .hbm, ⟨21, _⟩ => ⟨S96, .f32⟩
  | .hbm, ⟨22, _⟩ => ⟨S128, .f32⟩
  | .hbm, ⟨23, _⟩ => ⟨S1x128, .f32⟩
  | .hbm, ⟨24, _⟩ => ⟨S16384x2048, .f32⟩
  | .hbm, ⟨25, _⟩ => ⟨S1x2048, .f32⟩
  | .hbm, ⟨26, _⟩ => ⟨S1024x2048, .bf16⟩
  | .hbm, ⟨27, _⟩ => ⟨S1024x2048, .bf16⟩
  | .hbm, ⟨28, _⟩ => ⟨S2048x2048, .bf16⟩
  | .hbm, ⟨29, _⟩ => ⟨S16384x2048, .f32⟩
  | .hbm, ⟨30, _⟩ => ⟨S16384x2048, .f32⟩
  | .hbm, ⟨31, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1024x2048, .bf16⟩
  | .local _ .vmem, ⟨18, _⟩ => ⟨S1024x2048, .bf16⟩
  | .local _ .vmem, ⟨19, _⟩ => ⟨S2048x2048, .bf16⟩
  | .local _ .vmem, ⟨20, _⟩ => ⟨S2048x128, .bf16⟩
  | .local _ .vmem, ⟨21, _⟩ => ⟨S2048x128, .bf16⟩
  | .local _ .vmem, ⟨22, _⟩ => ⟨S1x128, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x128, .f32⟩
  | .local _ .vmem, ⟨28, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16384x1024 : Shape := ⟨2, ![16384, 1024]⟩
abbrev S16384x11776 : Shape := ⟨2, ![16384, 11776]⟩
abbrev S4x4096x2048 : Shape := ⟨3, ![4, 4096, 2048]⟩
abbrev S4x1x2048 : Shape := ⟨3, ![4, 1, 2048]⟩
abbrev S2048 : Shape := ⟨1, ![2048]⟩
abbrev S1024x2048 : Shape := ⟨2, ![1024, 2048]⟩
abbrev S2048x2048 : Shape := ⟨2, ![2048, 2048]⟩
abbrev S2048x32 : Shape := ⟨2, ![2048, 32]⟩
abbrev S32 : Shape := ⟨1, ![32]⟩
abbrev S4x4096x1024 : Shape := ⟨3, ![4, 4096, 1024]⟩
abbrev S16384x4096 : Shape := ⟨2, ![16384, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩
abbrev S16384x32 : Shape := ⟨2, ![16384, 32]⟩
abbrev S1x32 : Shape := ⟨2, ![1, 32]⟩
abbrev S16384x96 : Shape := ⟨2, ![16384, 96]⟩
abbrev S16384x128 : Shape := ⟨2, ![16384, 128]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x11776, .f32⟩
  | .hbm, ⟨3, _⟩ => ⟨S4x4096x2048, .f32⟩
  | .hbm, ⟨4, _⟩ => ⟨S4x1x2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048x32, .f32⟩
  | .hbm, ⟨12, _⟩ => ⟨S32, .f32⟩
  | .hbm, ⟨13, _⟩ => ⟨S16384x1024, .f32⟩
  | .hbm, ⟨14, _⟩ => ⟨S4x4096x1024, .f32⟩
  | .hbm, ⟨15, _⟩ => ⟨S16384x1024, .f32⟩
  | .hbm, ⟨16, _⟩ => ⟨S4x4096x1024, .f32⟩
  | .hbm, ⟨17, _⟩ => ⟨S16384x4096, .f32⟩
  | .hbm, ⟨18, _⟩ => ⟨S4x4096x4096, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096x2048, .f32⟩
  | .hbm, ⟨35, _⟩ => ⟨S4x4096x2048, .f32⟩
  | .hbm, ⟨36, _⟩ => ⟨S_, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x2048, .f32⟩
  | .hbm, ⟨58, _⟩ => ⟨S4x4096x2048, .f32⟩
  | .hbm, ⟨59, _⟩ => ⟨S1x1x2048, .f32⟩
  | .hbm, ⟨60, _⟩ => ⟨S4x4096x2048, .f32⟩
  | .hbm, ⟨61, _⟩ => ⟨S4x4096x2048, .f32⟩
  | .hbm, ⟨62, _⟩ => ⟨S_, .f32⟩
  | .hbm, ⟨63, _⟩ => ⟨S4x1x2048, .f32⟩
  | .hbm, ⟨64, _⟩ => ⟨S4x1x2048, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S16384x2048, .f32⟩
  | .hbm, ⟨70, _⟩ => ⟨S16384x32, .f32⟩
  | .hbm, ⟨71, _⟩ => ⟨S1x32, .f32⟩
  | .hbm, ⟨72, _⟩ => ⟨S16384x32, .f32⟩
  | .hbm, ⟨73, _⟩ => ⟨S16384x32, .f32⟩
  | .hbm, ⟨74, _⟩ => ⟨S_, .f32⟩
  | .hbm, ⟨75, _⟩ => ⟨S16384x96, .f32⟩
  | .hbm, ⟨76, _⟩ => ⟨S16384x128, .f32⟩
  | .hbm, ⟨77, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Kernel4.lean ====
abbrev S4x4096 : Shape := ⟨2, ![4, 4096]⟩
abbrev S64 : Shape := ⟨1, ![64]⟩
abbrev S_ : Shape := ⟨0, ![]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩

abbrev nBuf : Space → Nat
  | .hbm => 14
  | .vmem => 7
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x128, .f32⟩
  | .hbm, ⟨11, _⟩ => ⟨S16384x1, .i32⟩
  | .hbm, ⟨12, _⟩ => ⟨S16384x128, .f32⟩
  | .hbm, ⟨13, _⟩ => ⟨S16384x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x4096 : Shape := ⟨2, ![4, 4096]⟩
abbrev S64 : Shape := ⟨1, ![64]⟩
abbrev S_ : Shape := ⟨0, ![]⟩
abbrev S4x4096x1 : Shape := ⟨3, ![4, 4096, 1]⟩
abbrev S1x1x64 : Shape := ⟨3, ![1, 1, 64]⟩
abbrev S4x4096x64 : Shape := ⟨3, ![4, 4096, 64]⟩
abbrev S16384x64 : Shape := ⟨2, ![16384, 64]⟩
abbrev S16384x128 : Shape := ⟨2, ![16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S4x4096, .f32⟩
  | .hbm, ⟨10, _⟩ => ⟨S4x4096x1, .f32⟩
  | .hbm, ⟨11, _⟩ => ⟨S1x1x64, .f32⟩
  | .hbm, ⟨12, _⟩ => ⟨S4x4096x64, .f32⟩
  | .hbm, ⟨13, _⟩ => ⟨S4x4096x64, .f32⟩
  | .hbm, ⟨14, _⟩ => ⟨S4x4096x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x128, .f32⟩
  | .hbm, ⟨19, _⟩ => ⟨S16384x64, .f32⟩
  | .hbm, ⟨20, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel5.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1 : Shape := ⟨1, ![1]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S4x4x12288 : Shape := ⟨3, ![4, 4, 12288]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S4x1x12288, .f32⟩
  | .hbm, ⟨9, _⟩ => ⟨S4x8x12288, .f32⟩
  | .hbm, ⟨10, _⟩ => ⟨S4x4x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x2048 : Shape := ⟨2, ![4, 2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x4x12288 : Shape := ⟨3, ![1, 4, 12288]⟩
abbrev S4x4x12288 : Shape := ⟨3, ![4, 4, 12288]⟩

abbrev nBuf : Space → Nat
  | .hbm => 49
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x12288, .f32⟩
  | .hbm, ⟨2, _⟩ => ⟨S4x12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048x12288, .f32⟩
  | .hbm, ⟨13, _⟩ => ⟨S2048x12288, .f32⟩
  | .hbm, ⟨14, _⟩ => ⟨S4x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S4x12288, .f32⟩
  | .hbm, ⟨19, _⟩ => ⟨S4x12288, .f32⟩
  | .hbm, ⟨20, _⟩ => ⟨S1x2048x12288, .f32⟩
  | .hbm, ⟨21, _⟩ => ⟨S2048x12288, .f32⟩
  | .hbm, ⟨22, _⟩ => ⟨S4x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S4x12288, .f32⟩
  | .hbm, ⟨27, _⟩ => ⟨S4x12288, .f32⟩
  | .hbm, ⟨28, _⟩ => ⟨S1x2048x12288, .f32⟩
  | .hbm, ⟨29, _⟩ => ⟨S2048x12288, .f32⟩
  | .hbm, ⟨30, _⟩ => ⟨S4x12288, .f32⟩
  | .hbm, ⟨31, _⟩ => ⟨S1x12288, .f32⟩
  | .hbm, ⟨32, _⟩ => ⟨S12288, .f32⟩
  | .hbm, ⟨33, _⟩ => ⟨S1x12288, .f32⟩
  | .hbm, ⟨34, _⟩ => ⟨S4x12288, .f32⟩
  | .hbm, ⟨35, _⟩ => ⟨S4x12288, .f32⟩
  | .hbm, ⟨36, _⟩ => ⟨S1x2048x12288, .f32⟩
  | .hbm, ⟨37, _⟩ => ⟨S2048x12288, .f32⟩
  | .hbm, ⟨38, _⟩ => ⟨S4x12288, .f32⟩
  | .hbm, ⟨39, _⟩ => ⟨S1x12288, .f32⟩
  | .hbm, ⟨40, _⟩ => ⟨S12288, .f32⟩
  | .hbm, ⟨41, _⟩ => ⟨S1x12288, .f32⟩
  | .hbm, ⟨42, _⟩ => ⟨S4x12288, .f32⟩
  | .hbm, ⟨43, _⟩ => ⟨S4x12288, .f32⟩
  | .hbm, ⟨44, _⟩ => ⟨S1x4x12288, .f32⟩
  | .hbm, ⟨45, _⟩ => ⟨S1x4x12288, .f32⟩
  | .hbm, ⟨46, _⟩ => ⟨S1x4x12288, .f32⟩
  | .hbm, ⟨47, _⟩ => ⟨S1x4x12288, .f32⟩
  | .hbm, ⟨48, _⟩ => ⟨S4x4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel6.lean ====
abbrev S16384x32 : Shape := ⟨2, ![16384, 32]⟩
abbrev S_ : Shape := ⟨0, ![]⟩
abbrev S16384x96 : Shape := ⟨2, ![16384, 96]⟩
abbrev S16384x128 : Shape := ⟨2, ![16384, 128]⟩
abbrev S8x128 : Shape := ⟨2, ![8, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1x128 : Shape := ⟨2, ![1, 128]⟩
abbrev S16384x4 : Shape := ⟨2, ![16384, 4]⟩
abbrev S1x32 : Shape := ⟨2, ![1, 32]⟩
abbrev S32 : Shape := ⟨1, ![32]⟩

abbrev nBuf : Space → Nat
  | .hbm => 11
  | .vmem => 8
  | .smem => 0
  | _ => 0

abbrev bufTy : (tb : Table) → Fin (tcTables nBuf tb) → BufTy
  | .hbm, ⟨0, _⟩ => ⟨S16384x32, .f32⟩
  | .hbm, ⟨1, _⟩ => ⟨S_, .f32⟩
  | .hbm, ⟨2, _⟩ => ⟨S16384x96, .f32⟩
  | .hbm, ⟨3, _⟩ => ⟨S16384x128, .f32⟩
  | .hbm, ⟨4, _⟩ => ⟨S16384x128, .i32⟩
  | .hbm, ⟨5, _⟩ => ⟨S16384x128, .f32⟩
  | .hbm, ⟨6, _⟩ => ⟨S8x128, .i32⟩
  | .hbm, ⟨7, _⟩ => ⟨S16384x4, .i32⟩
  | .hbm, ⟨8, _⟩ => ⟨S16384x4, .f32⟩
  | .hbm, ⟨9, _⟩ => ⟨S1x32, .i32⟩
  | .hbm, ⟨10, _⟩ => ⟨S32, .i32⟩
  | .local _ .vmem, ⟨0, _⟩ => ⟨S256x128, .f32⟩
  | .local _ .vmem, ⟨1, _⟩ => ⟨S256x128, .f32⟩
  | .local _ .vmem, ⟨2, _⟩ => ⟨S256x128, .i32⟩
  | .local _ .vmem, ⟨3, _⟩ => ⟨S256x128, .i32⟩
  | .local _ .vmem, ⟨4, _⟩ => ⟨S256x128, .f32⟩
  | .local _ .vmem, ⟨5, _⟩ => ⟨S256x128, .f32⟩
  | .local _ .vmem, ⟨6, _⟩ => ⟨S8x128, .i32⟩
  | .local _ .vmem, ⟨7, _⟩ => ⟨S8x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference6Ideal.lean ====
abbrev S16384x32 : Shape := ⟨2, ![16384, 32]⟩
abbrev S16384x4 : Shape := ⟨2, ![16384, 4]⟩
abbrev S_ : Shape := ⟨0, ![]⟩
abbrev S16384 : Shape := ⟨1, ![16384]⟩
abbrev S16384x1 : Shape := ⟨2, ![16384, 1]⟩
abbrev S65536 : Shape := ⟨1, ![65536]⟩
abbrev S32 : Shape := ⟨1, ![32]⟩
abbrev S65536x1 : Shape := ⟨2, ![65536, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x4, .f32⟩
  | .hbm, ⟨2, _⟩ => ⟨S16384x4, .i32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x4, .f32⟩
  | .hbm, ⟨10, _⟩ => ⟨S16384x4, .f32⟩
  | .hbm, ⟨11, _⟩ => ⟨S16384x4, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x4, .f32⟩
  | .hbm, ⟨16, _⟩ => ⟨S16384x4, .f32⟩
  | .hbm, ⟨17, _⟩ => ⟨S65536, .i32⟩
  | .hbm, ⟨18, _⟩ => ⟨S_, .i32⟩
  | .hbm, ⟨19, _⟩ => ⟨S32, .i32⟩
  | .hbm, ⟨20, _⟩ => ⟨S_, .i32⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S_, .i32⟩
  | .hbm, ⟨33, _⟩ => ⟨S65536, .i32⟩
  | .hbm, ⟨34, _⟩ => ⟨S32, .i32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.Frames.lean ====
/-
  The frames of the programs: each terminates from any memory, leaves its arguments and every counter at zero.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import Idealize.ShloMosaic.Lib.Claim
public import Idealize.ShloMosaic.Lib.Quiescent

@[expose] public section

set_option maxRecDepth 16384

noncomputable section

namespace Cert.Frames

open Idealize.ShloMosaic Idealize.ShloMosaic.TcCoe Idealize.SL.Sem

/-- The frame of the retention kernel. -/
theorem kernel : Cert.quiescent_Kernel := fun m ρ _ => Cert.Kernel.Gen.frame m ρ
/-- The frame of its idealization. -/
theorem kernelIdeal : Cert.quiescent_KernelIdeal := fun m ρ _ => Cert.KernelIdeal.Gen.frame m ρ
/-- The frame of the projection kernel. -/
theorem kernel2 : Cert.quiescent_Kernel2 := fun m ρ _ => Cert.Kernel2.Gen.frame m ρ
/-- The frame of its idealization. -/
theorem kernel2Ideal : Cert.quiescent_Kernel2Ideal := fun m ρ _ => Cert.Kernel2Ideal.Gen.frame m ρ
/-- The frame of the merge kernel. -/
theorem kernel3 : Cert.quiescent_Kernel3 := fun m ρ _ => Cert.Kernel3.Gen.frame m ρ
/-- The frame of its idealization. -/
theorem kernel3Ideal : Cert.quiescent_Kernel3Ideal := fun m ρ _ => Cert.Kernel3Ideal.Gen.frame m ρ
/-- The frame of the table kernel. -/
theorem kernel4 : Cert.quiescent_Kernel4 := fun m ρ _ => Cert.Kernel4.Gen.frame m ρ
/-- The frame of its idealization. -/
theorem kernel4Ideal : Cert.quiescent_Kernel4Ideal := fun m ρ _ => Cert.Kernel4Ideal.Gen.frame m ρ

/-- The frame of the modulation kernel. -/
theorem kernel5 : Cert.quiescent_Kernel5 := fun m ρ _ => Cert.Kernel5.Gen.frame m ρ
/-- The frame of its idealization. -/
theorem kernel5Ideal : Cert.quiescent_Kernel5Ideal := fun m ρ _ => Cert.Kernel5Ideal.Gen.frame m ρ

/-- The frame of the router kernel. -/
theorem kernel6 : Cert.quiescent_Kernel6 := fun m ρ _ => Cert.Kernel6.Gen.frame m ρ
/-- The frame of its idealization. -/
theorem kernel6Ideal : Cert.quiescent_Kernel6Ideal := fun m ρ _ => Cert.Kernel6Ideal.Gen.frame m ρ

/-- The frame of the projection's reference. -/
theorem reference2Ideal : Cert.quiescent_Reference2Ideal := by
  intro m g _
  refine (θ_run _ _ _).mono ?_ (Cert.Reference2Ideal.Value.run m g)
  exact fun r h => ⟨fun c => (h c).2, sem_eq_zero_of_no_sems (by decide) r.2⟩
/-- The frame of the merge's reference. -/
theorem reference3Ideal : Cert.quiescent_Reference3Ideal := by
  intro m g _
  refine (θ_run _ _ _).mono ?_ (Cert.Reference3Ideal.Value.run m g)
  exact fun r h => ⟨fun c => (h c).2.2.2, sem_eq_zero_of_no_sems (by decide) r.2⟩
/-- The frame of the tables' reference. -/
theorem reference4Ideal : Cert.quiescent_Reference4Ideal := by
  intro m g _
  refine (θ_run _ _ _).mono ?_ (Cert.Reference4Ideal.Value.run m g)
  exact fun r h => ⟨fun c => (h c).2.2, sem_eq_zero_of_no_sems (by decide) r.2⟩
/-- The frame of the modulation's reference. -/
theorem reference5Ideal : Cert.quiescent_Reference5Ideal := by
  intro m g _
  refine (θ_run _ _ _).mono ?_ (Cert.Reference5Ideal.Value.run m g)
  exact fun r h => ⟨fun c => (h c).2, sem_eq_zero_of_no_sems (by decide) r.2⟩
/-- The frame of the router's reference. -/
theorem reference6Ideal : Cert.quiescent_Reference6Ideal := by
  intro m g _
  refine (θ_run _ _ _).mono ?_ (Cert.Reference6Ideal.Value.run m g)
  exact fun r h => ⟨fun c => (h c).2.2.2, sem_eq_zero_of_no_sems (by decide) r.2⟩

end Cert.Frames

end
-- ==== Proof.RefFrame.lean ====
/-
  The retention's reference leaves its arguments as they were: no operation before, in or after its loop writes them.
-/
module

public import proofs.«01_k».proof.Defs
public import proofs.«01_k».proof.Proof.Gen.ReferenceIdeal.Run
public import Idealize.ShloMosaic.Lib.Claim
public import Idealize.ShloMosaic.Lib.Quiescent

@[expose] public section

set_option maxRecDepth 16384

noncomputable section

namespace Cert.ReferenceIdeal.RefFrame

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ)

/-- A reference that no operation of the stretches writes. -/
def Untouched (r : Ref sig .tc) : Prop :=
  (∀ V : Valuation τ sig (Elt Ideal), afterL preI V (Proc.devRef .tc r) = V (Proc.devRef .tc r))
  ∧ (∀ V : Valuation τ sig (Elt Ideal), after condOps V (Proc.devRef .tc r) = V (Proc.devRef .tc r))
  ∧ (∀ V : Valuation τ sig (Elt Ideal), afterL bodyI V (Proc.devRef .tc r) = V (Proc.devRef .tc r))
  ∧ (∀ V : Valuation τ sig (Elt Ideal), afterL postI V (Proc.devRef .tc r) = V (Proc.devRef .tc r))

/-- An untouched reference ends as it began. -/
theorem kept {r : Ref sig .tc} (h : Untouched r) (c : Dev nD) :
    finalContents condOps preI bodyI postI 32 m c (Proc.devRef .tc r) = m ((c.tc : Thread nD τ).loc r) := by
  have hk : ∀ k, atTrip condOps bodyI (entryContents preI m) k c (Proc.devRef .tc r) = m ((c.tc : Thread nD τ).loc r) := by
    intro k
    induction k with
    | zero => exact h.1 _
    | succ k ih => rw [atTrip_succ, h.2.2.1, h.2.1, ih]
  exact (h.2.2.2 _).trans ((h.2.1 _).trans (hk 32))

/-- The first argument is untouched. -/
theorem arg0 : Untouched main_arg0 := by
  refine ⟨fun V => ?_, fun V => ?_, fun V => ?_, fun V => ?_⟩ <;>
    (try simp only [afterL_cons, afterL_nil]) <;> after_reads_simp
/-- The second argument is untouched. -/
theorem arg1 : Untouched main_arg1 := by
  refine ⟨fun V => ?_, fun V => ?_, fun V => ?_, fun V => ?_⟩ <;>
    (try simp only [afterL_cons, afterL_nil]) <;> after_reads_simp
/-- The third argument is untouched. -/
theorem arg2 : Untouched main_arg2 := by
  refine ⟨fun V => ?_, fun V => ?_, fun V => ?_, fun V => ?_⟩ <;>
    (try simp only [afterL_cons, afterL_nil]) <;> after_reads_simp

/-- The frame of the retention's reference. -/
theorem frame : Cert.quiescent_ReferenceIdeal := by
  intro m g _
  refine (θ_run _ _ _).mono ?_ (run_fold m g)
  exact fun r h => ⟨fun c => ⟨(h c main_arg0 rfl).trans (kept m arg0 c), (h c main_arg1 rfl).trans (kept m arg1 c),
    (h c main_arg2 rfl).trans (kept m arg2 c)⟩, sem_eq_zero_of_no_sems (by decide) r.2⟩

end Cert.ReferenceIdeal.RefFrame

end
-- ==== Proof.InHost.lean ====
/-
  The arrays the projection kernel is launched on, as the operations before the launch leave them.
-/
module

public import proofs.«01_k».proof.Proof.Gen.Kernel2Ideal.Value
public import Idealize.ShloMosaic.Lib.Pipeline.ValueKit
public import Idealize.ShloMosaic.Lib.StableHlo.Run

@[expose] public section

set_option maxRecDepth 16384

noncomputable section

namespace Cert.Kernel2Ideal.InValue

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

/-- The activations, one row per token. -/
theorem V_rows (c : Dev nD) : V m c main_v19 = shapeCast S16384x2048 (m ((c : Thread nD τ).loc main_arg0)) shapeCasts_S4x4096x2048_S16384x2048 := by
  unfold V
  dsimp only [List.flatten, List.append]
  after_results_simp
  rfl

/-- The norm's gain as one row. -/
theorem V_gain (c : Dev nD) : V m c main_v20 = shapeCast S1x2048 (m ((c : Thread nD τ).loc main_arg1)) shapeCasts_S2048_S1x2048 := by
  unfold V
  dsimp only [List.flatten, List.append]
  after_results_simp
  rfl

/-- The value-residual projection in its two parts: the columns for the token itself, those for the token before, and
    zero columns. -/
def mixed (mu : FVec Ideal S2048 .f32) (v1 : FVec Ideal S2048x32 .f32) : FVec Ideal S2048x128 .f32 :=
  concatenate S2048x128 1
    [⟨S2048x32, mulf v1 (broadcastInDim S2048x32 ![0, 1] bcast_S2048x1_S2048x32_0_1
        (subf (broadcastInDim S2048x1 ![] bcast_S_S2048x1 (constant S_ .f32 0x3F800000#32))
          (broadcastInDim S2048x1 ![0] bcast_S2048_S2048x1_0 mu)))⟩,
     ⟨S2048x32, mulf v1 (broadcastInDim S2048x32 ![0, 1] bcast_S2048x1_S2048x32_0_1
        (broadcastInDim S2048x1 ![0] bcast_S2048_S2048x1_0 mu))⟩,
     ⟨S2048x64, broadcastInDim S2048x64 ![] bcast_S_S2048x64 (constant S_ .f32 0x00000000#32)⟩]
    concatenates_S2048x32_S2048x32_S2048x64_S2048x128_d1

/-- The gate columns of the weights, filled up with zero columns to a multiple of the lane count. -/
def gates (W : FVec Ideal S2048x11552 .f32) : FVec Ideal S2048x256 .f32 :=
  pad S2048x256 ![0, 0] ![0, 96] ![0, 0]
    (extractStridedSlice S2048x160 ![0, 3200] (extractStridedSlice S2048x3360 ![0, 0] W slices_S2048x11552_S2048x3360_0_0)
      slices_S2048x3360_S2048x160_0_3200)
    (sitofp .f32 (constantI S_ 32 0#32)) pads_S2048x160_S2048x256_000_0960 h_S_

/-- The packed weights: the column groups in the order the later kernels read them. -/
def packed (W : FVec Ideal S2048x11552 .f32) (mu : FVec Ideal S2048 .f32) (v1 : FVec Ideal S2048x32 .f32) :
    FVec Ideal S2048x11776 .f32 :=
  concatenate S2048x11776 1
    [⟨S2048x4096, extractStridedSlice S2048x4096 ![0, 3360] W slices_S2048x11552_S2048x4096_0_3360⟩,
     ⟨S2048x4096, extractStridedSlice S2048x4096 ![0, 7456] W slices_S2048x11552_S2048x4096_0_7456⟩,
     ⟨S2048x3072, extractStridedSlice S2048x3072 ![0, 0]
        (extractStridedSlice S2048x3360 ![0, 0] W slices_S2048x11552_S2048x3360_0_0) slices_S2048x3360_S2048x3072_0_0⟩,
     ⟨S2048x256, gates W⟩,
     ⟨S2048x64, extractStridedSlice S2048x64 ![0, 3072]
        (extractStridedSlice S2048x3360 ![0, 0] W slices_S2048x11552_S2048x3360_0_0) slices_S2048x3360_S2048x64_0_3072⟩,
     ⟨S2048x64, extractStridedSlice S2048x64 ![0, 3136]
        (extractStridedSlice S2048x3360 ![0, 0] W slices_S2048x11552_S2048x3360_0_0) slices_S2048x3360_S2048x64_0_3136⟩,
     ⟨S2048x128, mixed mu v1⟩]
    concatenates_S2048x4096_S2048x4096_S2048x3072_S2048x256_S2048x64_S2048x64_S2048x128_S2048x11776_d1

/-- The weights the kernel reads are the packed ones. -/
theorem V_weights (c : Dev nD) : V m c main_v18 = truncf .bf16 (packed (m ((c : Thread nD τ).loc main_arg4))
    (m ((c : Thread nD τ).loc main_arg5)) (m ((c : Thread nD τ).loc main_arg6))) bitsLt_bf16_f32 := by
  unfold V
  dsimp only [List.flatten, List.append]
  after_results_simp
  rfl

end Cert.Kernel2Ideal.InValue

end
-- ==== Proof.InBlock.lean ====
/-
  The projection kernel, block by block: what one grid point leaves in its output block, and what the normalised rows
  kept between the points of one row block are.
-/
module

public import proofs.«01_k».proof.Proof.InHost
public import Idealize.ShloMosaic.Lib.Pipeline.ValueKit

@[expose] public section

set_option maxRecDepth 16384

noncomputable section

namespace Cert.Kernel2Ideal.InValue

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Which block each window stages at each grid point, in terms of the point's number. -/
theorem idx : ∀ t : Fin cfg0.N, win0_0.index t = ![t.val / 23, 0] ∧ win0_1.index t = ![0, 0]
    ∧ win0_2.index t = ![t.val / 23 / 4, 0, 0] ∧ win0_3.index t = ![t.val / 23 / 4, 0, 0]
    ∧ win0_4.index t = ![0, t.val % 23] ∧ win0_5.index t = ![t.val / 23, t.val % 23] ∧ t.val < 368 :=
  (by decide +kernel : ∀ t : Fin grid0.N, _)

/-- The first point of the run of `23` points that `t` lies in. -/
def head (t : Fin cfg0.N) : Fin cfg0.N := ⟨23 * (t.val / 23), by have := t.isLt; omega⟩

/-- The normalised and modulated rows of the row block of point `t`. -/
def rows (c : Dev nD) (t : Fin cfg0.N) : FVec Ideal S1024x2048 .bf16 :=
  k0_pay1 (iblk m c 0 t) (iblk m c 1 t) (iblk m c 2 t) (iblk m c 3 t)

/-- At every point the kept rows are those computed at the first point of the run. -/
theorem kept (c : Dev nD) : ∀ (n : ℕ) (h : n < cfg0.N), (outsAt0 m c n h).2 = rows m c (head ⟨n, h⟩) := by
  intro n
  induction n with
  | zero =>
    intro h
    rw [outsAt0_A m c ⟨0, h⟩ rfl]; frame_out
    have e : head ⟨0, h⟩ = ⟨0, h⟩ := Fin.ext (by simp only [head])
    rw [e]; rfl
  | succ n ih =>
    intro h
    by_cases h0 : (n + 1) % 23 = 0
    · rw [outsAt0_A m c ⟨n + 1, h⟩ h0]; frame_out
      have e : head ⟨n + 1, h⟩ = ⟨n + 1, h⟩ := Fin.ext (by simp only [head]; omega)
      rw [e]; rfl
    · rw [outsAt0_B m c ⟨n + 1, h⟩ h0]
      have e : head ⟨n + 1, h⟩ = head ⟨n, Nat.lt_of_succ_lt h⟩ := Fin.ext (by simp only [head]; omega)
      rw [e, ← ih (Nat.lt_of_succ_lt h)]
      dsimp only
      unfold sout0_B_0
      rfl

/-- What every point leaves in the output block: the kept rows times the point's columns of the packed weights. -/
theorem left (c : Dev nD) (t : Fin cfg0.N) :
    (outsAt0 m c t.val t.isLt).1 = k0_pay2 (rows m c (head t)) (iblk m c 4 t) := by
  by_cases h0 : t.val % 23 = 0
  · rw [outsAt0_A m c t h0]; frame_out
    have e : head t = t := Fin.ext (by simp only [head]; omega)
    rw [e]; rfl
  · rw [outsAt0_B m c t h0]; frame_out
    have hk := kept m c (t.val - 1) (Nat.lt_of_le_of_lt (Nat.sub_le _ _) t.isLt)
    have e : head ⟨t.val - 1, Nat.lt_of_le_of_lt (Nat.sub_le _ _) t.isLt⟩ = head t :=
      Fin.ext (by simp only [head]; omega)
    rw [hk, e]
    exact congrArg (fun z => k0_pay2 z (iblk m c 4 t)) ((Memref.isWhole_whole _).read_unread _)

/-- A row of the layer's input, normalised by the root of its mean square, scaled by `g`, and modulated. -/
def hval (X : FVec Ideal S4x4096x2048 .f32) (g : FVec Ideal S2048 .f32) (sc sh : FVec Ideal S4x1x2048 .f32)
    (b : Fin 4) (s : Fin 4096) (k : Fin 2048) : EReal :=
  X (ix3 b s k) * Ideal.rsqrt (Ideal.div (∑ l : Fin 2048, X (ix3 b s l) * X (ix3 b s l)) (Ideal.ofBits .f32 0x45000000#32)
    + Ideal.ofBits .f32 0x358637BD#32) * g (ix1 k) * (1 + sc (ix3 b 0 k)) + sh (ix3 b 0 k)

/-- The staged rows at an index are the token's. -/
theorem x_at (c : Dev nD) (t : Fin cfg0.N) (r : Fin 1024) (k : Fin 2048) (b : Fin 4) (s : Fin 4096)
    (hb : b.val = t.val / 23 / 4) (hs : s.val = t.val / 23 % 4 * 1024 + r.val) :
    iblk m c 0 t (ix2 r k) = m ((c : Thread nD τ).loc main_arg0) (ix3 b s k) := by
  have e : iblk m c 0 t (ix2 r k) = V m c main_v19 (((cfg0.win 0).blk t).view.emb (ix2 r k)) := rfl
  have e2 : ((cfg0.win 0).blk t).view.emb (ix2 r k) = ix2 ⟨b.val * 4096 + s.val, by omega⟩ k := by
    blk_ext [idx t]
  rw [e, V_rows, e2]
  rw [shapeCast_apply]
  show (S4x4096x2048.rowMajor (ix3 b s k)).val = _
  rw [Shape.rowMajor_val_three, Shape.rowMajor_val_two]
  rfl

/-- The staged gain at an index. -/
theorem g_at (c : Dev nD) (t : Fin cfg0.N) (k : Fin 2048) :
    iblk m c 1 t (ix2 0 k) = m ((c : Thread nD τ).loc main_arg1) (ix1 k) := by
  have e : iblk m c 1 t (ix2 0 k) = V m c main_v20 (((cfg0.win 1).blk t).view.emb (ix2 0 k)) := rfl
  have e2 : ((cfg0.win 1).blk t).view.emb (ix2 0 k) = ix2 0 k := by
    blk_ext [idx t]
  rw [e, V_gain, e2]
  pointwise

/-- The kept rows at an index, over the arguments. -/
theorem rows_at (c : Dev nD) (t : Fin cfg0.N) (r : Fin 1024) (k : Fin 2048) (b : Fin 4) (s : Fin 4096)
    (hb : b.val = t.val / 23 / 4) (hs : s.val = t.val / 23 % 4 * 1024 + r.val) :
    rows m c t (ix2 r k) = hval (m ((c : Thread nD τ).loc main_arg0)) (m ((c : Thread nD τ).loc main_arg1))
      (m ((c : Thread nD τ).loc main_arg2)) (m ((c : Thread nD τ).loc main_arg3)) b s k := by
  have hc : iblk m c 2 t (ix3 0 0 k) = m ((c : Thread nD τ).loc main_arg2) (ix3 b 0 k) := by
    blk_ext! [iblk, V, idx t]
  have hd : iblk m c 3 t (ix3 0 0 k) = m ((c : Thread nD τ).loc main_arg3) (ix3 b 0 k) := by
    blk_ext! [iblk, V, idx t]
  pointwise [rows, k0_pay1, hval]
  reads_congr
  · exact x_at m c t r k b s hb hs
  · exact x_at m c t r _ b s hb hs
  · exact g_at m c t k
  · exact hc
  · exact hd

/-- What the output array ends holding, at a token and a packed column: the token's modulated row times the column. -/
def out (c : Dev nD) : S16384x11776.Idx → EReal := fun i =>
  ∑ k : Fin 2048, hval (m ((c : Thread nD τ).loc main_arg0)) (m ((c : Thread nD τ).loc main_arg1))
      (m ((c : Thread nD τ).loc main_arg2)) (m ((c : Thread nD τ).loc main_arg3))
      ⟨(i 0).val / 4096, by have h : (i 0).val < 16384 := (i 0).isLt; omega⟩ ⟨(i 0).val % 4096, by omega⟩ k
    * packed (m ((c : Thread nD τ).loc main_arg4)) (m ((c : Thread nD τ).loc main_arg5))
        (m ((c : Thread nD τ).loc main_arg6)) (ix2 k (i 1))

/-- The staged weights at an index. -/
theorem w_at (c : Dev nD) (t : Fin cfg0.N) (k : Fin 2048) (l : Fin 512) (j : Fin 11776) (hj : j.val = t.val % 23 * 512 + l.val) :
    iblk m c 4 t (ix2 k l) = packed (m ((c : Thread nD τ).loc main_arg4)) (m ((c : Thread nD τ).loc main_arg5))
        (m ((c : Thread nD τ).loc main_arg6)) (ix2 k j) := by
  have e : iblk m c 4 t (ix2 k l) = V m c main_v18 (((cfg0.win 4).blk t).view.emb (ix2 k l)) := rfl
  have e2 : ((cfg0.win 4).blk t).view.emb (ix2 k l) = ix2 k j := by
    blk_ext [idx t]
  rw [e, V_weights, e2]
  rfl

/-- What a point stores, at an index of its block. -/
theorem point (c : Dev nD) (t : Fin cfg0.N) (r : Fin 1024) (l : Fin 512) (R : Fin 16384) (j : Fin 11776)
    (hR : R.val = t.val / 23 * 1024 + r.val) (hj : j.val = t.val % 23 * 512 + l.val) :
    k0_pay2 (rows m c (head t)) (iblk m c 4 t) (ix2 r l) = out m c (ix2 R j) := by
  pointwise [k0_pay2, out]
  have hh : (head t).val / 23 = t.val / 23 := by simp only [head]; omega
  refine Finset.sum_congr rfl fun k _ => ?_
  refine Ideal.mul_congr ?_ ?_
  · exact rows_at m c (head t) r k _ _ (by rw [hh]; show R.val / 4096 = _; omega)
      (by rw [hh]; show R.val % 4096 = _; omega)
  · exact w_at m c t k l j hj

/-- The product's array after the run. -/
theorem final (c : Dev nD) : (dats m 0 c).arrAt 5 cfg0.N = out m c := by
  refine (dats m 0 c).arrAt_eq_of_covers 5 _ (by decide +kernel) fun t _ y => ?_
  blk_simp
  rw [after0_5, left]
  obtain ⟨r, l, rfl⟩ : ∃ (r : Fin 1024) (l : Fin 512), y = ix2 r l := ⟨y 0, y 1, eq_ix2 y⟩
  have hi := (idx t).2.2.2.2.2.2
  have e2 : ((cfg0.win 5).blk t).view.emb (ix2 r l) = ix2 ⟨t.val / 23 * 1024 + r.val, by omega⟩ ⟨t.val % 23 * 512 + l.val, by omega⟩ := by
    blk_ext [idx t]
  refine (point m c t r l ⟨t.val / 23 * 1024 + r.val, by omega⟩ ⟨t.val % 23 * 512 + l.val, by omega⟩ rfl rfl).trans ?_
  exact congrArg (out m c) e2.symm

end Cert.Kernel2Ideal.InValue

end
-- ==== Proof.InRef.lean ====
/-
  What the reference of the projection holds, column group by column group.
-/
module

public import proofs.«01_k».proof.Proof.InBlock
public import proofs.«01_k».proof.Proof.Gen.Reference2Ideal.Run
public import Idealize.ShloMosaic.Lib.Pointwise

@[expose] public section

set_option maxRecDepth 16384

noncomputable section

namespace Cert.Reference2Ideal.RefValue

open Cert.Reference2Ideal Cert.Reference2Ideal.Gen Idealize.ShloMosaic Idealize.ShloMosaic.TcCoe Idealize.SL.Sem

/-- The normalised, modulated activations. -/
def normed (X : FVec Ideal S4x4096x2048 .f32) (g : FVec Ideal S2048 .f32) (sc sh : FVec Ideal S4x1x2048 .f32) :
    FVec Ideal S4x4096x2048 .f32 :=
  addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) sc))) (broadcastInDim S4x4096x2048 ![0, 1, 2] bcast_S4x1x2048_S4x4096x2048_0_1_2 sh)

/-- The activations through the weights, one row per token. -/
def through (h : FVec Ideal S4x4096x2048 .f32) (W : FVec Ideal S2048x11552 .f32) : FVec Ideal S16384x11552 .f32 :=
  shapeCast _ (Host.dotGeneral dot_S4x4096x2048_S2048x11552_S4x4096x11552_2_0_01_1_n_n none h W) shapeCasts_S4x4096x11552_S16384x11552

/-- The part of the value-residual projection that looks at the token itself. -/
def here (h : FVec Ideal S4x4096x2048 .f32) (mu : FVec Ideal S2048 .f32) (v1 : FVec Ideal S2048x32 .f32) : FVec Ideal S16384x32 .f32 :=
  shapeCast _ (Host.dotGeneral dot_S4x4096x2048_S2048x32_S4x4096x32_2_0_01_1_n_n none (mulf h (broadcastInDim S4x4096x2048 ![0, 1, 2] bcast_S1x1x2048_S4x4096x2048_0_1_2 (broadcastInDim S1x1x2048 ![2] bcast_S2048_S1x1x2048_2 (subf (broadcastInDim S2048 ![] bcast_S_S2048 (constant S_ .f32 0x3F800000#32)) mu)))) v1) shapeCasts_S4x4096x32_S16384x32

/-- The part of the value-residual projection that the next token will look at. -/
def prev (h : FVec Ideal S4x4096x2048 .f32) (mu : FVec Ideal S2048 .f32) (v1 : FVec Ideal S2048x32 .f32) : FVec Ideal S16384x32 .f32 :=
  shapeCast _ (Host.dotGeneral dot_S4x4096x2048_S2048x32_S4x4096x32_2_0_01_1_n_n none (mulf h (broadcastInDim S4x4096x2048 ![0, 1, 2] bcast_S1x1x2048_S4x4096x2048_0_1_2 (broadcastInDim S1x1x2048 ![2] bcast_S2048_S1x1x2048_2 mu))) v1) shapeCasts_S4x4096x32_S16384x32

/-- The reference's result of its arguments: the column groups side by side. -/
def groups (P : FVec Ideal S16384x11552 .f32) (a b : FVec Ideal S16384x32 .f32) : FVec Ideal S16384x11776 .f32 :=
  concatenate S16384x11776 1 [⟨S16384x4096, extractStridedSlice S16384x4096 ![0, 3360] P slices_S16384x11552_S16384x4096_0_3360⟩,
    ⟨S16384x4096, extractStridedSlice S16384x4096 ![0, 7456] P slices_S16384x11552_S16384x4096_0_7456⟩,
    ⟨S16384x3072, extractStridedSlice S16384x3072 ![0, 0] (extractStridedSlice S16384x3360 ![0, 0] P slices_S16384x11552_S16384x3360_0_0) slices_S16384x3360_S16384x3072_0_0⟩,
    ⟨S16384x160, extractStridedSlice S16384x160 ![0, 3200] (extractStridedSlice S16384x3360 ![0, 0] P slices_S16384x11552_S16384x3360_0_0) slices_S16384x3360_S16384x160_0_3200⟩,
    ⟨S16384x96, broadcastInDim S16384x96 ![] bcast_S_S16384x96 (constant S_ .f32 0x00000000#32)⟩,
    ⟨S16384x128, extractStridedSlice S16384x128 ![0, 3072] (extractStridedSlice S16384x3360 ![0, 0] P slices_S16384x11552_S16384x3360_0_0) slices_S16384x3360_S16384x128_0_3072⟩,
    ⟨S16384x32, a⟩, ⟨S16384x32, b⟩,
    ⟨S16384x64, broadcastInDim S16384x64 ![] bcast_S_S16384x64 (constant S_ .f32 0x00000000#32)⟩]
    concatenates_S16384x4096_S16384x4096_S16384x3072_S16384x160_S16384x96_S16384x128_S16384x32_S16384x32_S16384x64_S16384x11776_d1

/-- The reference's result is the composition of these. -/
theorem result (m : (ℓ : Loc nD τ sig) → Buf (Elt Ideal) ℓ) (c : Dev nD) :
    Value.res_out0 m c = groups
      (through (normed (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)))
      (here (normed (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg5)) (m ((c.tc : Thread nD τ).loc main_arg6)))
      (prev (normed (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg5)) (m ((c.tc : Thread nD τ).loc main_arg6))) := rfl

/-- One normalised activation. -/
theorem normed_at (X : FVec Ideal S4x4096x2048 .f32) (g : FVec Ideal S2048 .f32) (sc sh : FVec Ideal S4x1x2048 .f32)
    (b : Fin 4) (s : Fin 4096) (k : Fin 2048) :
    normed X g sc sh (ix3 b s k) = Cert.Kernel2Ideal.InValue.hval X g sc sh b s k := by
  pointwise [normed, Cert.Kernel2Ideal.InValue.hval]
  try simp only [zero_add]

/-- One element of the activations through the weights. -/
theorem through_at (h : FVec Ideal S4x4096x2048 .f32) (W : FVec Ideal S2048x11552 .f32) (R : Fin 16384) (j : Fin 11552) :
    through h W (ix2 R j) = ∑ k : Fin 2048, h (ix3 ⟨R / 4096, by omega⟩ ⟨R % 4096, by omega⟩ k) * W (ix2 k j) := by
  pointwise [through]
  try simp only [zero_add]

/-- One element of the value residual's own part. -/
theorem here_at (h : FVec Ideal S4x4096x2048 .f32) (mu : FVec Ideal S2048 .f32) (v1 : FVec Ideal S2048x32 .f32) (R : Fin 16384) (j : Fin 32) :
    here h mu v1 (ix2 R j) = ∑ k : Fin 2048, h (ix3 ⟨R / 4096, by omega⟩ ⟨R % 4096, by omega⟩ k) * (v1 (ix2 k j) * (1 - mu (ix1 k))) := by
  pointwise [here]
  refine Finset.sum_congr rfl fun k _ => ?_
  rw [mul_assoc, mul_comm (v1 _)]

/-- One element of the value residual's part for the next token. -/
theorem prev_at (h : FVec Ideal S4x4096x2048 .f32) (mu : FVec Ideal S2048 .f32) (v1 : FVec Ideal S2048x32 .f32) (R : Fin 16384) (j : Fin 32) :
    prev h mu v1 (ix2 R j) = ∑ k : Fin 2048, h (ix3 ⟨R / 4096, by omega⟩ ⟨R % 4096, by omega⟩ k) * (v1 (ix2 k j) * mu (ix1 k)) := by
  pointwise [prev]
  refine Finset.sum_congr rfl fun k _ => ?_
  rw [mul_assoc, mul_comm (v1 _)]

/-- Where a column behind the first three groups lies. -/
theorem columns (n : ℕ) :
    (n - 11264 < 160 → n - 11264 < 256) ∧ (n - 11424 < 96 → n - 11264 < 256) ∧ (¬ n - 11424 < 96 → ¬ n - 11264 < 256)
      ∧ (n - 11520 < 128 → n - 11584 < 64) ∧ (¬ n - 11520 < 64 → 3136 + (n - 11584) = 3072 + (n - 11520))
      ∧ (¬ n - 11520 < 128 → ¬ n - 11520 < 64 ∧ ¬ n - 11584 < 64) := by
  refine ⟨by omega, by omega, fun h => ?_, fun h => ?_, fun h => ?_, fun h => ?_⟩
  · have : 11520 ≤ n := by by_contra h'; exact h (by grind)
    grind
  · grind
  · grind
  · have : 11648 ≤ n := by by_contra h'; exact h (by grind)
    grind

set_option maxHeartbeats 1600000 in
/-- The column groups of the results are the results of the packed weights' column groups. -/
theorem groups_at (h : FVec Ideal S4x4096x2048 .f32) (W : FVec Ideal S2048x11552 .f32) (mu : FVec Ideal S2048 .f32)
    (v1 : FVec Ideal S2048x32 .f32) (R : Fin 16384) (j : Fin 11776) :
    groups (through h W) (here h mu v1) (prev h mu v1) (ix2 R j)
      = ∑ k : Fin 2048, h (ix3 ⟨R / 4096, by omega⟩ ⟨R % 4096, by omega⟩ k) * Cert.Kernel2Ideal.InValue.packed W mu v1 (ix2 k j) := by
  pointwise [groups, Cert.Kernel2Ideal.InValue.packed, Cert.Kernel2Ideal.InValue.gates, Cert.Kernel2Ideal.InValue.mixed]
  have hp : (FloatOps.sitofp FTy.f32 0#32 : Ideal .f32) = (0 : EReal) := by
    show ((((0#32 : BitVec 32).toInt : ℤ) : ℝ) : EReal) = 0
    simp
  simp only [Nat.sub_sub, Nat.reduceAdd]
  by_cases h1 : (j : ℕ) < 4096
  · simp only [dif_pos h1]; exact through_at _ _ _ _
  simp only [dif_neg h1]
  by_cases h2 : (j : ℕ) - 4096 < 4096
  · simp only [dif_pos h2]; exact through_at _ _ _ _
  simp only [dif_neg h2]
  by_cases h3 : (j : ℕ) - 8192 < 3072
  · simp only [dif_pos h3]; exact through_at _ _ _ _
  simp only [dif_neg h3]
  by_cases h4 : (j : ℕ) - 11264 < 160
  · have h4' := (columns j).1 h4
    simp only [dif_pos h4, dif_pos h4']; exact through_at _ _ _ _
  simp only [dif_neg h4]
  by_cases h5 : (j : ℕ) - 11424 < 96
  · have h5' := (columns j).2.1 h5
    simp only [dif_pos h5, dif_pos h5', hp, mul_zero, Finset.sum_const_zero]
  have h5' := (columns j).2.2.1 h5
  simp only [dif_neg h5, dif_neg h5']
  by_cases h6 : (j : ℕ) - 11520 < 128
  · simp only [dif_pos h6]
    refine (through_at _ _ _ _).trans (Finset.sum_congr rfl fun k _ => ?_)
    by_cases h7 : (j : ℕ) - 11520 < 64
    · simp only [dif_pos h7]
    · have h7' := (columns j).2.2.2.1 h6
      simp only [dif_neg h7, dif_pos h7']
      have e3 := (columns j).2.2.2.2.1 h7
      simp only [e3]
  have h6a := ((columns j).2.2.2.2.2 h6).1
  have h6b := ((columns j).2.2.2.2.2 h6).2
  simp only [dif_neg h6, dif_neg h6a, dif_neg h6b]
  by_cases h8 : (j : ℕ) - 11648 < 32
  · simp only [dif_pos h8]; exact here_at _ _ _ _ _
  simp only [dif_neg h8]
  by_cases h9 : (j : ℕ) - 11680 < 32
  · simp only [dif_pos h9]; exact prev_at _ _ _ _ _
  simp only [dif_neg h9, mul_zero, Finset.sum_const_zero]

/-- The reference's result, index by index, is what the kernel's output array holds of the same arguments. -/
theorem result_at (m : (ℓ : Loc nD τ sig) → Buf (Elt Ideal) ℓ) (c : Dev nD) (R : Fin 16384) (j : Fin 11776) :
    (show EReal from Value.res_out0 m c (ix2 R j)) = ∑ k : Fin 2048, Cert.Kernel2Ideal.InValue.hval (m ((c.tc : Thread nD τ).loc main_arg0)) (m ((c.tc : Thread nD τ).loc main_arg1))
        (m ((c.tc : Thread nD τ).loc main_arg2)) (m ((c.tc : Thread nD τ).loc main_arg3)) ⟨(R : ℕ) / 4096, by omega⟩ ⟨(R : ℕ) % 4096, by omega⟩ k
      * Cert.Kernel2Ideal.InValue.packed (m ((c.tc : Thread nD τ).loc main_arg4)) (m ((c.tc : Thread nD τ).loc main_arg5)) (m ((c.tc : Thread nD τ).loc main_arg6)) (ix2 k j) := by
  rw [result]
  refine (groups_at _ _ _ _ R j).trans ?_
  simp only [normed_at]

end Cert.Reference2Ideal.RefValue

end
-- ==== Proof.InClaim.lean ====
/-
  The projection kernel and its reference leave the same array.
-/
module

public import proofs.«01_k».proof.Defs
public import proofs.«01_k».proof.Proof.InRef
public import Idealize.ShloMosaic.Lib.Claim

@[expose] public section

set_option maxRecDepth 16384

noncomputable section

namespace Cert.InClaim

open Idealize.ShloMosaic Idealize.ShloMosaic.TcCoe Idealize.SL.Sem

/-- The projection: from agreeing arguments, the kernel and the reference end with equal results. -/
theorem algebraic : Cert.algebraic_Kernel2Ideal_Reference2Ideal := by
  pair_intro
  · run_from Cert.Kernel2Ideal.Gen.run_main m g & Cert.Kernel2Ideal.Gen.unchanged m g
  · run_from Cert.Reference2Ideal.Value.run m' g'
    obtain ⟨h0, h1, h2, h3, h4, h5, h6⟩ := hagree c
    refine Eq.trans ?_ (Cert.Kernel2Ideal.InValue.final m c).symm
    funext i
    have e := Cert.Reference2Ideal.RefValue.result_at m' c (i 0) (i 1)
    rw [h0, h1, h2, h3, h4, h5, h6] at e
    exact (congrArg (Cert.Reference2Ideal.Value.res_out0 m' c) (eq_ix2 i)).trans e

end Cert.InClaim

end
-- ==== Proof.OutHost.lean ====
/-
  The merge kernel's arguments, and the arrays that the operations before its launch prepare from them.
-/
module

public import proofs.«01_k».proof.Proof.Gen.Kernel3Ideal.Frame
public import Idealize.ShloMosaic.Lib.Pipeline.ValueKit
public import Idealize.ShloMosaic.Lib.StableHlo.Run

@[expose] public section

set_option maxRecDepth 16384

noncomputable section

namespace Cert.Kernel3Ideal.OutValue

open Cert.Kernel3Ideal Cert.Kernel3Ideal.Gen Idealize.ShloMosaic Idealize.ShloMosaic.TcCoe Idealize.SL.Sem Idealize.ShloMosaic.StableHlo

/-- The thirteen arguments of the merge: the two branches, the projections, the activations, the gate, the second norm's
    gain and modulation, the two up projections, the output projection, and the router. -/
structure Args where
  ya : FVec Ideal S16384x1024 .bf16
  yb : FVec Ideal S16384x1024 .bf16
  p : FVec Ideal S16384x11776 .f32
  x : FVec Ideal S4x4096x2048 .f32
  gt : FVec Ideal S4x1x2048 .f32
  n2 : FVec Ideal S2048 .f32
  sc : FVec Ideal S4x1x2048 .f32
  sh : FVec Ideal S4x1x2048 .f32
  wa : FVec Ideal S1024x2048 .f32
  wb : FVec Ideal S1024x2048 .f32
  wo : FVec Ideal S2048x2048 .f32
  rw : FVec Ideal S2048x32 .f32
  rb : FVec Ideal S32 .f32

variable (m : (ℓ : Loc nD τ sig) → Buf (Elt Ideal) ℓ)

/-- The arguments that a memory holds. -/
def args (c : Dev nD) : Args where
  ya := m ((c : Thread nD τ).loc main_arg0)
  yb := m ((c : Thread nD τ).loc main_arg1)
  p := m ((c : Thread nD τ).loc main_arg2)
  x := m ((c : Thread nD τ).loc main_arg3)
  gt := m ((c : Thread nD τ).loc main_arg4)
  n2 := m ((c : Thread nD τ).loc main_arg5)
  sc := m ((c : Thread nD τ).loc main_arg6)
  sh := m ((c : Thread nD τ).loc main_arg7)
  wa := m ((c : Thread nD τ).loc main_arg8)
  wb := m ((c : Thread nD τ).loc main_arg9)
  wo := m ((c : Thread nD τ).loc main_arg10)
  rw := m ((c : Thread nD τ).loc main_arg11)
  rb := m ((c : Thread nD τ).loc main_arg12)

/-- The activations, one row per token. -/
theorem V_x (c : Dev nD) : V m c main_v8 = shapeCast S16384x2048 (m ((c : Thread nD τ).loc main_arg3)) shapeCasts_S4x4096x2048_S16384x2048 := by
  unfold V
  dsimp only [List.flatten, List.append]
  after_results_simp
  rfl

/-- The second norm's gain as one row. -/
theorem V_n2 (c : Dev nD) : V m c main_v9 = shapeCast S1x2048 (m ((c : Thread nD τ).loc main_arg5)) shapeCasts_S2048_S1x2048 := by
  unfold V
  dsimp only [List.flatten, List.append]
  after_results_simp
  rfl

/-- The first up projection. -/
theorem V_wa (c : Dev nD) (k : Fin 1024) (j : Fin 2048) :
    V m c main_v10 (ix2 k j) = m ((c : Thread nD τ).loc main_arg8) (ix2 k j) := by
  unfold V
  dsimp only [List.flatten, List.append]
  after_results_simp
  rfl

/-- The second up projection. -/
theorem V_wb (c : Dev nD) (k : Fin 1024) (j : Fin 2048) :
    V m c main_v11 (ix2 k j) = m ((c : Thread nD τ).loc main_arg9) (ix2 k j) := by
  unfold V
  dsimp only [List.flatten, List.append]
  after_results_simp
  rfl

/-- The output projection. -/
theorem V_wo (c : Dev nD) (k : Fin 2048) (j : Fin 2048) :
    V m c main_v12 (ix2 k j) = m ((c : Thread nD τ).loc main_arg10) (ix2 k j) := by
  unfold V
  dsimp only [List.flatten, List.append]
  after_results_simp
  rfl

/-- The router's weights with zero columns behind. -/
def padded (w : FVec Ideal S2048x32 .f32) : FVec Ideal S2048x128 .f32 :=
  pad S2048x128 ![0, 0] ![0, 96] ![0, 0] w (sitofp .f32 (constantI S_ 32 0#32)) pads_S2048x32_S2048x128_000_0960 h_S_

/-- The router's weights, first part. -/
theorem V_rwh (c : Dev nD) : V m c main_v1 = truncf .bf16 (padded (m ((c : Thread nD τ).loc main_arg11))) bitsLt_bf16_f32 := by
  unfold V
  dsimp only [List.flatten, List.append]
  after_results_simp
  rfl

/-- The router's weights, second part: what the first leaves. -/
theorem V_rwl (c : Dev nD) : V m c main_v4 = truncf .bf16 (subf (padded (m ((c : Thread nD τ).loc main_arg11)))
    (extf .f32 (truncf .bf16 (padded (m ((c : Thread nD τ).loc main_arg11))) bitsLt_bf16_f32) bitsLt_bf16_f32)) bitsLt_bf16_f32 := by
  unfold V
  dsimp only [List.flatten, List.append]
  after_results_simp
  rfl

/-- The router's bias as one row, filled up. -/
def bias (b : FVec Ideal S32 .f32) : FVec Ideal S1x128 .f32 :=
  broadcastInDim S1x128 ![1] bcast_S128_S1x128_1
    (concatenate S128 0 [⟨S32, b⟩, ⟨S96, broadcastInDim S96 ![] bcast_S_S96 (constant S_ .f32 0xF149F2CA#32)⟩] concatenates_S32_S96_S128_d0)

/-- The router's bias as the launch finds it. -/
theorem V_rb (c : Dev nD) : V m c main_v7 = bias (m ((c : Thread nD τ).loc main_arg12)) := by
  unfold V
  dsimp only [List.flatten, List.append]
  after_results_simp
  rfl

end Cert.Kernel3Ideal.OutValue

end
-- ==== Proof.OutBlock.lean ====
/-
  The merge kernel, block by block: the residual rows, their normalised and modulated rows, and the logits as the kernel
  adds them up from the two parts of the router's weights.
-/
module

public import proofs.«01_k».proof.Proof.OutHost

@[expose] public section

set_option maxRecDepth 16384

noncomputable section

namespace Cert.Kernel3Ideal.OutValue

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Which block each window stages at each grid point, in terms of the point's number. -/
theorem idx : ∀ t : Fin cfg0.N, win0_0.index t = ![t.val, 0] ∧ win0_1.index t = ![t.val, 0]
    ∧ win0_2.index t = ![t.val, 2] ∧ win0_3.index t = ![t.val, 3] ∧ win0_4.index t = ![t.val, 0]
    ∧ win0_5.index t = ![t.val / 16, 0, 0] ∧ win0_6.index t = ![0, 0] ∧ win0_7.index t = ![t.val / 16, 0, 0]
    ∧ win0_8.index t = ![t.val / 16, 0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![t.val, 0] ∧ win0_16.index t = ![t.val, 0] ∧ win0_17.index t = ![t.val, 0] ∧ t.val < 64 :=
  (by decide +kernel : ∀ t : Fin grid0.N, _)

/-- The logistic gate. -/
def gate (g : EReal) : EReal := Ideal.div 1 (1 + Ideal.exp (0 - g))

/-- The two branches, projected up and gated, at a token and a column. -/
def yval (A : Args) (R : Fin 16384) (k : Fin 2048) : EReal :=
  gate (A.p (ix2 R ⟨4096 + k.val, by omega⟩)) * (∑ l : Fin 1024, A.ya (ix2 R l) * A.wa (ix2 l k))
    + gate (A.p (ix2 R ⟨6144 + k.val, by omega⟩)) * (∑ l : Fin 1024, A.yb (ix2 R l) * A.wb (ix2 l k))

/-- The residual row with the gated output projection added. -/
def xval (A : Args) (b : Fin 4) (s : Fin 4096) (j : Fin 2048) : EReal :=
  A.x (ix3 b s j) + A.gt (ix3 b 0 j) * ∑ k : Fin 2048, yval A ⟨b.val * 4096 + s.val, by omega⟩ k * A.wo (ix2 k j)

/-- The factor that normalises a row. -/
def nval (A : Args) (b : Fin 4) (s : Fin 4096) : EReal :=
  Ideal.rsqrt (Ideal.div (∑ l : Fin 2048, xval A b s l * xval A b s l) (Ideal.ofBits .f32 0x45000000#32)
    + Ideal.ofBits .f32 0x358637BD#32)

/-- The row normalised by the root of its mean square, scaled and modulated. -/
def hval (A : Args) (b : Fin 4) (s : Fin 4096) (j : Fin 2048) : EReal :=
  xval A b s j * nval A b s * A.n2 (ix1 j) * (1 + A.sc (ix3 b 0 j)) + A.sh (ix3 b 0 j)

/-- The logits as the kernel adds them up. -/
def raw (A : Args) (b : Fin 4) (s : Fin 4096) (e : Fin 128) : EReal :=
  (∑ k : Fin 2048, hval A b s k * padded A.rw (ix2 k e))
    + (∑ k : Fin 2048, hval A b s k * (padded A.rw (ix2 k e) - padded A.rw (ix2 k e)))
    + (∑ k : Fin 2048, (hval A b s k - hval A b s k) * padded A.rw (ix2 k e)) + bias A.rb (ix2 0 e)

/-- The residual rows of a point's block. -/
def xb (c : Dev nD) (t : Fin cfg0.N) : FVec Ideal S256x2048 .f32 :=
  k0_pay5 (k0_pay2 (iblk m c 4 t)) (k0_pay3 (iblk m c 5 t))
    (k0_pay4 (iblk m c 0 t) (iblk m c 9 t) (iblk m c 1 t) (iblk m c 10 t) (X0_2 m c t) (X0_3 m c t)) (iblk m c 11 t)

/-- The normalised rows of a point's block. -/
def hb (c : Dev nD) (t : Fin cfg0.N) : FVec Ideal S256x2048 .f32 :=
  k0_pay6 (k0_pay2 (iblk m c 4 t)) (k0_pay3 (iblk m c 5 t))
    (k0_pay4 (iblk m c 0 t) (iblk m c 9 t) (iblk m c 1 t) (iblk m c 10 t) (X0_2 m c t) (X0_3 m c t)) (iblk m c 11 t)
    (iblk m c 6 t) (iblk m c 7 t) (iblk m c 8 t)

/-- The logits of a point's block. -/
def lb (c : Dev nD) (t : Fin cfg0.N) : FVec Ideal S256x128 .f32 :=
  k0_pay1 (truncf .bf16 (hb m c t) bitsLt_bf16_f32)
    (truncf .bf16 (subf (hb m c t) (extf .f32 (truncf .bf16 (hb m c t) bitsLt_bf16_f32) bitsLt_bf16_f32)) bitsLt_bf16_f32)
    (k0_pay9 (iblk m c 12 t)) (constant S256x128 .f32 0x00000000#32) (iblk m c 13 t) (iblk m c 12 t) (iblk m c 14 t)

/-- What a point leaves in its three output blocks. -/
theorem left (c : Dev nD) (t : Fin cfg0.N) : outsAt0 m c t = (xb m c t, hb m c t, lb m c t) := by
  unfold outsAt0
  refine Prod.ext ?_ (Prod.ext ?_ ?_)
  · frame_out
    rfl
  · frame_out
    rfl
  · frame_out
    rfl

variable (c : Dev nD) (t : Fin cfg0.N) (r : Fin 256) (b : Fin 4) (s : Fin 4096) (R : Fin 16384)

/-- The staged rows of the first branch. -/
theorem ya_at (l : Fin 1024) (hR : R.val = t.val * 256 + r.val) : iblk m c 0 t (ix2 r l) = (args m c).ya (ix2 R l) := by
  show _ = m ((c : Thread nD τ).loc main_arg0) (ix2 R l)
  blk_ext! [iblk, V, idx t]

/-- The staged rows of the second branch. -/
theorem yb_at (l : Fin 1024) (hR : R.val = t.val * 256 + r.val) : iblk m c 1 t (ix2 r l) = (args m c).yb (ix2 R l) := by
  show _ = m ((c : Thread nD τ).loc main_arg1) (ix2 R l)
  blk_ext! [iblk, V, idx t]

/-- The staged columns of the first gate. -/
theorem ga_at (k : Fin 2048) (hR : R.val = t.val * 256 + r.val) :
    X0_2 m c t (ix2 r k) = (args m c).p (ix2 R ⟨4096 + k.val, by omega⟩) := by
  unfold X0_2 Pipeline.Window.fill
  rw [dif_pos (moved0_2 t _)]
  show _ = m ((c : Thread nD τ).loc main_arg2) (ix2 R ⟨4096 + k.val, by omega⟩)
  blk_ext! [iblk, V, idx t]

/-- The staged columns of the second gate. -/
theorem gb_at (k : Fin 2048) (hR : R.val = t.val * 256 + r.val) :
    X0_3 m c t (ix2 r k) = (args m c).p (ix2 R ⟨6144 + k.val, by omega⟩) := by
  unfold X0_3 Pipeline.Window.fill
  rw [dif_pos (moved0_3 t _)]
  show _ = m ((c : Thread nD τ).loc main_arg2) (ix2 R ⟨6144 + k.val, by omega⟩)
  blk_ext! [iblk, V, idx t]

/-- The staged residual rows. -/
theorem x_at (k : Fin 2048) (hb : b.val = t.val / 16) (hs : s.val = t.val % 16 * 256 + r.val) :
    iblk m c 4 t (ix2 r k) = (args m c).x (ix3 b s k) := by
  have e : iblk m c 4 t (ix2 r k) = V m c main_v8 (((cfg0.win 4).blk t).view.emb (ix2 r k)) := rfl
  have e2 : ((cfg0.win 4).blk t).view.emb (ix2 r k) = ix2 ⟨b.val * 4096 + s.val, by omega⟩ k := by
    blk_ext [idx t]
  rw [e, V_x, e2]
  rw [shapeCast_apply]
  · rfl
  show (S4x4096x2048.rowMajor (ix3 b s k)).val = _
  rw [Shape.rowMajor_val_three, Shape.rowMajor_val_two]
  rfl

/-- The staged gain. -/
theorem n2_at (k : Fin 2048) : iblk m c 6 t (ix2 0 k) = (args m c).n2 (ix1 k) := by
  have e : iblk m c 6 t (ix2 0 k) = V m c main_v9 (((cfg0.win 6).blk t).view.emb (ix2 0 k)) := rfl
  have e2 : ((cfg0.win 6).blk t).view.emb (ix2 0 k) = ix2 0 k := by
    blk_ext [idx t]
  rw [e, V_n2, e2]
  show _ = m ((c : Thread nD τ).loc main_arg5) (ix1 k)
  pointwise

/-- The staged row of the residual's gate. -/
theorem gt_at (k : Fin 2048) (hb : b.val = t.val / 16) : iblk m c 5 t (ix3 0 0 k) = (args m c).gt (ix3 b 0 k) := by
  show _ = m ((c : Thread nD τ).loc main_arg4) (ix3 b 0 k)
  blk_ext! [iblk, V, idx t]

/-- The staged row of the modulation's scale. -/
theorem sc_at (k : Fin 2048) (hb : b.val = t.val / 16) : iblk m c 7 t (ix3 0 0 k) = (args m c).sc (ix3 b 0 k) := by
  show _ = m ((c : Thread nD τ).loc main_arg6) (ix3 b 0 k)
  blk_ext! [iblk, V, idx t]

/-- The staged row of the modulation's shift. -/
theorem sh_at (k : Fin 2048) (hb : b.val = t.val / 16) : iblk m c 8 t (ix3 0 0 k) = (args m c).sh (ix3 b 0 k) := by
  show _ = m ((c : Thread nD τ).loc main_arg7) (ix3 b 0 k)
  blk_ext! [iblk, V, idx t]

/-- The staged first up projection. -/
theorem wa_at (l : Fin 1024) (k : Fin 2048) : iblk m c 9 t (ix2 l k) = (args m c).wa (ix2 l k) := by
  have e : iblk m c 9 t (ix2 l k) = V m c main_v10 (((cfg0.win 9).blk t).view.emb (ix2 l k)) := rfl
  have e2 : ((cfg0.win 9).blk t).view.emb (ix2 l k) = ix2 l k := by
    blk_ext [idx t]
  rw [e, e2, V_wa]
  rfl

/-- The staged second up projection. -/
theorem wb_at (l : Fin 1024) (k : Fin 2048) : iblk m c 10 t (ix2 l k) = (args m c).wb (ix2 l k) := by
  have e : iblk m c 10 t (ix2 l k) = V m c main_v11 (((cfg0.win 10).blk t).view.emb (ix2 l k)) := rfl
  have e2 : ((cfg0.win 10).blk t).view.emb (ix2 l k) = ix2 l k := by
    blk_ext [idx t]
  rw [e, e2, V_wb]
  rfl

/-- The staged output projection. -/
theorem wo_at (l : Fin 2048) (k : Fin 2048) : iblk m c 11 t (ix2 l k) = (args m c).wo (ix2 l k) := by
  have e : iblk m c 11 t (ix2 l k) = V m c main_v12 (((cfg0.win 11).blk t).view.emb (ix2 l k)) := rfl
  have e2 : ((cfg0.win 11).blk t).view.emb (ix2 l k) = ix2 l k := by
    blk_ext [idx t]
  rw [e, e2, V_wo]
  rfl

/-- The staged router weights, first part. -/
theorem rwh_at (k : Fin 2048) (e : Fin 128) : iblk m c 12 t (ix2 k e) = padded (args m c).rw (ix2 k e) := by
  have h : iblk m c 12 t (ix2 k e) = V m c main_v1 (((cfg0.win 12).blk t).view.emb (ix2 k e)) := rfl
  have e2 : ((cfg0.win 12).blk t).view.emb (ix2 k e) = ix2 k e := by
    blk_ext [idx t]
  rw [h, e2, V_rwh]
  rfl

/-- The staged router weights, second part. -/
theorem rwl_at (k : Fin 2048) (e : Fin 128) :
    iblk m c 13 t (ix2 k e) = padded (args m c).rw (ix2 k e) - padded (args m c).rw (ix2 k e) := by
  have h : iblk m c 13 t (ix2 k e) = V m c main_v4 (((cfg0.win 13).blk t).view.emb (ix2 k e)) := rfl
  have e2 : ((cfg0.win 13).blk t).view.emb (ix2 k e) = ix2 k e := by
    blk_ext [idx t]
  rw [h, e2, V_rwl]
  rfl

/-- The staged bias. -/
theorem rb_at (e : Fin 128) : iblk m c 14 t (ix2 0 e) = bias (args m c).rb (ix2 0 e) := by
  have h : iblk m c 14 t (ix2 0 e) = V m c main_v7 (((cfg0.win 14).blk t).view.emb (ix2 0 e)) := rfl
  have e2 : ((cfg0.win 14).blk t).view.emb (ix2 0 e) = ix2 0 e := by
    blk_ext [idx t]
  rw [h, e2, V_rb]
  rfl

end Cert.Kernel3Ideal.OutValue

end
-- ==== Proof.OutRows.lean ====
/-
  The merge kernel's three output arrays at an index, over the arguments.
-/
module

public import proofs.«01_k».proof.Proof.OutBlock
public import Idealize.ShloMosaic.Lib.Pipeline.ValueKit
public import Idealize.ShloMosaic.Lib.Pointwise

@[expose] public section

set_option maxRecDepth 16384

noncomputable section

namespace Cert.Kernel3Ideal.OutValue

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD) (t : Fin cfg0.N) (r : Fin 256) (b : Fin 4) (s : Fin 4096)

/-- The gated sum of the two branches at an index of a point's block. -/
theorem y_at (k : Fin 2048) (R : Fin 16384) (hR : R.val = t.val * 256 + r.val) :
    k0_pay4 (iblk m c 0 t) (iblk m c 9 t) (iblk m c 1 t) (iblk m c 10 t) (X0_2 m c t) (X0_3 m c t) (ix2 r k)
      = yval (args m c) R k := by
  pointwise [k0_pay4, yval, gate]
  simp only [ga_at m c t r R _ hR, ya_at m c t r R _ hR, wa_at, gb_at m c t r R _ hR, yb_at m c t r R _ hR, wb_at]

/-- The residual rows at an index of a point's block. -/
theorem xb_at (k : Fin 2048) (hb : b.val = t.val / 16) (hs : s.val = t.val % 16 * 256 + r.val) :
    xb m c t (ix2 r k) = xval (args m c) b s k := by
  have hy : ∀ l, k0_pay4 (iblk m c 0 t) (iblk m c 9 t) (iblk m c 1 t) (iblk m c 10 t) (X0_2 m c t) (X0_3 m c t) (ix2 r l)
      = yval (args m c) ⟨b.val * 4096 + s.val, by omega⟩ l := fun l => y_at m c t r l _ (by show b.val * 4096 + s.val = _; omega)
  pointwise [xb, k0_pay5, k0_pay2, k0_pay3, xval]
  simp only [x_at m c t r b s k hb hs, gt_at m c t b k hb, hy, wo_at]

/-- The normalised rows at an index of a point's block. -/
theorem hb_at (k : Fin 2048) (hb' : b.val = t.val / 16) (hs : s.val = t.val % 16 * 256 + r.val) :
    hb m c t (ix2 r k) = hval (args m c) b s k := by
  have hx : ∀ l, xb m c t (ix2 r l) = xval (args m c) b s l := fun l => xb_at m c t r b s l hb' hs
  unfold xb at hx
  pointwise [hb, k0_pay6, hval, nval]
  simp only [hx, n2_at, sc_at m c t b k hb', sh_at m c t b k hb']

/-- The logits at an index of a point's block. -/
theorem lb_at (e : Fin 128) (hb' : b.val = t.val / 16) (hs : s.val = t.val % 16 * 256 + r.val) :
    lb m c t (ix2 r e) = raw (args m c) b s e := by
  have hh : ∀ l, hb m c t (ix2 r l) = hval (args m c) b s l := fun l => hb_at m c t r b s l hb' hs
  pointwise [lb, k0_pay1, k0_pay9, raw]
  simp only [hh, rwh_at, rwl_at, rb_at]

/-- The batch of a row. -/
def bat (R : Fin 16384) : Fin 4 := ⟨R.val / 4096, by omega⟩

/-- The position of a row in its batch. -/
def pos (R : Fin 16384) : Fin 4096 := ⟨R.val % 4096, by omega⟩

/-- The residual array. -/
def outX : S16384x2048.Idx → EReal := fun i => xval (args m c) (bat (i 0)) (pos (i 0)) (i 1)

/-- The normalised array. -/
def outH : S16384x2048.Idx → EReal := fun i => hval (args m c) (bat (i 0)) (pos (i 0)) (i 1)

/-- The array of logits. -/
def outL : S16384x128.Idx → EReal := fun i => raw (args m c) (bat (i 0)) (pos (i 0)) (i 1)

/-- What a point leaves in the block of residual rows. -/
theorem left_x : (outsAt0 m c t).1 = xb m c t := by rw [left]

/-- What a point leaves in the block of normalised rows. -/
theorem left_h : (outsAt0 m c t).2.1 = hb m c t := by rw [left]

/-- What a point leaves in the block of logits. -/
theorem left_l : (outsAt0 m c t).2.2 = lb m c t := by rw [left]

end Cert.Kernel3Ideal.OutValue

end
-- ==== Proof.OutFinal.lean ====
/-
  The merge kernel's three output arrays after the run.
-/
module

public import proofs.«01_k».proof.Proof.OutRows
public import Idealize.ShloMosaic.Lib.Pipeline.ValueKit
public import Idealize.ShloMosaic.Lib.Pointwise

@[expose] public section

set_option maxRecDepth 16384

noncomputable section

namespace Cert.Kernel3Ideal.OutValue

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)
variable (c : Dev nD)

/-- Any function that the blocks of the residual array agree with is the residual array after the run. -/
theorem wholeX (o : S16384x2048.Idx → EReal)
    (ho : ∀ (t : Fin cfg0.N) (r : Fin 256) (l : Fin 2048) (R : Fin 16384), R.val = t.val * 256 + r.val →
      (show EReal from (outsAt0 m c t).1 (ix2 r l)) = o (ix2 R l)) : (dats m 0 c).arrAt 15 cfg0.N = o := by
  refine (dats m 0 c).arrAt_eq_of_covers 15 _ (by decide +kernel) fun t _ y => ?_
  blk_simp
  rw [after0_15]
  obtain ⟨r, l, rfl⟩ : ∃ (r : Fin 256) (l : Fin 2048), y = ix2 r l := ⟨y 0, y 1, eq_ix2 y⟩
  have hi := (idx t).2.2.2.2.2.2.2.2.2.2.2.2.2.2.2.2.2.2
  have e2 : ((cfg0.win 15).blk t).view.emb (ix2 r l) = ix2 ⟨t.val * 256 + r.val, by omega⟩ l := by
    blk_ext [idx t]
  exact (ho t r l ⟨t.val * 256 + r.val, by omega⟩ rfl).trans (congrArg o e2.symm)

/-- The residual array after the run. -/
theorem finalX : (dats m 0 c).arrAt 15 cfg0.N = outX m c := by
  refine wholeX m c _ fun t r l R hR => ?_
  rw [left_x]
  exact xb_at m c t r (bat R) (pos R) l (by simp only [bat]; omega) (by simp only [pos]; omega)

/-- Any function that the blocks of the normalised array agree with is the normalised array after the run. -/
theorem wholeH (o : S16384x2048.Idx → EReal)
    (ho : ∀ (t : Fin cfg0.N) (r : Fin 256) (l : Fin 2048) (R : Fin 16384), R.val = t.val * 256 + r.val →
      (show EReal from (outsAt0 m c t).2.1 (ix2 r l)) = o (ix2 R l)) : (dats m 0 c).arrAt 16 cfg0.N = o := by
  refine (dats m 0 c).arrAt_eq_of_covers 16 _ (by decide +kernel) fun t _ y => ?_
  blk_simp
  rw [after0_16]
  obtain ⟨r, l, rfl⟩ : ∃ (r : Fin 256) (l : Fin 2048), y = ix2 r l := ⟨y 0, y 1, eq_ix2 y⟩
  have hi := (idx t).2.2.2.2.2.2.2.2.2.2.2.2.2.2.2.2.2.2
  have e2 : ((cfg0.win 16).blk t).view.emb (ix2 r l) = ix2 ⟨t.val * 256 + r.val, by omega⟩ l := by
    blk_ext [idx t]
  exact (ho t r l ⟨t.val * 256 + r.val, by omega⟩ rfl).trans (congrArg o e2.symm)

/-- The normalised array after the run. -/
theorem finalH : (dats m 0 c).arrAt 16 cfg0.N = outH m c := by
  refine wholeH m c _ fun t r l R hR => ?_
  rw [left_h]
  exact hb_at m c t r (bat R) (pos R) l (by simp only [bat]; omega) (by simp only [pos]; omega)

/-- Any function that the blocks of the array of logits agree with is the array of logits after the run. -/
theorem wholeL (o : S16384x128.Idx → EReal)
    (ho : ∀ (t : Fin cfg0.N) (r : Fin 256) (l : Fin 128) (R : Fin 16384), R.val = t.val * 256 + r.val →
      (show EReal from (outsAt0 m c t).2.2 (ix2 r l)) = o (ix2 R l)) : (dats m 0 c).arrAt 17 cfg0.N = o := by
  refine (dats m 0 c).arrAt_eq_of_covers 17 _ (by decide +kernel) fun t _ y => ?_
  blk_simp
  rw [after0_17]
  obtain ⟨r, l, rfl⟩ : ∃ (r : Fin 256) (l : Fin 128), y = ix2 r l := ⟨y 0, y 1, eq_ix2 y⟩
  have hi := (idx t).2.2.2.2.2.2.2.2.2.2.2.2.2.2.2.2.2.2
  have e2 : ((cfg0.win 17).blk t).view.emb (ix2 r l) = ix2 ⟨t.val * 256 + r.val, by omega⟩ l := by
    blk_ext [idx t]
  exact (ho t r l ⟨t.val * 256 + r.val, by omega⟩ rfl).trans (congrArg o e2.symm)

/-- The array of logits after the run. -/
theorem finalL : (dats m 0 c).arrAt 17 cfg0.N = outL m c := by
  refine wholeL m c _ fun t r l R hR => ?_
  rw [left_l]
  exact lb_at m c t r (bat R) (pos R) l (by simp only [bat]; omega) (by simp only [pos]; omega)

end Cert.Kernel3Ideal.OutValue

end
-- ==== Proof.Reals.lean ====
/-
  Extended reals that are real numbers, and the operations that stay among them.
-/
module

public import Idealize.ShloMosaic.Lib.Pipeline.ValueKit
public import Idealize.ShloMosaic.Lib.Pointwise
public import Idealize.ShloMosaic.Lib.IdealHost

@[expose] public section

noncomputable section

namespace Cert.Reals

open Idealize.ShloMosaic

/-- The value is a real number. -/
def Real' (x : EReal) : Prop := ∃ r : ℝ, x = (r : EReal)

/-- A real number is one. -/
theorem coe (r : ℝ) : Real' (r : EReal) := ⟨r, rfl⟩

/-- Zero is a real number. -/
theorem zero : Real' 0 := ⟨0, rfl⟩

/-- One is a real number. -/
theorem one : Real' 1 := ⟨1, rfl⟩

/-- A sum of two real numbers is one. -/
theorem add {x y : EReal} (hx : Real' x) (hy : Real' y) : Real' (x + y) := by
  obtain ⟨a, rfl⟩ := hx
  obtain ⟨b, rfl⟩ := hy
  exact ⟨a + b, (EReal.coe_add a b).symm⟩

/-- A product of two real numbers is one. -/
theorem mul {x y : EReal} (hx : Real' x) (hy : Real' y) : Real' (x * y) := by
  obtain ⟨a, rfl⟩ := hx
  obtain ⟨b, rfl⟩ := hy
  exact ⟨a * b, (EReal.coe_mul a b).symm⟩

/-- A difference of two real numbers is one. -/
theorem sub {x y : EReal} (hx : Real' x) (hy : Real' y) : Real' (x - y) := by
  obtain ⟨a, rfl⟩ := hx
  obtain ⟨b, rfl⟩ := hy
  exact ⟨a - b, (EReal.coe_sub a b).symm⟩

/-- A finite sum of real numbers is one. -/
theorem sum {ι : Type} (S : Finset ι) {f : ι → EReal} (h : ∀ i, Real' (f i)) : Real' (∑ i ∈ S, f i) := by
  classical
  induction S using Finset.induction_on with
  | empty => simpa using zero
  | insert a S ha ih => rw [Finset.sum_insert ha]; exact add (h a) ih

/-- The sum of real numbers is the sum of the extended reals they are. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real number less itself is zero. -/
theorem sub_self {x : EReal} (h : Real' x) : x - x = 0 := by
  obtain ⟨a, rfl⟩ := h
  rw [← EReal.coe_sub, _root_.sub_self, EReal.coe_zero]

/-- A value whose magnitude lies below infinity is a real number. -/
theorem of_abs {x : EReal} (h : max x (-x) < ⊤) : Real' x := by
  induction x with
  | bot => simp at h
  | top => simp at h
  | coe r => exact coe r

/-- The pattern of infinity is infinity. -/
theorem inf_f32 : Ideal.ofBits .f32 0x7F800000#32 = ⊤ := by
  simp [Ideal.ofBits, Ideal.ieee]

/-- The row length, as its pattern. -/
theorem rows_f32 : Ideal.ofBits .f32 0x45000000#32 = ((2048 : ℝ) : EReal) := by
  simp [Ideal.ofBits, Ideal.ieee, -EReal.coe_mul]
  norm_num

/-- The norm's epsilon is a positive real number. -/
theorem eps_f32 : ∃ e : ℝ, 0 < e ∧ Ideal.ofBits .f32 0x358637BD#32 = (e : EReal) := by
  refine ⟨_, ?_, by simp [Ideal.ofBits, Ideal.ieee]; rfl⟩
  norm_num

/-- One over one plus an exponential is a real number. -/
theorem gate (g : EReal) : Real' (Ideal.div 1 (1 + Ideal.exp g)) := by
  induction g with
  | bot =>
    rw [Ideal.exp_bot, add_zero]
    refine ⟨1, ?_⟩
    have := Ideal.div_coe (y := 1) one_ne_zero 1
    simpa using this
  | top =>
    rw [Ideal.exp_top]
    refine ⟨0, ?_⟩
    have h : (1 : EReal) + ⊤ = ⊤ := EReal.add_top_of_ne_bot (by decide)
    rw [h, Ideal.div, if_neg (by simp)]
    simp
  | coe r =>
    rw [Ideal.exp_coe]
    have h : (1 : EReal) + (Real.exp r : EReal) = ((1 + Real.exp r : ℝ) : EReal) := by rw [EReal.coe_add]; rfl
    rw [h, Ideal.div_coe (by positivity)]
    exact mul one (coe _)

/-- The reciprocal root of a mean square plus a positive number is a real number. -/
theorem rsqrt {S c e : EReal} {s C E : ℝ} (hS : S = s) (hc : c = C) (he : e = E) (h0 : 0 ≤ s) (h1 : 0 < C) (h2 : 0 < E) :
    Real' (Ideal.rsqrt (Ideal.div S c + e)) := by
  subst hS hc he
  rw [Ideal.div_coe h1.ne', ← EReal.coe_mul, ← EReal.coe_add, Ideal.rsqrt_coe]
  have h : 0 < s * (1 / C) + E := by positivity
  rw [if_neg h.not_gt, if_neg h.ne']
  exact coe _

end Cert.Reals

end
-- ==== Proof.OutLogits.lean ====
/-
  Of finite arguments the kernel's split of the router's product adds nothing: the logits are the plain product.
-/
module

public import proofs.«01_k».proof.Proof.OutRows
public import proofs.«01_k».proof.Proof.Reals

@[expose] public section

set_option maxRecDepth 16384

noncomputable section

namespace Cert.Kernel3Ideal.OutValue

open Cert.Kernel3Ideal Cert.Kernel3Ideal.Gen Idealize.ShloMosaic Idealize.ShloMosaic.TcCoe Idealize.SL.Sem
open Cert.Reals (Real')

/-- All arguments that the logits depend on, the gates' columns and the router's bias apart, are real numbers. -/
structure Finite (A : Args) : Prop where
  ya : ∀ i, Real' (A.ya i)
  yb : ∀ i, Real' (A.yb i)
  x : ∀ i, Real' (A.x i)
  gt : ∀ i, Real' (A.gt i)
  n2 : ∀ i, Real' (A.n2 i)
  sc : ∀ i, Real' (A.sc i)
  sh : ∀ i, Real' (A.sh i)
  wa : ∀ i, Real' (A.wa i)
  wb : ∀ i, Real' (A.wb i)
  wo : ∀ i, Real' (A.wo i)
  rw : ∀ i, Real' (A.rw i)

variable {A : Args} (hA : Finite A)
include hA

/-- The gated sum is a real number. -/
theorem yval_real (R : Fin 16384) (k : Fin 2048) : Real' (yval A R k) :=
  Cert.Reals.add
    (Cert.Reals.mul (Cert.Reals.gate _) (Cert.Reals.sum _ fun l => Cert.Reals.mul (hA.ya _) (hA.wa _)))
    (Cert.Reals.mul (Cert.Reals.gate _) (Cert.Reals.sum _ fun l => Cert.Reals.mul (hA.yb _) (hA.wb _)))

/-- The residual row is real. -/
theorem xval_real (b : Fin 4) (s : Fin 4096) (j : Fin 2048) : Real' (xval A b s j) :=
  Cert.Reals.add (hA.x _)
    (Cert.Reals.mul (hA.gt _) (Cert.Reals.sum _ fun k => Cert.Reals.mul (yval_real hA _ k) (hA.wo _)))

/-- The normalising factor is a real number. -/
theorem nval_real (b : Fin 4) (s : Fin 4096) : Real' (nval A b s) := by
  obtain ⟨e, he, h⟩ := Cert.Reals.eps_f32
  choose f hf using fun l => xval_real hA b s l
  refine Cert.Reals.rsqrt (s := ∑ l : Fin 2048, f l * f l) ?_ Cert.Reals.rows_f32 h ?_ (by norm_num) he
  · rw [Cert.Reals.coe_sum]
    refine Finset.sum_congr rfl fun l _ => ?_
    rw [hf, EReal.coe_mul]
  · exact Finset.sum_nonneg fun l _ => mul_self_nonneg _

/-- The normalised row is real. -/
theorem hval_real (b : Fin 4) (s : Fin 4096) (j : Fin 2048) : Real' (hval A b s j) :=
  Cert.Reals.add
    (Cert.Reals.mul (Cert.Reals.mul (Cert.Reals.mul (xval_real hA b s j) (nval_real hA b s)) (hA.n2 _))
      (Cert.Reals.add Cert.Reals.one (hA.sc _)))
    (hA.sh _)

omit hA in
/-- The router's weights with zero columns behind, at an index. -/
theorem padded_at (w : FVec Ideal S2048x32 .f32) (k : Fin 2048) (e : Fin 128) :
    padded w (ix2 k e) = if h : e.val < 32 then w (ix2 k ⟨e.val, h⟩) else 0 := by
  pointwise [padded]
  have h : (FloatOps.sitofp FTy.f32 0#32 : Ideal .f32) = (0 : EReal) := by
    show (((0#32 : BitVec 32).toInt : ℝ) : EReal) = 0
    norm_num
  rw [h]

omit hA in
/-- The filled bias at an index. -/
theorem bias_at (w : FVec Ideal S32 .f32) (e : Fin 128) :
    bias w (ix2 0 e) = if h : e.val < 32 then w (ix1 ⟨e.val, h⟩) else Ideal.ofBits .f32 0xF149F2CA#32 := by
  pointwise [bias]

/-- The padded weights are real. -/
theorem padded_real (k : Fin 2048) (e : Fin 128) : Real' (padded A.rw (ix2 k e)) := by
  rw [padded_at]
  split
  · exact hA.rw _
  · exact Cert.Reals.zero

omit hA in
/-- The logits: the normalised row through the router's weights with the bias, and a large negative number behind. -/
def lval (A : Args) (b : Fin 4) (s : Fin 4096) (e : Fin 128) : EReal :=
  if h : e.val < 32 then (∑ k : Fin 2048, hval A b s k * A.rw (ix2 k ⟨e.val, h⟩)) + A.rb (ix1 ⟨e.val, h⟩)
  else Ideal.ofBits .f32 0xF149F2CA#32

/-- The kernel's logits are the plain ones. -/
theorem raw_eq (b : Fin 4) (s : Fin 4096) (e : Fin 128) : raw A b s e = lval A b s e := by
  have h1 : (∑ k : Fin 2048, hval A b s k * (padded A.rw (ix2 k e) - padded A.rw (ix2 k e))) = 0 :=
    Finset.sum_eq_zero fun k _ => by rw [Cert.Reals.sub_self (padded_real hA k e), mul_zero]
  have h2 : (∑ k : Fin 2048, (hval A b s k - hval A b s k) * padded A.rw (ix2 k e)) = 0 :=
    Finset.sum_eq_zero fun k _ => by rw [Cert.Reals.sub_self (hval_real hA b s k), zero_mul]
  unfold raw
  rw [h1, h2, add_zero, add_zero, bias_at]
  simp only [padded_at]
  unfold lval
  by_cases h : e.val < 32
  · simp only [dif_pos h]
  · simp only [dif_neg h, mul_zero, Finset.sum_const_zero, zero_add]

end Cert.Kernel3Ideal.OutValue

end
-- ==== Proof.OutRef.lean ====
/-
  What the reference of the merge holds, result by result.
-/
module

public import proofs.«01_k».proof.Proof.OutLogits
public import proofs.«01_k».proof.Proof.Gen.Reference3Ideal.Run
public import Idealize.ShloMosaic.Lib.Pointwise

@[expose] public section

set_option maxRecDepth 16384

noncomputable section

namespace Cert.Reference3Ideal.RefValue

open Cert.Reference3Ideal Cert.Reference3Ideal.Gen Idealize.ShloMosaic Idealize.ShloMosaic.TcCoe Idealize.SL.Sem
open Cert.Kernel3Ideal.OutValue (Args gate yval xval nval hval lval bat pos)

/-- A gate's sigmoid, from the gates' columns on. -/
def sigm (g : FVec Ideal S4x4096x2048 .f32) : FVec Ideal S4x4096x2048 .f32 :=
  Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf g)))

/-- The gates' columns, token by token. -/
def cols (p : FVec Ideal S16384x11776 .f32) : FVec Ideal S4x4096x4096 .f32 :=
  shapeCast _ (extractStridedSlice S16384x4096 ![0, 4096] p slices_S16384x11776_S16384x4096_0_4096) shapeCasts_S16384x4096_S4x4096x4096

/-- A branch projected up. -/
def up (y : FVec Ideal S16384x1024 .bf16) (w : FVec Ideal S1024x2048 .f32) : FVec Ideal S4x4096x2048 .f32 :=
  Host.dotGeneral dot_S4x4096x1024_S1024x2048_S4x4096x2048_2_0_01_1_n_n none (shapeCast _ (extf .f32 y bitsLt_bf16_f32) shapeCasts_S16384x1024_S4x4096x1024) w

/-- The gated sum of the branches. -/
def merged (A : Args) : FVec Ideal S4x4096x2048 .f32 :=
  addf (mulf (sigm (extractStridedSlice S4x4096x2048 ![0, 0, 0] (cols A.p) slices_S4x4096x4096_S4x4096x2048_0_0_0)) (up A.ya A.wa))
    (mulf (sigm (extractStridedSlice S4x4096x2048 ![0, 0, 2048] (cols A.p) slices_S4x4096x4096_S4x4096x2048_0_0_2048)) (up A.yb A.wb))

/-- The residual. -/
def resid (A : Args) : FVec Ideal S4x4096x2048 .f32 :=
  addf A.x (mulf (broadcastInDim S4x4096x2048 ![0, 1, 2] bcast_S4x1x2048_S4x4096x2048_0_1_2 A.gt)
    (Host.dotGeneral dot_S4x4096x2048_S2048x2048_S4x4096x2048_2_0_01_1_n_n none (merged A) A.wo))

/-- The normalised, modulated rows. -/
def normed (X : FVec Ideal S4x4096x2048 .f32) (g : FVec Ideal S2048 .f32) (sc sh : FVec Ideal S4x1x2048 .f32) :
    FVec Ideal S4x4096x2048 .f32 :=
  addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) sc))) (broadcastInDim S4x4096x2048 ![0, 1, 2] bcast_S4x1x2048_S4x4096x2048_0_1_2 sh)

/-- One row per token. -/
def rows (X : FVec Ideal S4x4096x2048 .f32) : FVec Ideal S16384x2048 .f32 :=
  shapeCast _ X shapeCasts_S4x4096x2048_S16384x2048

/-- The logits of normalised rows. -/
def logits (h : FVec Ideal S16384x2048 .f32) (w : FVec Ideal S2048x32 .f32) (b : FVec Ideal S32 .f32) : FVec Ideal S16384x128 .f32 :=
  concatenate S16384x128 1 [⟨S16384x32, addf (Host.dotGeneral dot_S16384x2048_S2048x32_S16384x32_1_0_0_1_n_n none h w)
      (broadcastInDim S16384x32 ![0, 1] bcast_S1x32_S16384x32_0_1 (broadcastInDim S1x32 ![1] bcast_S32_S1x32_1 b))⟩,
    ⟨S16384x96, broadcastInDim S16384x96 ![] bcast_S_S16384x96 (constant S_ .f32 0xF149F2CA#32)⟩] concatenates_S16384x32_S16384x96_S16384x128_d1

/-- The arguments that a memory of the reference holds. -/
def args (m : (ℓ : Loc nD τ sig) → Buf (Elt Ideal) ℓ) (c : Dev nD) : Args where
  ya := m ((c.tc : Thread nD τ).loc main_arg0)
  yb := m ((c.tc : Thread nD τ).loc main_arg1)
  p := m ((c.tc : Thread nD τ).loc main_arg2)
  x := m ((c.tc : Thread nD τ).loc main_arg3)
  gt := m ((c.tc : Thread nD τ).loc main_arg4)
  n2 := m ((c.tc : Thread nD τ).loc main_arg5)
  sc := m ((c.tc : Thread nD τ).loc main_arg6)
  sh := m ((c.tc : Thread nD τ).loc main_arg7)
  wa := m ((c.tc : Thread nD τ).loc main_arg8)
  wb := m ((c.tc : Thread nD τ).loc main_arg9)
  wo := m ((c.tc : Thread nD τ).loc main_arg10)
  rw := m ((c.tc : Thread nD τ).loc main_arg11)
  rb := m ((c.tc : Thread nD τ).loc main_arg12)

/-- The reference's normalised rows are these. -/
theorem result_h (m : (ℓ : Loc nD τ sig) → Buf (Elt Ideal) ℓ) (c : Dev nD) :
    Value.res_out1 m c = rows (normed (resid (args m c)) (args m c).n2 (args m c).sc (args m c).sh) := rfl

/-- The reference's logits are these. -/
theorem result_l (m : (ℓ : Loc nD τ sig) → Buf (Elt Ideal) ℓ) (c : Dev nD) :
    Value.res_out2 m c = logits (rows (normed (resid (args m c)) (args m c).n2 (args m c).sc (args m c).sh)) (args m c).rw (args m c).rb := rfl

/-- One gate. -/
theorem sigm_at (g : FVec Ideal S4x4096x2048 .f32) (b : Fin 4) (s : Fin 4096) (k : Fin 2048) :
    sigm g (ix3 b s k) = gate (g (ix3 b s k)) := by
  pointwise [sigm, gate]
  rw [zero_sub]

/-- One column of the gates. -/
theorem cols_at (p : FVec Ideal S16384x11776 .f32) (b : Fin 4) (s : Fin 4096) (k : Fin 4096) :
    cols p (ix3 b s k) = p (ix2 ⟨b.val * 4096 + s.val, by omega⟩ ⟨4096 + k.val, by omega⟩) := by
  pointwise [cols]

/-- One element of a branch projected up. -/
theorem up_at (y : FVec Ideal S16384x1024 .bf16) (w : FVec Ideal S1024x2048 .f32) (b : Fin 4) (s : Fin 4096) (k : Fin 2048) :
    up y w (ix3 b s k) = ∑ l : Fin 1024, y (ix2 ⟨b.val * 4096 + s.val, by omega⟩ l) * w (ix2 l k) := by
  pointwise [up]

/-- One element of the gated sum. -/
theorem merged_at (A : Args) (b : Fin 4) (s : Fin 4096) (k : Fin 2048) :
    merged A (ix3 b s k) = yval A ⟨b.val * 4096 + s.val, by omega⟩ k := by
  pointwise [merged, yval]
  simp only [sigm_at, up_at]
  pointwise
  simp only [cols_at]
  have e : (4096 + (2048 + k.val)) = 6144 + k.val := by omega
  simp only [e]

/-- One element of the residual. -/
theorem resid_at (A : Args) (b : Fin 4) (s : Fin 4096) (k : Fin 2048) : resid A (ix3 b s k) = xval A b s k := by
  pointwise [resid, xval]
  simp only [merged_at]

/-- One element of the normalised rows. -/
theorem normed_at (A : Args) (b : Fin 4) (s : Fin 4096) (k : Fin 2048) :
    normed (resid A) A.n2 A.sc A.sh (ix3 b s k) = hval A b s k := by
  pointwise [normed, hval, nval]
  simp only [resid_at, zero_add]

/-- One element of the rows. -/
theorem rows_at (X : FVec Ideal S4x4096x2048 .f32) (R : Fin 16384) (k : Fin 2048) :
    rows X (ix2 R k) = X (ix3 (bat R) (pos R) k) := by
  pointwise [rows, bat, pos]

/-- One logit. -/
theorem logits_at (A : Args) (R : Fin 16384) (e : Fin 128) :
    logits (rows (normed (resid A) A.n2 A.sc A.sh)) A.rw A.rb (ix2 R e) = lval A (bat R) (pos R) e := by
  pointwise [logits, lval]
  simp only [rows_at, normed_at]

end Cert.Reference3Ideal.RefValue

end
-- ==== Proof.OutClaim.lean ====
/-
  The merge kernel and its reference leave the same three arrays, of finite arguments.
-/
module

public import proofs.«01_k».proof.Defs
public import proofs.«01_k».proof.Proof.Frames
public import proofs.«01_k».proof.Proof.OutFinal
public import proofs.«01_k».proof.Proof.OutRef
public import Idealize.ShloMosaic.Lib.Claim

@[expose] public section

set_option maxRecDepth 16384

noncomputable section

namespace Cert.OutClaim

open Idealize.ShloMosaic Idealize.ShloMosaic.TcCoe Idealize.SL.Sem

/-- The precondition's side conditions hold. -/
theorem facts : Cert.Pre_finite_args.Facts := by
  constructor <;> decide

/-- An array whose magnitudes compare below infinity holds real numbers. -/
theorem finite_of_lt {s : Shape} (hb : (⟨0, ![]⟩ : Shape).BroadcastsInDim s (![] : Fin 0 → Fin s.rank)) (X : FVec Ideal s .f32)
    (h : cmpf .olt (Host.absf X) (broadcastInDim s ![] hb (constant ⟨0, ![]⟩ .f32 0x7F800000#32)) = fun _ => 1#1) (i : s.Idx) :
    Cert.Reals.Real' (X i) := by
  have h1 := congrFun h i
  have h2 : BitVec.ofBool (decide (max (X i : EReal) (-(X i : EReal)) < Ideal.ofBits .f32 0x7F800000#32)) = 1#1 := h1
  rw [Cert.Reals.inf_f32] at h2
  refine Cert.Reals.of_abs ?_
  by_contra h3
  rw [decide_eq_false h3] at h2
  exact absurd h2 (by decide)

/-- The precondition makes the merge's arguments real numbers. -/
theorem finite [Cert.Pre_finite_args.Facts] (m : (ℓ : Loc Cert.Kernel3Ideal.nD Cert.Kernel3Ideal.τ Cert.Kernel3Ideal.sig) → Buf (Elt Ideal) ℓ)
    (h : Cert.Pre_Kernel3Ideal_finite_args m) (c : Dev Cert.Kernel3Ideal.nD) :
    Cert.Kernel3Ideal.OutValue.Finite (Cert.Kernel3Ideal.OutValue.args m c) := by
  obtain ⟨h0, h1, h2, h3, h4, h5, h6, h7, h8, h9, h10⟩ := h c
  exact ⟨fun i => finite_of_lt _ _ h0 i, fun i => finite_of_lt _ _ h1 i, fun i => finite_of_lt _ _ h2 i,
    fun i => finite_of_lt _ _ h3 i, fun i => finite_of_lt _ _ h4 i, fun i => finite_of_lt _ _ h5 i,
    fun i => finite_of_lt _ _ h6 i, fun i => finite_of_lt _ _ h7 i, fun i => finite_of_lt _ _ h8 i,
    fun i => finite_of_lt _ _ h9 i, fun i => finite_of_lt _ _ h10 i⟩

/-- Agreeing memories hold the same arguments. -/
theorem same (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (A : Cert.Kernel3Ideal.OutValue.Args)
    (h : A.ya = m ((c.tc : Thread Cert.Kernel3Ideal.nD Cert.Kernel3Ideal.τ).loc Cert.Kernel3Ideal.main_arg0)
      ∧ A.yb = m ((c.tc : Thread Cert.Kernel3Ideal.nD Cert.Kernel3Ideal.τ).loc Cert.Kernel3Ideal.main_arg1)
      ∧ A.p = m ((c.tc : Thread Cert.Kernel3Ideal.nD Cert.Kernel3Ideal.τ).loc Cert.Kernel3Ideal.main_arg2)
      ∧ A.x = m ((c.tc : Thread Cert.Kernel3Ideal.nD Cert.Kernel3Ideal.τ).loc Cert.Kernel3Ideal.main_arg3)
      ∧ A.gt = m ((c.tc : Thread Cert.Kernel3Ideal.nD Cert.Kernel3Ideal.τ).loc Cert.Kernel3Ideal.main_arg4)
      ∧ A.n2 = m ((c.tc : Thread Cert.Kernel3Ideal.nD Cert.Kernel3Ideal.τ).loc Cert.Kernel3Ideal.main_arg5)
      ∧ A.sc = m ((c.tc : Thread Cert.Kernel3Ideal.nD Cert.Kernel3Ideal.τ).loc Cert.Kernel3Ideal.main_arg6)
      ∧ A.sh = m ((c.tc : Thread Cert.Kernel3Ideal.nD Cert.Kernel3Ideal.τ).loc Cert.Kernel3Ideal.main_arg7)
      ∧ A.wa = m ((c.tc : Thread Cert.Kernel3Ideal.nD Cert.Kernel3Ideal.τ).loc Cert.Kernel3Ideal.main_arg8)
      ∧ A.wb = m ((c.tc : Thread Cert.Kernel3Ideal.nD Cert.Kernel3Ideal.τ).loc Cert.Kernel3Ideal.main_arg9)
      ∧ A.wo = m ((c.tc : Thread Cert.Kernel3Ideal.nD Cert.Kernel3Ideal.τ).loc Cert.Kernel3Ideal.main_arg10)
      ∧ A.rw = m ((c.tc : Thread Cert.Kernel3Ideal.nD Cert.Kernel3Ideal.τ).loc Cert.Kernel3Ideal.main_arg11)
      ∧ A.rb = m ((c.tc : Thread Cert.Kernel3Ideal.nD Cert.Kernel3Ideal.τ).loc Cert.Kernel3Ideal.main_arg12)) :
    A = Cert.Kernel3Ideal.OutValue.args m c := by
  obtain ⟨h0, h1, h2, h3, h4, h5, h6, h7, h8, h9, h10, h11, h12⟩ := h
  cases A
  cases h0; cases h1; cases h2; cases h3; cases h4; cases h5; cases h6; cases h7; cases h8; cases h9; cases h10; cases h11; cases h12
  rfl

section values

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ)
variable (c : Dev Cert.Kernel3Ideal.nD)
variable (hA : Cert.Reference3Ideal.RefValue.args m' c = Cert.Kernel3Ideal.OutValue.args m c)

include hA in
/-- The residual rows agree. -/
theorem valueX : Cert.Reference3Ideal.RefValue.rows (Cert.Reference3Ideal.RefValue.resid (Cert.Reference3Ideal.RefValue.args m' c))
    = Cert.Kernel3Ideal.OutValue.outX m c := by
  funext i
  have e := Cert.Reference3Ideal.RefValue.rows_at
    (Cert.Reference3Ideal.RefValue.resid (Cert.Reference3Ideal.RefValue.args m' c)) (i 0) (i 1)
  rw [hA] at e ⊢
  exact (congrArg _ (eq_ix2 i)).trans (e.trans (Cert.Reference3Ideal.RefValue.resid_at _ _ _ _))

include hA in
/-- The normalised rows agree. -/
theorem valueH : Cert.Reference3Ideal.Value.res_out1 m' c = Cert.Kernel3Ideal.OutValue.outH m c := by
  rw [Cert.Reference3Ideal.RefValue.result_h, hA]
  funext i
  have e := Cert.Reference3Ideal.RefValue.rows_at (Cert.Reference3Ideal.RefValue.normed
    (Cert.Reference3Ideal.RefValue.resid (Cert.Kernel3Ideal.OutValue.args m c)) (Cert.Kernel3Ideal.OutValue.args m c).n2
    (Cert.Kernel3Ideal.OutValue.args m c).sc (Cert.Kernel3Ideal.OutValue.args m c).sh) (i 0) (i 1)
  exact (congrArg _ (eq_ix2 i)).trans (e.trans (Cert.Reference3Ideal.RefValue.normed_at _ _ _ _))

include hA in
/-- The logits agree, of real arguments. -/
theorem valueL (hF : Cert.Kernel3Ideal.OutValue.Finite (Cert.Kernel3Ideal.OutValue.args m c)) :
    Cert.Reference3Ideal.Value.res_out2 m' c = Cert.Kernel3Ideal.OutValue.outL m c := by
  rw [Cert.Reference3Ideal.RefValue.result_l, hA]
  funext i
  have e := Cert.Reference3Ideal.RefValue.logits_at (Cert.Kernel3Ideal.OutValue.args m c) (i 0) (i 1)
  exact (congrArg _ (eq_ix2 i)).trans (e.trans (Cert.Kernel3Ideal.OutValue.raw_eq hF _ _ _).symm)

end values

/-- The merge: from agreeing real arguments, the kernel and the reference end with equal results. -/
theorem algebraic [Cert.Pre_finite_args.Facts] : Cert.algebraic_Kernel3Ideal_Reference3Ideal_pre_finite_args := by
  intro m g m' g' hpre hagree
  have hA : ∀ c, Cert.Reference3Ideal.RefValue.args m' c = Cert.Kernel3Ideal.OutValue.args m c :=
    fun c => same m m' c _ (hagree c)
  refine ⟨fun c => Cert.Kernel3Ideal.OutValue.outX m c, fun c => Cert.Kernel3Ideal.OutValue.outH m c,
    fun c => Cert.Kernel3Ideal.OutValue.outL m c, ?_, ?_⟩
  · exact (θ_run _ _ _).mono (fun r h c => ⟨((h.1 c).1 15).trans (Cert.Kernel3Ideal.OutValue.finalX m c),
      ((h.1 c).1 16).trans (Cert.Kernel3Ideal.OutValue.finalH m c), ((h.1 c).1 17).trans (Cert.Kernel3Ideal.OutValue.finalL m c),
      h.2 c⟩) (θ_run_and (Cert.Kernel3Ideal.Gen.run_main m g) (Cert.Kernel3Ideal.Gen.unchanged m g))
  · exact (θ_run _ _ _).mono (fun r h c => ⟨(h c).1.trans (valueX m m' c (hA c)), (h c).2.1.trans (valueH m m' c (hA c)),
      (h c).2.2.1.trans (valueL m m' c (hA c) (finite m hpre c)), (h c).2.2.2⟩) (Cert.Reference3Ideal.Value.run m' g')

/-- The frame under the precondition is the plain frame. -/
theorem kernelFrame [Cert.Pre_finite_args.Facts] : Cert.quiescent_Kernel3Ideal_pre_finite_args :=
  fun m ρ _ => Cert.Frames.kernel3Ideal m ρ trivial

/-- The reference's frame under the precondition is the plain frame. -/
theorem referenceFrame [Cert.Pre_finite_args.Facts] : Cert.quiescent_Reference3Ideal_pre_finite_args :=
  fun m ρ _ => Cert.Frames.reference3Ideal m ρ trivial

end Cert.OutClaim

end
-- ==== Proof.TrigBlock.lean ====
/-
  The rotary tables: what each block of the two output arrays holds, and the whole arrays.
-/
module

public import proofs.«01_k».proof.Proof.Gen.Kernel4Ideal.Frame
public import Idealize.ShloMosaic.Lib.Pipeline.ValueKit
public import Idealize.ShloMosaic.Lib.Pointwise
public import Idealize.ShloMosaic.Lib.StableHlo.Run

@[expose] public section

set_option maxRecDepth 16384

noncomputable section

namespace Cert.Kernel4Ideal.TrigValue

open Cert.Kernel4Ideal Cert.Kernel4Ideal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The 64 rotation frequencies. -/
def freq : FVec Ideal S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- The positions, one row per token. -/
theorem V_pos (c : Dev nD) : V m c main_v8 = shapeCast S16384x1 (m ((c : Thread nD τ).loc main_arg0)) shapeCasts_S4x4096_S16384x1 := by
  unfold V
  after_results_simp
  rfl

/-- The frequencies, twice side by side. -/
theorem V_freq (c : Dev nD) : V m c main_v7 = broadcastInDim S1x128 ![1] bcast_S128_S1x128_1
    (concatenate S128 0 [⟨S64, freq⟩, ⟨S64, freq⟩] concatenates_S64_S64_S128_d0) := by
  unfold V
  after_results_simp
  rfl

/-- The angle of a position in a lane. -/
def angle (p : BitVec 32) (l : Fin 128) : EReal :=
  (FloatOps.sitofp FTy.f32 p : Ideal .f32) * (freq (ix1 ⟨l % 64, by omega⟩) : EReal)

/-- Which block each window stages at each grid point. -/
theorem idx : ∀ t : Fin cfg0.N, win0_0.index t = ![t.val, 0] ∧ win0_1.index t = ![0, 0]
    ∧ win0_2.index t = ![t.val, 0] ∧ win0_3.index t = ![t.val, 0] ∧ t.val < 16 :=
  (by decide +kernel : ∀ t : Fin grid0.N, _)

/-- The position a block holds in a row. -/
theorem pos_at (c : Dev nD) (t : Fin cfg0.N) (r : Fin 1024) (b : Fin 4) (s : Fin 4096) (h : b.val * 4096 + s.val = t.val * 1024 + r.val) :
    iblk m c 0 t (ix2 r 0) = m ((c : Thread nD τ).loc main_arg0) (ix2 b s) := by
  have e : iblk m c 0 t (ix2 r 0) = V m c main_v8 (((cfg0.win 0).blk t).view.emb (ix2 r 0)) := rfl
  have e2 : ((cfg0.win 0).blk t).view.emb (ix2 r 0) = ix2 ⟨b.val * 4096 + s.val, by omega⟩ 0 := by blk_ext [idx t]
  rw [e, V_pos, e2, shapeCast_apply]
  show (S4x4096.rowMajor (ix2 b s)).val = _
  rw [Shape.rowMajor_val_two, Shape.rowMajor_val_two]
  show b.val * 4096 + s.val = (b.val * 4096 + s.val) * 1 + 0
  omega

/-- The frequency every block holds in a lane. -/
theorem freq_at (c : Dev nD) (t : Fin cfg0.N) (l : Fin 128) :
    iblk m c 1 t (ix2 0 l) = freq (ix1 ⟨l % 64, by omega⟩) := by
  have e : iblk m c 1 t (ix2 0 l) = V m c main_v7 (((cfg0.win 1).blk t).view.emb (ix2 0 l)) := rfl
  have e2 : ((cfg0.win 1).blk t).view.emb (ix2 0 l) = ix2 0 l := by blk_ext [idx t]
  rw [e, V_freq, e2]
  pointwise
  by_cases h : (l : ℕ) < 64
  · simp only [dif_pos h, Nat.mod_eq_of_lt h]
  · have e3 : (l : ℕ) % 64 = l - 64 := by omega
    simp only [dif_neg h, e3]

/-- The two tables at a token and a lane. -/
def cosAt (P : IVec S4x4096 32) (R : Fin 16384) (l : Fin 128) : EReal :=
  FloatOps.cos (F := Ideal) (φ := .f32) (angle (P (ix2 ⟨(R : ℕ) / 4096, by omega⟩ ⟨(R : ℕ) % 4096, by omega⟩)) l)
/-- The sine table, negated in the first half of the lanes. -/
def sinAt (P : IVec S4x4096 32) (R : Fin 16384) (l : Fin 128) : EReal :=
  if (l : ℕ) < 64 then 0 - (FloatOps.sin (F := Ideal) (φ := .f32) (angle (P (ix2 ⟨(R : ℕ) / 4096, by omega⟩ ⟨(R : ℕ) % 4096, by omega⟩)) l) : EReal)
  else FloatOps.sin (F := Ideal) (φ := .f32) (angle (P (ix2 ⟨(R : ℕ) / 4096, by omega⟩ ⟨(R : ℕ) % 4096, by omega⟩)) l)

/-- The array of the cosine table. -/
def cosOut (c : Dev nD) : S16384x128.Idx → EReal := fun i => cosAt (m ((c : Thread nD τ).loc main_arg0)) (i 0) (i 1)
/-- The array of the sine table. -/
def sinOut (c : Dev nD) : S16384x128.Idx → EReal := fun i => sinAt (m ((c : Thread nD τ).loc main_arg0)) (i 0) (i 1)

/-- What the body stores in the cosine block. -/
theorem cos_point (P : IVec S4x4096 32) (x0 : IVec S1024x1 32) (x1 : FVec Ideal S1x128 .f32) (r : Fin 1024) (l : Fin 128) (R : Fin 16384)
    (h0 : x0 (ix2 r 0) = P (ix2 ⟨(R : ℕ) / 4096, by omega⟩ ⟨(R : ℕ) % 4096, by omega⟩)) (h1 : x1 (ix2 0 l) = freq (ix1 ⟨l % 64, by omega⟩)) :
    k0_pay2 (F := Ideal) x0 x1 (ix2 r l) = cosAt P R l := by
  pointwise [k0_pay2, k0_pay1, cosAt, angle, h0, h1]

/-- What the body stores in the sine block. -/
theorem sin_point (P : IVec S4x4096 32) (x0 : IVec S1024x1 32) (x1 : FVec Ideal S1x128 .f32) (r : Fin 1024) (l : Fin 128) (R : Fin 16384)
    (h0 : x0 (ix2 r 0) = P (ix2 ⟨(R : ℕ) / 4096, by omega⟩ ⟨(R : ℕ) % 4096, by omega⟩)) (h1 : x1 (ix2 0 l) = freq (ix1 ⟨l % 64, by omega⟩)) :
    k0_pay3 (F := Ideal) x0 x1 (ix2 r l) = sinAt P R l := by
  pointwise [k0_pay3, k0_pay1, sinAt, angle, h0, h1]
  word_cmp

/-- What a point leaves in the cosine block. -/
theorem left_cos (c : Dev nD) (t : Fin cfg0.N) : (dats m 0 c).after 2 t = k0_pay2 (iblk m c 0 t) (iblk m c 1 t) := by
  rw [after0_2]; frame_out

/-- What a point leaves in the sine block. -/
theorem left_sin (c : Dev nD) (t : Fin cfg0.N) : (dats m 0 c).after 3 t = k0_pay3 (iblk m c 0 t) (iblk m c 1 t) := by
  rw [after0_3]; frame_out

/-- The stored cosine at a row of a block is the token's. -/
theorem cos_block (c : Dev nD) (t : Fin cfg0.N) (r : Fin 1024) (l : Fin 128) (R : Fin 16384) (hR : R.val = t.val * 1024 + r.val) :
    k0_pay2 (F := Ideal) (iblk m c 0 t) (iblk m c 1 t) (ix2 r l) = cosOut m c (ix2 R l) := by
  refine cos_point (m ((c : Thread nD τ).loc main_arg0)) _ _ r l R (pos_at m c t r _ _ ?_) (freq_at m c t l)
  show (R : ℕ) / 4096 * 4096 + (R : ℕ) % 4096 = _
  omega

/-- The table of the cosine, whole. -/
theorem final_cos (c : Dev nD) : (dats m 0 c).arrAt 2 cfg0.N = cosOut m c := by
  refine (dats m 0 c).arrAt_eq_of_covers 2 _ (by decide +kernel) fun t _ y => ?_
  blk_simp
  rw [left_cos]
  obtain ⟨r, l, rfl⟩ : ∃ (r : Fin 1024) (l : Fin 128), y = ix2 r l := ⟨y 0, y 1, eq_ix2 y⟩
  have hi := (idx t).2.2.2.2
  have e2 : ((cfg0.win 2).blk t).view.emb (ix2 r l) = ix2 ⟨t.val * 1024 + r.val, by omega⟩ l := by
    blk_ext [idx t]
  refine (cos_block m c t r l ⟨t.val * 1024 + r.val, by omega⟩ rfl).trans ?_
  exact congrArg (cosOut m c) e2.symm

/-- The stored sine at a row of a block is the token's. -/
theorem sin_block (c : Dev nD) (t : Fin cfg0.N) (r : Fin 1024) (l : Fin 128) (R : Fin 16384) (hR : R.val = t.val * 1024 + r.val) :
    k0_pay3 (F := Ideal) (iblk m c 0 t) (iblk m c 1 t) (ix2 r l) = sinOut m c (ix2 R l) := by
  refine sin_point (m ((c : Thread nD τ).loc main_arg0)) _ _ r l R (pos_at m c t r _ _ ?_) (freq_at m c t l)
  show (R : ℕ) / 4096 * 4096 + (R : ℕ) % 4096 = _
  omega

/-- The table of the sine, whole. -/
theorem final_sin (c : Dev nD) : (dats m 0 c).arrAt 3 cfg0.N = sinOut m c := by
  refine (dats m 0 c).arrAt_eq_of_covers 3 _ (by decide +kernel) fun t _ y => ?_
  blk_simp
  rw [left_sin]
  obtain ⟨r, l, rfl⟩ : ∃ (r : Fin 1024) (l : Fin 128), y = ix2 r l := ⟨y 0, y 1, eq_ix2 y⟩
  have hi := (idx t).2.2.2.2
  have e2 : ((cfg0.win 3).blk t).view.emb (ix2 r l) = ix2 ⟨t.val * 1024 + r.val, by omega⟩ l := by
    blk_ext [idx t]
  refine (sin_block m c t r l ⟨t.val * 1024 + r.val, by omega⟩ rfl).trans ?_
  exact congrArg (sinOut m c) e2.symm

end Cert.Kernel4Ideal.TrigValue

end
-- ==== Proof.TrigRef.lean ====
/-
  The reference's rotary tables, and that the kernel leaves the same ones.
-/
module

public import proofs.«01_k».proof.Defs
public import proofs.«01_k».proof.Proof.TrigBlock
public import proofs.«01_k».proof.Proof.Gen.Reference4Ideal.Run
public import Idealize.ShloMosaic.Lib.Claim

@[expose] public section

set_option maxRecDepth 16384

noncomputable section

namespace Cert.Reference4Ideal.RefValue

open Cert.Reference4Ideal Cert.Reference4Ideal.Gen Idealize.ShloMosaic Idealize.ShloMosaic.TcCoe Idealize.SL.Sem

/-- The angles: each position times each frequency, one row per token. -/
def angles (P : IVec S4x4096 32) : FVec Ideal S16384x64 .f32 :=
  shapeCast _ (mulf (broadcastInDim S4x4096x64 ![0, 1, 2] bcast_S4x4096x1_S4x4096x64_0_1_2 (broadcastInDim S4x4096x1 ![0, 1] bcast_S4x4096_S4x4096x1_0_1 (sitofp .f32 P))) (broadcastInDim S4x4096x64 ![0, 1, 2] bcast_S1x1x64_S4x4096x64_0_1_2 (broadcastInDim S1x1x64 ![2] bcast_S64_S1x1x64_2 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))) shapeCasts_S4x4096x64_S16384x64

/-- The cosines, twice side by side. -/
def cosTable (P : IVec S4x4096 32) : FVec Ideal S16384x128 .f32 :=
  concatenate S16384x128 1 [⟨S16384x64, Host.cos (angles P)⟩, ⟨S16384x64, Host.cos (angles P)⟩] concatenates_S16384x64_S16384x64_S16384x128_d1

/-- The negated sines beside the sines. -/
def sinTable (P : IVec S4x4096 32) : FVec Ideal S16384x128 .f32 :=
  concatenate S16384x128 1 [⟨S16384x64, Host.negf (Host.sin (angles P))⟩, ⟨S16384x64, Host.sin (angles P)⟩] concatenates_S16384x64_S16384x64_S16384x128_d1

/-- One angle. -/
theorem angles_at (P : IVec S4x4096 32) (R : Fin 16384) (j : Fin 64) (l : Fin 128) (h : (l : ℕ) % 64 = j) :
    angles P (ix2 R j) = Cert.Kernel4Ideal.TrigValue.angle (P (ix2 ⟨(R : ℕ) / 4096, by omega⟩ ⟨(R : ℕ) % 4096, by omega⟩)) l := by
  obtain ⟨j, hj⟩ := j
  simp only at h
  subst h
  pointwise [angles, Cert.Kernel4Ideal.TrigValue.angle, Cert.Kernel4Ideal.TrigValue.freq]

/-- One cosine. -/
theorem cosTable_at (P : IVec S4x4096 32) (R : Fin 16384) (l : Fin 128) :
    cosTable P (ix2 R l) = Cert.Kernel4Ideal.TrigValue.cosAt P R l := by
  pointwise [cosTable, Cert.Kernel4Ideal.TrigValue.cosAt]
  by_cases h : (l : ℕ) < 64
  · rw [dif_pos h, angles_at P R ⟨l, h⟩ l (Nat.mod_eq_of_lt h)]
  · rw [dif_neg h, angles_at P R ⟨l - 64, by omega⟩ l (by show (l : ℕ) % 64 = l - 64; omega)]

/-- One sine. -/
theorem sinTable_at (P : IVec S4x4096 32) (R : Fin 16384) (l : Fin 128) :
    sinTable P (ix2 R l) = Cert.Kernel4Ideal.TrigValue.sinAt P R l := by
  pointwise [sinTable, Cert.Kernel4Ideal.TrigValue.sinAt]
  by_cases h : (l : ℕ) < 64
  · rw [dif_pos h, if_pos h, angles_at P R ⟨l, h⟩ l (Nat.mod_eq_of_lt h)]
    try exact (zero_sub _).symm
  · rw [dif_neg h, if_neg h, angles_at P R ⟨l - 64, by omega⟩ l (by show (l : ℕ) % 64 = l - 64; omega)]

end Cert.Reference4Ideal.RefValue

namespace Cert.TrigClaim

open Idealize.ShloMosaic Idealize.ShloMosaic.TcCoe Idealize.SL.Sem

/-- The rotary tables: from agreeing positions, the kernel and the reference end with equal tables. -/
theorem algebraic : Cert.algebraic_Kernel4Ideal_Reference4Ideal := by
  pair_intro
  · run_from Cert.Kernel4Ideal.Gen.run_main m g & Cert.Kernel4Ideal.Gen.unchanged m g
  · run_from Cert.Reference4Ideal.Value.run m' g'
    · refine Eq.trans ?_ (Cert.Kernel4Ideal.TrigValue.final_cos m c).symm
      funext i
      refine (congrArg (Cert.Reference4Ideal.RefValue.cosTable _) (eq_ix2 i)).trans ((Cert.Reference4Ideal.RefValue.cosTable_at _ (i 0) (i 1)).trans ?_)
      exact congrArg (fun P => Cert.Kernel4Ideal.TrigValue.cosAt P (i 0) (i 1)) (hagree c)
    · refine Eq.trans ?_ (Cert.Kernel4Ideal.TrigValue.final_sin m c).symm
      funext i
      refine (congrArg (Cert.Reference4Ideal.RefValue.sinTable _) (eq_ix2 i)).trans ((Cert.Reference4Ideal.RefValue.sinTable_at _ (i 0) (i 1)).trans ?_)
      exact congrArg (fun P => Cert.Kernel4Ideal.TrigValue.sinAt P (i 0) (i 1)) (hagree c)

end Cert.TrigClaim

end
-- ==== Proof.RetPieces.lean ====
/-
  What one point of the retention leaves, head by head.
-/
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.RetValue

open Cert.KernelIdeal Cert.KernelIdeal.Gen Idealize.ShloMosaic Idealize.ShloMosaic.TcCoe Idealize.SL.Sem

/-- One head's columns of a row block. -/
def cols (x : Vec Ideal S256x1024 .f32) (h : Fin 8) : Vec Ideal S256x128 .f32 :=
  View.ld x (Rect.unit ![0, h.val * 128] ![256, 128] (by
    intro a; match a with | 0 => exact le_refl 256 | 1 => exact (by have := h.isLt; show h.val * 128 + 128 ≤ 1024; omega)))

/-- One head's columns of a row. -/
def colr (x : Vec Ideal S1x1024 .f32) (h : Fin 8) : Vec Ideal S1x128 .f32 :=
  View.ld x (Rect.unit ![0, h.val * 128] ![1, 128] (by
    intro a; match a with | 0 => exact le_refl 1 | 1 => exact (by have := h.isLt; show h.val * 128 + 128 ≤ 1024; omega)))

/-- One head's state. -/
def stat (x : Vec Ideal S8x128x128 .f32) (h : Fin 8) : Vec Ideal S1x128x128 .f32 :=
  View.ld x (Rect.unit ![h.val, 0, 0] ![1, 128, 128] (by
    intro a; match a with | 0 => exact h.isLt | 1 => exact le_refl 128 | 2 => exact le_refl 128))

/-- One head's row of logarithms. -/
def lgr (x : Vec Ideal S8x1x128 .f32) (h : Fin 8) : Vec Ideal S1x1x128 .f32 :=
  View.ld x (Rect.unit ![h.val, 0, 0] ![1, 1, 128] (by
    intro a; match a with | 0 => exact h.isLt | 1 => exact le_refl 1 | 2 => exact le_refl 128))

/-- One head's centred output. -/
def hdev (q k v : Vec Ideal S256x128 .f32) (cos sin : Vec Ideal S256x128 .f32) (lg : Vec Ideal S1x1x128 .f32)
    (st : Vec Ideal S1x128x128 .f32) : FVec Ideal S256x128 .f32 :=
  k0_pay16 k0_pay5 k0_pay7 (k0_pay8 lg) (k0_pay9 cos sin q) (k0_pay10 cos sin k) (k0_pay11 v) (k0_pay12 lg) k0_pay13 st

/-- One head's output. -/
def hout (q k v g : Vec Ideal S256x128 .f32) (cos sin : Vec Ideal S256x128 .f32) (lg : Vec Ideal S1x1x128 .f32)
    (gn : Vec Ideal S1x128 .f32) (st : Vec Ideal S1x128x128 .f32) : FVec Ideal S256x128 .bf16 :=
  k0_pay18 (hdev q k v cos sin lg st) (mulf (hdev q k v cos sin lg st) (hdev q k v cos sin lg st)) gn g

/-- One head's next state. -/
def hst (k v : Vec Ideal S256x128 .f32) (cos sin : Vec Ideal S256x128 .f32) (lg : Vec Ideal S1x1x128 .f32)
    (st : Vec Ideal S1x128x128 .f32) : FVec Ideal S1x128x128 .f32 :=
  k0_pay15 k0_pay7 (k0_pay8 lg) (k0_pay10 cos sin k) (k0_pay11 v) st

/-- An index of a head's block, from its coordinates. -/
theorem ix2_of (x : S256x128.Idx) (r : Fin 256) (e : Fin 128) (h0 : r.val = (x 0).val) (h1 : e.val = (x 1).val) :
    x = ix2 r e := by
  funext a
  match a with
  | 0 => exact Fin.ext h0.symm
  | 1 => exact Fin.ext h1.symm

/-- An index of a head's state, from its coordinates. -/
theorem ix3_of (x : S1x128x128.Idx) (d e : Fin 128) (h1 : d.val = (x 1).val) (h2 : e.val = (x 2).val) :
    x = ix3 0 d e := by
  funext a
  match a with
  | 0 => exact Subsingleton.elim (α := Fin 1) _ _
  | 1 => exact Fin.ext h1.symm
  | 2 => exact Fin.ext h2.symm

variable (m : (ℓ : Loc nD τ sig) → Buf (Elt Ideal) ℓ) (c : Dev nD) (t : Fin cfg0.N)

/-- The state a point starts from: zero at the first point of a sequence. -/
def start (n : ℕ) (hn : n < cfg0.N) : Vec Ideal S8x128x128 .f32 :=
  if n % 16 = 0 then k0_pay2 (F := Ideal) else (outsAt0 m c (n - 1) (by omega)).2

/-- What a later point of a sequence leaves in a head's columns of its output block. -/
theorem leftB (h : ¬ t.val % 16 = 0) (r : Fin 256) (hd : Fin 8) (e : Fin 128) :
    (outsAt0 m c t.val t.isLt).1 (ix2 r ⟨hd.val * 128 + e.val, by omega⟩)
      = hout (cols (X0_0 m c t) hd) (cols (X0_1 m c t) hd) (cols (X0_2 m c t) hd) (cols (X0_3 m c t) hd)
          (iblk m c 4 t) (iblk m c 5 t) (lgr (iblk m c 6 t) hd) (colr (iblk m c 7 t) hd)
          (stat (outsAt0 m c (t.val - 1) (by have := t.isLt; omega)).2 hd) (ix2 r e) := by
  conv_lhs => rw [outsAt0_B m c t h]
  generalize (outsAt0 m c (t.val - 1) _).2 = s0
  generalize X0_0 m c t = x0
  generalize X0_1 m c t = x1
  generalize X0_2 m c t = x2
  generalize X0_3 m c t = x3
  generalize iblk m c 4 t = x4
  generalize iblk m c 5 t = x5
  generalize iblk m c 6 t = x6
  generalize iblk m c 7 t = x7
  dsimp only
  frame_out
  simp only [read_unread_whole]
  canon_tiles x hx
  all_goals
    have e0 : r.val = _ := hx0
    have e1 : hd.val * 128 + e.val = _ := hx1
    fin_cases hd <;> dsimp only at e1 <;> first
      | (exfalso; omega)
      | (obtain rfl := ix2_of x r e (by omega) (by omega); rfl)

/-- What a later point of a sequence leaves in a head's state. -/
theorem leftBs (h : ¬ t.val % 16 = 0) (hd : Fin 8) (d e : Fin 128) :
    (outsAt0 m c t.val t.isLt).2 (ix3 hd d e)
      = hst (cols (X0_1 m c t) hd) (cols (X0_2 m c t) hd)
          (iblk m c 4 t) (iblk m c 5 t) (lgr (iblk m c 6 t) hd)
          (stat (outsAt0 m c (t.val - 1) (by have := t.isLt; omega)).2 hd) (ix3 0 d e) := by
  conv_lhs => rw [outsAt0_B m c t h]
  generalize (outsAt0 m c (t.val - 1) _).2 = s0
  generalize X0_0 m c t = x0
  generalize X0_1 m c t = x1
  generalize X0_2 m c t = x2
  generalize X0_3 m c t = x3
  generalize iblk m c 4 t = x4
  generalize iblk m c 5 t = x5
  generalize iblk m c 6 t = x6
  generalize iblk m c 7 t = x7
  dsimp only
  frame_out
  simp only [read_unread_whole]
  canon_tiles x hx
  all_goals
    have e0 : hd.val = _ := hx0
    have e1 : d.val = _ := hx1
    have e2 : e.val = _ := hx2
    fin_cases hd <;> dsimp only at e0 <;> first
      | (exfalso; omega)
      | (obtain rfl := ix3_of x d e (by omega) (by omega); rfl)

/-- What the first point of a sequence leaves in a head's columns of its output block. -/
theorem leftA (h : t.val % 16 = 0) (r : Fin 256) (hd : Fin 8) (e : Fin 128) :
    (outsAt0 m c t.val t.isLt).1 (ix2 r ⟨hd.val * 128 + e.val, by omega⟩)
      = hout (cols (X0_0 m c t) hd) (cols (X0_1 m c t) hd) (cols (X0_2 m c t) hd) (cols (X0_3 m c t) hd)
          (iblk m c 4 t) (iblk m c 5 t) (lgr (iblk m c 6 t) hd) (colr (iblk m c 7 t) hd)
          (stat (k0_pay2 (F := Ideal)) hd) (ix2 r e) := by
  conv_lhs => rw [outsAt0_A m c t h]
  generalize X0_0 m c t = x0
  generalize X0_1 m c t = x1
  generalize X0_2 m c t = x2
  generalize X0_3 m c t = x3
  generalize iblk m c 4 t = x4
  generalize iblk m c 5 t = x5
  generalize iblk m c 6 t = x6
  generalize iblk m c 7 t = x7
  dsimp only
  frame_out
  simp (disch := decide) only [↓View.readCov_skip, View.readCov_fill]
  canon_tiles x hx
  all_goals
    have e0 : r.val = _ := hx0
    have e1 : hd.val * 128 + e.val = _ := hx1
    fin_cases hd <;> dsimp only at e1 <;> first
      | (exfalso; omega)
      | (obtain rfl := ix2_of x r e (by omega) (by omega); rfl)

/-- A store below others that already cover an index does not show there. -/
theorem canon_drop (q : View.Piece (Elt Ideal) S8x128x128 .f32) (y : S8x128x128.Idx) :
    ∀ L : List (View.Piece (Elt Ideal) S8x128x128 .f32), (∃ p ∈ L, y ∈ p.1.set) → View.canon (L ++ [q]) y = View.canon L y
  | [], hy => by obtain ⟨p, hp, _⟩ := hy; simp at hp
  | p :: L, hy => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_drop q y L ?_
      obtain ⟨r, hr, hyr⟩ := hy
      rcases List.mem_cons.mp hr with rfl | h
      · exact absurd hyr hm
      · exact ⟨r, h, hyr⟩

/-- The same for eight stores over one. -/
theorem canon_eight (p7 p6 p5 p4 p3 p2 p1 p0 q : View.Piece (Elt Ideal) S8x128x128 .f32) (y : S8x128x128.Idx)
    (hc : ∃ p ∈ [p7, p6, p5, p4, p3, p2, p1, p0], y ∈ p.1.set) :
    View.canon [p7, p6, p5, p4, p3, p2, p1, p0, q] y = View.canon [p7, p6, p5, p4, p3, p2, p1, p0] y :=
  canon_drop q y [p7, p6, p5, p4, p3, p2, p1, p0] hc

/-- What the first point of a sequence leaves in a head's state. -/
theorem leftAs (h : t.val % 16 = 0) (hd : Fin 8) (d e : Fin 128) :
    (outsAt0 m c t.val t.isLt).2 (ix3 hd d e)
      = hst (cols (X0_1 m c t) hd) (cols (X0_2 m c t) hd)
          (iblk m c 4 t) (iblk m c 5 t) (lgr (iblk m c 6 t) hd)
          (stat (k0_pay2 (F := Ideal)) hd) (ix3 0 d e) := by
  conv_lhs => rw [outsAt0_A m c t h]
  generalize X0_0 m c t = x0
  generalize X0_1 m c t = x1
  generalize X0_2 m c t = x2
  generalize X0_3 m c t = x3
  generalize iblk m c 4 t = x4
  generalize iblk m c 5 t = x5
  generalize iblk m c 6 t = x6
  generalize iblk m c 7 t = x7
  dsimp only
  frame_out
  simp (disch := decide) only [↓View.readCov_skip, View.readCov_fill]
  refine (canon_eight _ _ _ _ _ _ _ _ _ _ ?_).trans ?_
  · refine View.cover_of_tiledL (s := S8x128x128) _ S1x128x128.size ?_ _
    sl_kernel_rfl
  canon_tiles x hx
  all_goals
    have e0 : hd.val = _ := hx0
    have e1 : d.val = _ := hx1
    have e2 : e.val = _ := hx2
    fin_cases hd <;> dsimp only at e0 <;> first
      | (exfalso; omega)
      | (obtain rfl := ix3_of x d e (by omega) (by omega); rfl)

/-- What a point leaves in a head's columns of its output block. -/
theorem left (r : Fin 256) (hd : Fin 8) (e : Fin 128) :
    (outsAt0 m c t.val t.isLt).1 (ix2 r ⟨hd.val * 128 + e.val, by omega⟩)
      = hout (cols (X0_0 m c t) hd) (cols (X0_1 m c t) hd) (cols (X0_2 m c t) hd) (cols (X0_3 m c t) hd)
          (iblk m c 4 t) (iblk m c 5 t) (lgr (iblk m c 6 t) hd) (colr (iblk m c 7 t) hd)
          (stat (start m c t.val t.isLt) hd) (ix2 r e) := by
  by_cases h : t.val % 16 = 0
  · rw [leftA m c t h]; unfold start; rw [if_pos h]
  · rw [leftB m c t h]; unfold start; rw [if_neg h]

/-- What a point leaves in a head's state. -/
theorem lefts (hd : Fin 8) (d e : Fin 128) :
    (outsAt0 m c t.val t.isLt).2 (ix3 hd d e)
      = hst (cols (X0_1 m c t) hd) (cols (X0_2 m c t) hd)
          (iblk m c 4 t) (iblk m c 5 t) (lgr (iblk m c 6 t) hd)
          (stat (start m c t.val t.isLt) hd) (ix3 0 d e) := by
  by_cases h : t.val % 16 = 0
  · rw [leftAs m c t h]; unfold start; rw [if_pos h]
  · rw [leftBs m c t h]; unfold start; rw [if_neg h]

end Cert.KernelIdeal.RetValue

end
-- ==== Proof.RetMath.lean ====
/-
  Decayed sums over a sequence, taken chunk by chunk or all at once.
-/
module

public import proofs.«01_k».proof.Proof.Reals
public import Mathlib.Algebra.BigOperators.Intervals
public import Mathlib.Analysis.SpecialFunctions.Exp

@[expose] public section

noncomputable section

namespace Cert.Decay

/-- What the first `n` places leave in a state entry: each place's product, decayed since. -/
def state (l : ℝ) (k v : ℕ → ℝ) (n : ℕ) : ℝ :=
  ∑ m ∈ Finset.range n, k m * Real.exp (((n : ℝ) - 1 - m) * l) * v m

/-- Nothing has passed: the state is zero. -/
theorem state_zero (l : ℝ) (k v : ℕ → ℝ) : state l k v 0 = 0 := by simp [state]

/-- A chunk further: the old state decayed by the chunk's length, and the chunk's own products. -/
theorem state_add (l : ℝ) (k v : ℕ → ℝ) (n C : ℕ) :
    state l k v (n + C) = state l k v n * Real.exp (C * l)
      + ∑ r ∈ Finset.range C, k (n + r) * Real.exp (((C : ℝ) - 1 - r) * l) * v (n + r) := by
  unfold state
  rw [Finset.sum_range_add, Finset.sum_mul]
  congr 1
  · refine Finset.sum_congr rfl fun m _ => ?_
    have h : (((n + C : ℕ) : ℝ) - 1 - m) * l = ((n : ℝ) - 1 - m) * l + C * l := by push_cast; ring
    rw [h, Real.exp_add]
    ring
  · refine Finset.sum_congr rfl fun r _ => ?_
    have h : (((n + C : ℕ) : ℝ) - 1 - ((n + r : ℕ) : ℝ)) * l = ((C : ℝ) - 1 - r) * l := by push_cast; ring
    rw [h]

/-- The output at place `s`: every place up to it, weighted by its product with the query and its decay. -/
def out {D : Type} [Fintype D] (l : ℝ) (q : D → ℝ) (k : D → ℕ → ℝ) (v : ℕ → ℝ) (s : ℕ) : ℝ :=
  ∑ m ∈ Finset.range (s + 1), (∑ d, q d * k d m) * Real.exp (((s : ℝ) - m) * l) * v m

/-- The output from a chunk's own scores and the state before the chunk. -/
theorem out_chunk {D : Type} [Fintype D] (l : ℝ) (q : D → ℝ) (k : D → ℕ → ℝ) (v : ℕ → ℝ) (n r C : ℕ) (hr : r < C) :
    (∑ j ∈ Finset.range C, (∑ d, q d * k d (n + j)) * (if j ≤ r then Real.exp (((r : ℝ) - j) * l) else 0) * v (n + j))
      + (∑ d, q d * state l (k d) v n) * Real.exp (((r : ℝ) + 1) * l) = out l q k v (n + r) := by
  unfold out
  rw [show n + r + 1 = n + (r + 1) from rfl, Finset.sum_range_add, add_comm]
  congr 1
  · unfold state
    simp only [Finset.mul_sum, Finset.sum_mul]
    rw [Finset.sum_comm]
    refine Finset.sum_congr rfl fun m _ => Finset.sum_congr rfl fun d _ => ?_
    have h : (((n + r : ℕ) : ℝ) - m) * l = ((n : ℝ) - 1 - m) * l + ((r : ℝ) + 1) * l := by push_cast; ring
    rw [h, Real.exp_add]
    ring
  · rw [← Finset.sum_subset (Finset.range_mono (Nat.succ_le_of_lt hr))]
    · refine Finset.sum_congr rfl fun j hj => ?_
      have hj' : j ≤ r := Nat.lt_succ_iff.mp (Finset.mem_range.mp hj)
      have h : (((n + r : ℕ) : ℝ) - ((n + j : ℕ) : ℝ)) * l = ((r : ℝ) - j) * l := by push_cast; ring
      rw [if_pos hj', h]
    · intro j _ hj
      have hj' : ¬ j ≤ r := fun h => hj (Finset.mem_range.mpr (Nat.lt_succ_of_le h))
      rw [if_neg hj', mul_zero, zero_mul]

end Cert.Decay

end
-- ==== Proof.RetHead.lean ====
/-
  One head of one point of the retention, at an index.
-/
module

public import proofs.«01_k».proof.Proof.RetPieces
public import proofs.«01_k».proof.Proof.RetMath
public import proofs.«01_k».proof.Proof.Reals

@[expose] public section

set_option maxRecDepth 16384

noncomputable section

namespace Cert.KernelIdeal.RetValue

open Cert.KernelIdeal Cert.KernelIdeal.Gen Idealize.ShloMosaic Idealize.ShloMosaic.TcCoe Idealize.SL.Sem

variable (q k v g cos sin : Vec Ideal S256x128 .f32) (lg : Vec Ideal S1x1x128 .f32) (gn : Vec Ideal S1x128 .f32)
  (st : Vec Ideal S1x128x128 .f32)

/-- The rotated query. -/
theorem pay9_at (r : Fin 256) (d : Fin 128) : k0_pay9 cos sin q (ix2 r d)
    = q (ix2 r d) * cos (ix2 r d) + q (ix2 r ⟨(d.val + 128 - 64) % 128, Nat.mod_lt _ (by norm_num)⟩) * sin (ix2 r d) := by
  pointwise [k0_pay9, k0_pay3, k0_pay4]

/-- The rotated and scaled key. -/
theorem pay10_at (r : Fin 256) (d : Fin 128) : k0_pay10 cos sin k (ix2 r d)
    = (k (ix2 r d) * cos (ix2 r d) + k (ix2 r ⟨(d.val + 128 - 64) % 128, Nat.mod_lt _ (by norm_num)⟩) * sin (ix2 r d))
      * Ideal.ofBits .f32 0x3DB504F3#32 := by
  pointwise [k0_pay10, k0_pay3, k0_pay4]

/-- A small word read as a signed number. -/
theorem toInt_small (n : ℕ) (h : n < 2 ^ 31) : (BitVec.ofNat 32 n).toInt = (n : ℤ) := by
  rw [BitVec.toInt_eq_toNat_of_lt] <;> rw [BitVec.toNat_ofNat, Nat.mod_eq_of_lt (by omega)]
  omega

/-- The row's number as a real number. -/
theorem num (n : ℕ) (h : n < 2 ^ 31) : (FloatOps.sitofp FTy.f32 (BitVec.ofNat 32 n) : Ideal .f32) = ((n : ℝ) : EReal) := by
  show (((BitVec.ofNat 32 n).toInt : ℝ) : EReal) = _
  rw [toInt_small n h]
  norm_num

/-- The decay between two rows of a block, of a real logarithm the same in every lane. -/
theorem pay12_at (l : ℝ) (hl : ∀ e : Fin 128, lg (ix3 0 0 e) = (l : EReal)) (r c : Fin 256) (h : c.val ≤ r.val) :
    k0_pay12 lg (ix2 r c) = ((Real.exp (((r.val : ℝ) - c.val) * l) : ℝ) : EReal) := by
  pointwise [k0_pay12, k0_pay8, k0_pay6, hl]
  have e : IntOp.maxsi (IntOp.subi (BitVec.ofNat 32 ↑r) (BitVec.ofNat 32 ↑c)) 0#32 = BitVec.ofNat 32 (r.val - c.val) := by
    have e0 : IntOp.subi (BitVec.ofNat 32 ↑r) (BitVec.ofNat 32 ↑c) = BitVec.ofNat 32 (r.val - c.val) := by
      show BitVec.ofNat 32 ↑r - BitVec.ofNat 32 ↑c = _
      apply BitVec.eq_of_toNat_eq
      simp only [BitVec.toNat_sub, BitVec.toNat_ofNat]
      omega
    rw [e0]
    unfold IntOp.maxsi
    split_ifs with hs
    · rfl
    · have hz : r.val - c.val = 0 := by
        by_contra hn
        refine hs ?_
        rw [BitVec.slt_iff_toInt_lt, toInt_small (r.val - c.val) (by omega)]
        have h0 : (0#32).toInt = 0 := by decide
        omega
      rw [hz]
  rw [e, num _ (by omega), dite_eq_ite, ite_self, ← EReal.coe_mul, Ideal.exp_coe, Nat.cast_sub h]

/-- Which pairs of rows are seen. -/
theorem pay5_at (r c : Fin 256) : k0_pay5 (ix2 r c) = if c.val ≤ r.val then 1#1 else 0#1 := by
  pointwise [k0_pay5]
  word_cmp
  by_cases h : c.val ≤ r.val <;> simp [h]

/-- The next state at an entry. -/
theorem hst_at (d e : Fin 128) : hst k v cos sin lg st (ix3 0 d e)
    = st (ix3 0 d e) * Ideal.exp (Ideal.ofBits .f32 0x43800000#32 * lg (ix3 0 0 e))
      + ∑ x : Fin 256, k0_pay10 cos sin k (ix2 x d)
          * Ideal.exp ((Ideal.ofBits .f32 0x437F0000#32 - ((x.val : ℝ) : EReal)) * lg (ix3 0 0 d)) * v (ix2 x e) := by
  pointwise [hst, k0_pay15, k0_pay14, k0_pay11, k0_pay7, k0_pay8]
  simp only [fun x : Fin 256 => num x.val (by omega)]

/-- A head's raw output at an entry. -/
def raw (q k v cos sin : Vec Ideal S256x128 .f32) (lg : Vec Ideal S1x1x128 .f32) (st : Vec Ideal S1x128x128 .f32)
    (r : Fin 256) (e : Fin 128) : EReal :=
  ∑ x : Fin 256, (if x.val ≤ r.val then
      (∑ d : Fin 128, k0_pay9 cos sin q (ix2 r d) * k0_pay10 cos sin k (ix2 x d)) * k0_pay12 lg (ix2 r x) * v (ix2 x e) else 0)
    + (∑ d : Fin 128, k0_pay9 cos sin q (ix2 r d) * st (ix3 0 d e)) * Ideal.exp ((((r.val : ℝ) : EReal) + 1) * lg (ix3 0 0 e))

/-- A selection by a decided word. -/
theorem sel (p : Prop) [Decidable p] (a b : EReal) : Scalar.select (if p then 1#1 else 0#1) a b = if p then a else b := by
  by_cases h : p <;> simp [h, Scalar.select]

/-- A head's centred output at an entry. -/
theorem hdev_at (r : Fin 256) (e : Fin 128) : hdev q k v cos sin lg st (ix2 r e)
    = raw q k v cos sin lg st r e - Ideal.div (∑ x : Fin 128, raw q k v cos sin lg st r x) (Ideal.ofBits .f32 0x43000000#32) := by
  pointwise [hdev, k0_pay16, k0_pay14, k0_pay11, k0_pay7, k0_pay8, k0_pay13, pay5_at, raw]
  simp only [num r.val (by omega), sel]

/-- The block's length less one, as its pattern. -/
theorem last_f32 : Ideal.ofBits .f32 0x437F0000#32 = ((255 : ℝ) : EReal) := by
  simp [Ideal.ofBits, Ideal.ieee, -EReal.coe_mul]
  norm_num

/-- The block's length, as its pattern. -/
theorem len_f32 : Ideal.ofBits .f32 0x43800000#32 = ((256 : ℝ) : EReal) := by
  simp [Ideal.ofBits, Ideal.ieee, -EReal.coe_mul]
  norm_num

section real

variable (l : ℝ) (K V : Fin 128 → ℕ → ℝ) (n : ℕ)
  (hl : ∀ e : Fin 128, lg (ix3 0 0 e) = (l : EReal))
  (hk : ∀ (x : Fin 256) (d : Fin 128), k0_pay10 cos sin k (ix2 x d) = ((K d (n + x.val) : ℝ) : EReal))
  (hv : ∀ (x : Fin 256) (e : Fin 128), v (ix2 x e) = ((V e (n + x.val) : ℝ) : EReal))
  (hs : ∀ d e : Fin 128, st (ix3 0 d e) = ((Cert.Decay.state l (K d) (V e) n : ℝ) : EReal))

include hl hk hv hs in
/-- Of real inputs and the state at a position, the next state is the one a block further. -/
theorem hst_real (d e : Fin 128) :
    hst k v cos sin lg st (ix3 0 d e) = ((Cert.Decay.state l (K d) (V e) (n + 256) : ℝ) : EReal) := by
  rw [hst_at, hs, len_f32, last_f32]
  simp only [hl, hk, hv, ← EReal.coe_mul, ← EReal.coe_sub, Ideal.exp_coe]
  rw [← Cert.Reals.coe_sum, ← EReal.coe_add, Cert.Decay.state_add, Finset.sum_range]
  norm_num

include hl hk hv hs in
/-- Of real inputs and the state at a position, the raw output is the decayed attention's. -/
theorem raw_real (Q : Fin 128 → ℝ) (r : Fin 256) (e : Fin 128)
    (hq : ∀ d : Fin 128, k0_pay9 cos sin q (ix2 r d) = ((Q d : ℝ) : EReal)) :
    raw q k v cos sin lg st r e = ((Cert.Decay.out l Q K (V e) (n + r.val) : ℝ) : EReal) := by
  have e1 : ∀ x : Fin 256, (if x.val ≤ r.val then
      (∑ d : Fin 128, k0_pay9 cos sin q (ix2 r d) * k0_pay10 cos sin k (ix2 x d)) * k0_pay12 lg (ix2 r x) * v (ix2 x e) else 0)
      = (((∑ d, Q d * K d (n + x.val)) * (if x.val ≤ r.val then Real.exp (((r.val : ℝ) - x.val) * l) else 0) * V e (n + x.val) : ℝ) : EReal) := by
    intro x
    by_cases h : x.val ≤ r.val
    · rw [if_pos h, if_pos h, pay12_at lg l hl r x h, hv]
      simp only [hq, hk, ← EReal.coe_mul]
      rw [← Cert.Reals.coe_sum, ← EReal.coe_mul, ← EReal.coe_mul]
    · rw [if_neg h, if_neg h]
      simp
  unfold raw
  rw [Finset.sum_congr rfl fun x _ => e1 x]
  simp only [hq, hs, hl, ← EReal.coe_mul]
  rw [← Cert.Reals.coe_sum, ← Cert.Reals.coe_sum, ← EReal.coe_one, ← EReal.coe_add, ← EReal.coe_mul, Ideal.exp_coe, ← EReal.coe_mul,
    ← EReal.coe_add, ← Cert.Decay.out_chunk l Q K (V e) n r.val 256 r.isLt, Finset.sum_range]

end real

/-- A head's output at an entry. -/
theorem hout_at (r : Fin 256) (e : Fin 128) : hout q k v g cos sin lg gn st (ix2 r e)
    = g (ix2 r e) * Ideal.div 1 (1 + Ideal.exp (0 - g (ix2 r e)))
      * (hdev q k v cos sin lg st (ix2 r e)
        * Ideal.rsqrt (Ideal.div (∑ x : Fin 128, hdev q k v cos sin lg st (ix2 r x) * hdev q k v cos sin lg st (ix2 r x))
            (Ideal.ofBits .f32 0x43000000#32) + Ideal.ofBits .f32 0x3727C5AC#32) * gn (ix2 0 e)) := by
  pointwise [hout, k0_pay18]

end Cert.KernelIdeal.RetValue

end
-- ==== Proof.RetReal.lean ====
/-
  The retention of real arguments, as one function of the arguments.
-/
module

public import proofs.«01_k».proof.Proof.Gen.KernelIdeal
public import proofs.«01_k».proof.Proof.RetMath
public import proofs.«01_k».proof.Proof.Reals
public import Idealize.ShloMosaic.Lib.Pointwise

@[expose] public section

set_option maxRecDepth 16384

noncomputable section

namespace Cert.Ret

open Cert.KernelIdeal Cert.KernelIdeal.Gen Idealize.ShloMosaic Cert.Reals

/-- The 64 rotation frequencies. -/
def freq : FVec Ideal S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- The logarithms of the eight heads' decays. -/
def lgam : FVec Ideal S8 .f32 :=
  Host.log1p (Host.negf (Host.exp (mulf (broadcastInDim S8 ![] bcast_S_S8 (constant S_ .f32 0x3F317218#32))
    (subf (broadcastInDim S8 ![] bcast_S_S8 (constant S_ .f32 0xC0A00000#32)) (sitofp .f32 (iotaInDim S8 32 0))))))

/-- A word read as a signed number is a real number. -/
theorem word (x : BitVec 32) : (FloatOps.sitofp FTy.f32 x : Ideal .f32) = (((x.toInt : ℤ) : ℝ) : EReal) := rfl

/-- The base of the frequencies, as its pattern. -/
theorem base_f32 : Ideal.ofBits .f32 0x461C4000#32 = ((10000 : ℝ) : EReal) := by
  simp [Ideal.ofBits, Ideal.ieee, -EReal.coe_mul]
  norm_num

/-- The number of frequencies, as its pattern. -/
theorem count_f32 : Ideal.ofBits .f32 0x42800000#32 = ((64 : ℝ) : EReal) := by
  simp [Ideal.ofBits, Ideal.ieee, -EReal.coe_mul]
  norm_num

/-- The frequencies are real numbers. -/
theorem freq_real (j : Fin 64) : Real' (freq (ix1 j)) := by
  pointwise [freq]
  rw [base_f32, count_f32, word, Ideal.div_coe (by norm_num), ← EReal.coe_neg, ← EReal.coe_mul, Ideal.pow_coe_coe]
  exact coe _

/-- Minus five, as its pattern. -/
theorem five_f32 : Ideal.ofBits .f32 0xC0A00000#32 = ((-5 : ℝ) : EReal) := by
  simp [Ideal.ofBits, Ideal.ieee, -EReal.coe_mul]
  norm_num

/-- The logarithm of two, rounded: a positive real number, as its pattern. -/
theorem ln2_f32 : ∃ x : ℝ, 0 < x ∧ Ideal.ofBits .f32 0x3F317218#32 = (x : EReal) := by
  refine ⟨_, ?_, by simp [Ideal.ofBits, Ideal.ieee]; rfl⟩
  norm_num

/-- The scale of the keys is a real number. -/
theorem scale_f32 : Real' (Ideal.ofBits .f32 0x3DB504F3#32) := by
  refine ⟨_, by simp [Ideal.ofBits, Ideal.ieee]; rfl⟩

/-- The logarithms of the decays are real numbers. -/
theorem lgam_real (h : Fin 8) : Real' (lgam (ix1 h)) := by
  obtain ⟨x, hx, ex⟩ := ln2_f32
  pointwise [lgam]
  rw [ex, five_f32, word, ← EReal.coe_sub, ← EReal.coe_mul, Ideal.exp_coe, ← EReal.coe_neg]
  have hi : (BitVec.ofNat 32 h.val).toInt = (h.val : ℤ) := by
    rw [BitVec.toInt_eq_toNat_of_lt] <;> rw [BitVec.toNat_ofNat, Nat.mod_eq_of_lt (by omega)]
    omega
  rw [hi]
  have hn : x * (-5 - (((h.val : ℤ)) : ℝ)) < 0 := by
    have : (0 : ℝ) ≤ (((h.val : ℤ)) : ℝ) := by positivity
    nlinarith
  have hlt := (Real.exp_lt_exp.mpr hn).trans_eq Real.exp_zero
  unfold Ideal.log1p
  rw [← EReal.coe_one, ← EReal.coe_add]
  show Real' (if _ then _ else _)
  rw [if_neg (by linarith)]
  exact coe _

/-- A frequency. -/
def fr (j : Fin 64) : ℝ := (freq (ix1 j)).toReal
/-- The logarithm of a head's decay. -/
def ld (h : Fin 8) : ℝ := (lgam (ix1 h)).toReal
/-- The scale of the keys. -/
def ks : ℝ := (Ideal.ofBits .f32 0x3DB504F3#32).toReal

/-- A real number is the real number it is read as. -/
theorem toReal {x : EReal} (h : Real' x) : x = ((x.toReal : ℝ) : EReal) := by
  obtain ⟨r, rfl⟩ := h
  rfl

/-- A frequency is its real number. -/
theorem freq_eq (j : Fin 64) : freq (ix1 j) = ((fr j : ℝ) : EReal) := toReal (freq_real j)
/-- The logarithm of a decay is its real number. -/
theorem lgam_eq (h : Fin 8) : lgam (ix1 h) = ((ld h : ℝ) : EReal) := toReal (lgam_real h)
/-- The scale is its real number. -/
theorem scale_eq : Ideal.ofBits .f32 0x3DB504F3#32 = ((ks : ℝ) : EReal) := toReal scale_f32

/-- The row of a sequence's position. -/
def row (b : Fin 4) (s : ℕ) : Fin 16384 := ⟨b.val * 4096 + s % 4096, by omega⟩
/-- The column of a head's lane in one of the four groups. -/
def col (a : Fin 4) (h : Fin 8) (e : Fin 128) : Fin 11776 := ⟨a.val * 1024 + h.val * 128 + e.val, by omega⟩

variable (P : FVec Ideal S16384x11776 .f32) (T : IVec S4x4096 32) (G : FVec Ideal S1024 .f32)

/-- The queries, keys and values are real numbers. -/
def Finite : Prop := ∀ (R : Fin 16384) (k : Fin 11776), k.val < 3072 → Real' (P (ix2 R k))

/-- An entry of a group, as a real number. -/
def px (a : Fin 4) (b : Fin 4) (h : Fin 8) (s : ℕ) (e : Fin 128) : ℝ := (P (ix2 (row b s) (col a h e))).toReal

/-- An entry of the first three groups is its real number. -/
theorem px_eq (hF : Finite P) (a : Fin 4) (ha : a.val < 3) (b : Fin 4) (h : Fin 8) (s : ℕ) (e : Fin 128) :
    P (ix2 (row b s) (col a h e)) = ((px P a b h s e : ℝ) : EReal) :=
  toReal (hF _ _ (by show a.val * 1024 + h.val * 128 + e.val < 3072; omega))

/-- The angle of a position at a frequency. -/
def theta (b : Fin 4) (s : ℕ) (j : Fin 64) : ℝ := (((T (ix2 b ⟨s % 4096, by omega⟩)).toInt : ℤ) : ℝ) * fr j

/-- A vector's two halves rotated into each other. -/
def rot (x : Fin 128 → ℝ) (θ : Fin 64 → ℝ) (d : Fin 128) : ℝ :=
  if h : d.val < 64 then x d * Real.cos (θ ⟨d.val, h⟩) - x ⟨d.val + 64, by omega⟩ * Real.sin (θ ⟨d.val, h⟩)
  else x ⟨d.val - 64, by omega⟩ * Real.sin (θ ⟨d.val - 64, by omega⟩) + x d * Real.cos (θ ⟨d.val - 64, by omega⟩)

/-- The rotated queries. -/
def Q (b : Fin 4) (h : Fin 8) (s : ℕ) (d : Fin 128) : ℝ := rot (px P 0 b h s) (theta T b s) d
/-- The rotated and scaled keys. -/
def K (b : Fin 4) (h : Fin 8) (d : Fin 128) (s : ℕ) : ℝ := rot (px P 1 b h s) (theta T b s) d * ks
/-- The values. -/
def V (b : Fin 4) (h : Fin 8) (e : Fin 128) (s : ℕ) : ℝ := px P 2 b h s e
/-- The decayed attention of a head. -/
def att (b : Fin 4) (h : Fin 8) (s : ℕ) (e : Fin 128) : ℝ := Cert.Decay.out (ld h) (Q P T b h s) (K P T b h) (V P b h e) s

/-- A head's vector less its mean. -/
def dev (w : Fin 128 → EReal) (e : Fin 128) : EReal := w e - Ideal.div (∑ x, w x) (Ideal.ofBits .f32 0x43000000#32)

/-- A head's vector normalised, gained and gated. -/
def gated (w : Fin 128 → EReal) (g n : EReal) (e : Fin 128) : EReal :=
  g * Ideal.div 1 (1 + Ideal.exp (-g)) * (dev w e
    * Ideal.rsqrt (Ideal.div (∑ x, dev w x * dev w x) (Ideal.ofBits .f32 0x43000000#32) + Ideal.ofBits .f32 0x3727C5AC#32) * n)

/-- The retention's result at a position of a sequence and a head's lane. -/
def res (b : Fin 4) (s : ℕ) (h : Fin 8) (e : Fin 128) : EReal :=
  gated (fun x => ((att P T b h s x : ℝ) : EReal)) (P (ix2 (row b s) (col 3 h e))) (G (ix1 ⟨h.val * 128 + e.val, by omega⟩)) e

/-- The retention's result. -/
def result : S16384x1024.Idx → EReal := fun i =>
  res P T G ⟨(i 0).val / 4096, by have h : (i 0).val < 16384 := (i 0).isLt; omega⟩ ((i 0).val % 4096)
    ⟨(i 1).val / 128, by have h : (i 1).val < 1024 := (i 1).isLt; omega⟩ ⟨(i 1).val % 128, by omega⟩

end Cert.Ret

end
-- ==== Proof.RetHost.lean ====
/-
  The retention kernel's operands, and what each block of them holds.
-/
module

public import proofs.«01_k».proof.Proof.RetHead
public import proofs.«01_k».proof.Proof.RetReal

@[expose] public section

set_option maxRecDepth 16384

noncomputable section

namespace Cert.KernelIdeal.RetValue

open Cert.KernelIdeal Cert.KernelIdeal.Gen Idealize.ShloMosaic Idealize.ShloMosaic.TcCoe Idealize.SL.Sem Idealize.ShloMosaic.StableHlo
open Cert.Ret (freq lgam)

variable (m : (ℓ : Loc nD τ sig) → Buf (Elt Ideal) ℓ) (c : Dev nD)

/-- The angles, one row per token. -/
def angle (T : IVec S4x4096 32) : FVec Ideal S16384x128 .f32 :=
  mulf (broadcastInDim S16384x128 ![0, 1] bcast_S16384x1_S16384x128_0_1 (sitofp .f32 (shapeCast S16384x1 T shapeCasts_S4x4096_S16384x1)))
    (broadcastInDim S16384x128 ![0, 1] bcast_S1x128_S16384x128_0_1 (broadcastInDim S1x128 ![1] bcast_S128_S1x128_1
      (concatenate S128 0 [⟨S64, freq⟩, ⟨S64, freq⟩] concatenates_S64_S64_S128_d0)))

/-- The cosines. -/
theorem V_cos : V m c main_v15 = Host.cos (angle (m ((c : Thread nD τ).loc main_arg1))) := by
  unfold V
  dsimp only [List.flatten, List.append]
  after_results_simp
  rfl

/-- The signed sines. -/
theorem V_sin : V m c main_v19 = select (cmpi .slt (iotaInDim S16384x128 32 1) (broadcastInDim S16384x128 ![] bcast_S_S16384x128 (constantI S_ 32 64#32)))
    (Host.negf (Host.sin (angle (m ((c : Thread nD τ).loc main_arg1))))) (Host.sin (angle (m ((c : Thread nD τ).loc main_arg1)))) := by
  unfold V
  dsimp only [List.flatten, List.append]
  after_results_simp
  rfl

/-- The logarithms of the decays, the same in every lane. -/
theorem V_lg : V m c main_v29 = broadcastInDim S8x1x128 ![0, 1, 2] bcast_S8x1x1_S8x1x128_0_1_2 (broadcastInDim S8x1x1 ![0] bcast_S8_S8x1x1_0 lgam) := by
  unfold V
  dsimp only [List.flatten, List.append]
  after_results_simp
  rfl

/-- The gains, as one row. -/
theorem V_gn : V m c main_v30 = shapeCast S1x1024 (m ((c : Thread nD τ).loc main_arg2)) shapeCasts_S1024_S1x1024 := by
  unfold V
  dsimp only [List.flatten, List.append]
  after_results_simp
  rfl

/-- Which block each window stages at each grid point. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![t.val, 0] ∧ win0_6.index t = ![0, 0, 0]
    ∧ win0_7.index t = ![0, 0] ∧ win0_8.index t = ![t.val, 0] ∧ t.val < 64 :=
  (by decide +kernel : ∀ t : Fin grid0.N, _)

variable (t : Fin cfg0.N) (b : Fin 4) (s : ℕ) (r : Fin 256) (d : Fin 128) (h : Fin 8)

/-- The gains of a head's lanes. -/
theorem gn_at : colr (iblk m c 7 t) h (ix2 0 d) = m ((c : Thread nD τ).loc main_arg2) (ix1 ⟨h.val * 128 + d.val, by omega⟩) := by
  have e : iblk m c 7 t (ix2 0 ⟨h.val * 128 + d.val, by omega⟩) = V m c main_v30 (((cfg0.win 7).blk t).view.emb (ix2 0 ⟨h.val * 128 + d.val, by omega⟩)) := rfl
  have e2 : ((cfg0.win 7).blk t).view.emb (ix2 0 ⟨h.val * 128 + d.val, by omega⟩) = ix2 0 ⟨h.val * 128 + d.val, by omega⟩ := by blk_ext [idx t]
  have e0 : colr (iblk m c 7 t) h (ix2 0 d) = iblk m c 7 t (ix2 0 ⟨h.val * 128 + d.val, by omega⟩) := by
    pointwise [colr]
  rw [e0, e, V_gn, e2, shapeCast_apply]
  show (S1024.rowMajor (ix1 _)).val = _
  rw [Shape.rowMajor_val_one, Shape.rowMajor_val_two]
  show h.val * 128 + d.val = 0 * 1024 + (h.val * 128 + d.val)
  omega

/-- The logarithm of a head's decay, in every lane. -/
theorem lg_at : lgr (iblk m c 6 t) h (ix3 0 0 d) = ((Cert.Ret.ld h : ℝ) : EReal) := by
  have e : iblk m c 6 t (ix3 h 0 d) = V m c main_v29 (((cfg0.win 6).blk t).view.emb (ix3 h 0 d)) := rfl
  have e2 : ((cfg0.win 6).blk t).view.emb (ix3 h 0 d) = ix3 h 0 d := by blk_ext [idx t]
  have e0 : lgr (iblk m c 6 t) h (ix3 0 0 d) = iblk m c 6 t (ix3 h 0 d) := by
    pointwise [lgr]
  rw [e0, e, V_lg, e2]
  pointwise
  exact Cert.Ret.lgam_eq h

section rows

variable (hb : b.val * 4096 + s % 4096 = t.val * 256 + r.val)

include hb in
/-- A staged query. -/
theorem q_at : cols (X0_0 m c t) h (ix2 r d) = m ((c : Thread nD τ).loc main_arg0) (ix2 (Cert.Ret.row b s) (Cert.Ret.col 0 h d)) := by
  have e0 : cols (X0_0 m c t) h (ix2 r d) = X0_0 m c t (ix2 r ⟨h.val * 128 + d.val, by omega⟩) := by
    pointwise [cols]
  rw [e0]
  unfold X0_0 Pipeline.Window.fill
  rw [dif_pos (moved0_0 t _)]
  show _ = m ((c : Thread nD τ).loc main_arg0) (ix2 (Cert.Ret.row b s) (Cert.Ret.col 0 h d))
  blk_ext! [iblk, V, idx t, Cert.Ret.row, Cert.Ret.col]

include hb in
/-- A staged key. -/
theorem k_at : cols (X0_1 m c t) h (ix2 r d) = m ((c : Thread nD τ).loc main_arg0) (ix2 (Cert.Ret.row b s) (Cert.Ret.col 1 h d)) := by
  have e0 : cols (X0_1 m c t) h (ix2 r d) = X0_1 m c t (ix2 r ⟨h.val * 128 + d.val, by omega⟩) := by
    pointwise [cols]
  rw [e0]
  unfold X0_1 Pipeline.Window.fill
  rw [dif_pos (moved0_1 t _)]
  show _ = m ((c : Thread nD τ).loc main_arg0) (ix2 (Cert.Ret.row b s) (Cert.Ret.col 1 h d))
  blk_ext! [iblk, V, idx t, Cert.Ret.row, Cert.Ret.col]

include hb in
/-- A staged value. -/
theorem v_at : cols (X0_2 m c t) h (ix2 r d) = m ((c : Thread nD τ).loc main_arg0) (ix2 (Cert.Ret.row b s) (Cert.Ret.col 2 h d)) := by
  have e0 : cols (X0_2 m c t) h (ix2 r d) = X0_2 m c t (ix2 r ⟨h.val * 128 + d.val, by omega⟩) := by
    pointwise [cols]
  rw [e0]
  unfold X0_2 Pipeline.Window.fill
  rw [dif_pos (moved0_2 t _)]
  show _ = m ((c : Thread nD τ).loc main_arg0) (ix2 (Cert.Ret.row b s) (Cert.Ret.col 2 h d))
  blk_ext! [iblk, V, idx t, Cert.Ret.row, Cert.Ret.col]

include hb in
/-- A staged gate. -/
theorem g_at : cols (X0_3 m c t) h (ix2 r d) = m ((c : Thread nD τ).loc main_arg0) (ix2 (Cert.Ret.row b s) (Cert.Ret.col 3 h d)) := by
  have e0 : cols (X0_3 m c t) h (ix2 r d) = X0_3 m c t (ix2 r ⟨h.val * 128 + d.val, by omega⟩) := by
    pointwise [cols]
  rw [e0]
  unfold X0_3 Pipeline.Window.fill
  rw [dif_pos (moved0_3 t _)]
  show _ = m ((c : Thread nD τ).loc main_arg0) (ix2 (Cert.Ret.row b s) (Cert.Ret.col 3 h d))
  blk_ext! [iblk, V, idx t, Cert.Ret.row, Cert.Ret.col]

include hb in
/-- The staged angle. -/
theorem angle_at (T : IVec S4x4096 32) : angle T (ix2 (Cert.Ret.row b s) d) = ((Cert.Ret.theta T b s ⟨d.val % 64, by omega⟩ : ℝ) : EReal) := by
  have e : (shapeCast S16384x1 T shapeCasts_S4x4096_S16384x1) (ix2 (Cert.Ret.row b s) 0) = T (ix2 b ⟨s % 4096, by omega⟩) := by
    rw [shapeCast_apply]
    rw [Shape.rowMajor_val_two, Shape.rowMajor_val_two]
    show b.val * 4096 + s % 4096 = (b.val * 4096 + s % 4096) * 1 + 0
    omega
  have e3 : (if h : d.val < 64 then freq (ix1 ⟨d.val, h⟩) else freq (ix1 ⟨d.val - 64, by omega⟩)) = freq (ix1 ⟨d.val % 64, by omega⟩) := by
    by_cases h : d.val < 64
    · simp only [dif_pos h, Nat.mod_eq_of_lt h]
    · have e3 : d.val % 64 = d.val - 64 := by omega
      simp only [dif_neg h, e3]
  pointwise [angle, e]
  rw [e3, Cert.Ret.freq_eq, Cert.Ret.word, ← EReal.coe_mul]
  rfl

include hb in
/-- The staged cosine. -/
theorem cos_at : iblk m c 4 t (ix2 r d) = ((Real.cos (Cert.Ret.theta (m ((c : Thread nD τ).loc main_arg1)) b s ⟨d.val % 64, by omega⟩) : ℝ) : EReal) := by
  have e : iblk m c 4 t (ix2 r d) = V m c main_v15 (((cfg0.win 4).blk t).view.emb (ix2 r d)) := rfl
  have e2 : ((cfg0.win 4).blk t).view.emb (ix2 r d) = ix2 (Cert.Ret.row b s) d := by
    blk_ext [idx t, Cert.Ret.row]
  rw [e, V_cos, e2]
  show Ideal.cos (angle _ _) = _
  rw [angle_at t b s r d hb]
  rfl

include hb in
/-- The staged signed sine. -/
theorem sin_at : iblk m c 5 t (ix2 r d) = (((if d.val < 64 then -1 else 1) * Real.sin (Cert.Ret.theta (m ((c : Thread nD τ).loc main_arg1)) b s ⟨d.val % 64, by omega⟩) : ℝ) : EReal) := by
  have e : iblk m c 5 t (ix2 r d) = V m c main_v19 (((cfg0.win 5).blk t).view.emb (ix2 r d)) := rfl
  have e2 : ((cfg0.win 5).blk t).view.emb (ix2 r d) = ix2 (Cert.Ret.row b s) d := by
    blk_ext [idx t, Cert.Ret.row]
  rw [e, V_sin, e2]
  pointwise [angle_at t b s r d hb]
  word_cmp
  by_cases h : d.val < 64
  · simp [h]
  · simp [h]

end rows

end Cert.KernelIdeal.RetValue

end
-- ==== Proof.RetState.lean ====
/-
  The retention kernel's state through the points of a sequence, and its output array.
-/
module

public import proofs.«01_k».proof.Proof.RetHost

@[expose] public section

set_option maxRecDepth 16384

noncomputable section

namespace Cert.KernelIdeal.RetValue

open Cert.KernelIdeal Cert.KernelIdeal.Gen Idealize.ShloMosaic Idealize.ShloMosaic.TcCoe Idealize.SL.Sem
open Cert.Ret (row col px theta rot Q K V att ld res result)

/-- The rotation as the kernel spells it: a signed sine, and the other half found by turning the lanes. -/
theorem rot_eq (x : Fin 128 → ℝ) (θ : Fin 64 → ℝ) (d : Fin 128) :
    x d * Real.cos (θ ⟨d.val % 64, by omega⟩) + x ⟨(d.val + 128 - 64) % 128, Nat.mod_lt _ (by norm_num)⟩
      * ((if d.val < 64 then -1 else 1) * Real.sin (θ ⟨d.val % 64, by omega⟩)) = rot x θ d := by
  unfold rot
  by_cases h : d.val < 64
  · rw [dif_pos h, if_pos h]
    have e1 : (⟨d.val % 64, by omega⟩ : Fin 64) = ⟨d.val, h⟩ := Fin.ext (Nat.mod_eq_of_lt h)
    have e2 : (⟨(d.val + 128 - 64) % 128, Nat.mod_lt _ (by norm_num)⟩ : Fin 128) = ⟨d.val + 64, by omega⟩ := Fin.ext (by dsimp only; omega)
    rw [e1, e2]
    ring
  · rw [dif_neg h, if_neg h]
    have e1 : (⟨d.val % 64, by omega⟩ : Fin 64) = ⟨d.val - 64, by omega⟩ := Fin.ext (by dsimp only; omega)
    have e2 : (⟨(d.val + 128 - 64) % 128, Nat.mod_lt _ (by norm_num)⟩ : Fin 128) = ⟨d.val - 64, by omega⟩ := Fin.ext (by dsimp only; omega)
    rw [e1, e2]
    ring

variable (m : (ℓ : Loc nD τ sig) → Buf (Elt Ideal) ℓ) (c : Dev nD) (t : Fin cfg0.N)

/-- The sequence a point works on. -/
def bt (n : ℕ) (hn : n < cfg0.N) : Fin 4 := ⟨n / 16, (Nat.div_lt_iff_lt_mul (by decide)).mpr (hn.trans_eq (by decide))⟩

/-- A row of a block is a position of the sequence. -/
theorem place (r : Fin 256) : (bt t.val t.isLt).val * 4096 + (256 * (t.val % 16) + r.val) % 4096 = t.val * 256 + r.val := by
  show t.val / 16 * 4096 + _ = _
  omega

variable (hF : Cert.Ret.Finite (m ((c : Thread nD τ).loc main_arg0))) (h : Fin 8)

include hF in
/-- The rotated queries of a block. -/
theorem q_real (r : Fin 256) (d : Fin 128) : k0_pay9 (iblk m c 4 t) (iblk m c 5 t) (cols (X0_0 m c t) h) (ix2 r d)
    = ((Q (m ((c : Thread nD τ).loc main_arg0)) (m ((c : Thread nD τ).loc main_arg1)) (bt t.val t.isLt) h (256 * (t.val % 16) + r.val) d : ℝ) : EReal) := by
  rw [pay9_at, q_at m c t _ _ r d h (place t r), q_at m c t _ _ r _ h (place t r), cos_at m c t _ _ r d (place t r),
    sin_at m c t _ _ r d (place t r), Cert.Ret.px_eq _ hF 0 (by decide), Cert.Ret.px_eq _ hF 0 (by decide), ← EReal.coe_mul, ← EReal.coe_mul,
    ← EReal.coe_add, rot_eq]
  rfl

include hF in
/-- The rotated and scaled keys of a block. -/
theorem k_real (r : Fin 256) (d : Fin 128) : k0_pay10 (iblk m c 4 t) (iblk m c 5 t) (cols (X0_1 m c t) h) (ix2 r d)
    = ((K (m ((c : Thread nD τ).loc main_arg0)) (m ((c : Thread nD τ).loc main_arg1)) (bt t.val t.isLt) h d (256 * (t.val % 16) + r.val) : ℝ) : EReal) := by
  rw [pay10_at, k_at m c t _ _ r d h (place t r), k_at m c t _ _ r _ h (place t r), cos_at m c t _ _ r d (place t r),
    sin_at m c t _ _ r d (place t r), Cert.Ret.px_eq _ hF 1 (by decide), Cert.Ret.px_eq _ hF 1 (by decide), Cert.Ret.scale_eq,
    ← EReal.coe_mul, ← EReal.coe_mul, ← EReal.coe_add, ← EReal.coe_mul, rot_eq]
  rfl

include hF in
/-- The values of a block. -/
theorem v_real (r : Fin 256) (e : Fin 128) : cols (X0_2 m c t) h (ix2 r e)
    = ((V (m ((c : Thread nD τ).loc main_arg0)) (bt t.val t.isLt) h e (256 * (t.val % 16) + r.val) : ℝ) : EReal) := by
  rw [v_at m c t _ _ r e h (place t r), Cert.Ret.px_eq _ hF 2 (by decide)]
  rfl

/-- The state of the arguments at a position of a sequence. -/
def stateAt (b : Fin 4) (h : Fin 8) (d e : Fin 128) (n : ℕ) : ℝ :=
  Cert.Decay.state (ld h) (K (m ((c : Thread nD τ).loc main_arg0)) (m ((c : Thread nD τ).loc main_arg1)) b h d)
    (V (m ((c : Thread nD τ).loc main_arg0)) b h e) n

/-- A head's state in the array of states. -/
theorem stat_at (x : Vec Ideal S8x128x128 .f32) (d e : Fin 128) : stat x h (ix3 0 d e) = x (ix3 h d e) := by
  pointwise [stat]

include hF in
/-- What a point leaves in the state, given what it found there. -/
theorem step_state (hs : ∀ d e : Fin 128, start m c t.val t.isLt (ix3 h d e) = ((stateAt m c (bt t.val t.isLt) h d e (256 * (t.val % 16)) : ℝ) : EReal))
    (d e : Fin 128) : (outsAt0 m c t.val t.isLt).2 (ix3 h d e) = ((stateAt m c (bt t.val t.isLt) h d e (256 * (t.val % 16) + 256) : ℝ) : EReal) := by
  rw [lefts m c t h d e]
  exact hst_real _ _ _ _ _ _ (ld h) _ _ _ (fun e => lg_at m c t e h) (fun x d => k_real m c t hF h x d) (fun x e => v_real m c t hF h x e)
    (fun d e => (stat_at h _ d e).trans (hs d e)) d e

include hF in
/-- The state a point finds is the sequence's at the point's first position. -/
theorem start_state (n : ℕ) (hn : n < cfg0.N) (d e : Fin 128) :
    start m c n hn (ix3 h d e) = ((stateAt m c (bt n hn) h d e (256 * (n % 16)) : ℝ) : EReal) := by
  induction n generalizing d e with
  | zero =>
    unfold start
    rw [if_pos rfl]
    show k0_pay2 (F := Ideal) (ix3 h d e) = ((Cert.Decay.state _ _ _ 0 : ℝ) : EReal)
    rw [Cert.Decay.state_zero]
    pointwise [k0_pay2]
    rfl
  | succ n ih =>
    unfold start
    by_cases h0 : (n + 1) % 16 = 0
    · rw [if_pos h0, h0]
      show k0_pay2 (F := Ideal) (ix3 h d e) = ((Cert.Decay.state _ _ _ 0 : ℝ) : EReal)
      rw [Cert.Decay.state_zero]
      pointwise [k0_pay2]
      rfl
    · rw [if_neg h0]
      have e1 := step_state m c ⟨n, by omega⟩ hF h (fun d e => ih (by omega) d e) d e
      have e2 : bt (n + 1) hn = bt n (by omega) := Fin.ext (by show (n + 1) / 16 = n / 16; omega)
      have e3 : 256 * ((n + 1) % 16) = 256 * (n % 16) + 256 := by omega
      rw [e2, e3]
      exact e1

include hF in
/-- What a point leaves in its output block. -/
theorem out_at (r : Fin 256) (e : Fin 128) : (outsAt0 m c t.val t.isLt).1 (ix2 r ⟨h.val * 128 + e.val, by omega⟩)
    = res (m ((c : Thread nD τ).loc main_arg0)) (m ((c : Thread nD τ).loc main_arg1)) (m ((c : Thread nD τ).loc main_arg2))
        (bt t.val t.isLt) (256 * (t.val % 16) + r.val) h e := by
  have hr : ∀ e, raw (cols (X0_0 m c t) h) (cols (X0_1 m c t) h) (cols (X0_2 m c t) h) (iblk m c 4 t) (iblk m c 5 t) (lgr (iblk m c 6 t) h)
      (stat (start m c t.val t.isLt) h) r e
      = ((att (m ((c : Thread nD τ).loc main_arg0)) (m ((c : Thread nD τ).loc main_arg1)) (bt t.val t.isLt) h (256 * (t.val % 16) + r.val) e : ℝ) : EReal) :=
    fun e => raw_real _ _ _ _ _ _ _ (ld h) _ _ _ (fun e => lg_at m c t e h) (fun x d => k_real m c t hF h x d) (fun x e => v_real m c t hF h x e)
      (fun d e => (stat_at h _ d e).trans (start_state m c hF h t.val t.isLt d e)) _ r e (fun d => q_real m c t hF h r d)
  rw [left m c t r h e, hout_at]
  simp only [hdev_at, hr]
  rw [g_at m c t _ _ r e h (place t r), gn_at m c t e h, zero_sub]
  rfl

/-- Any function that the blocks agree with is the output array after the run. -/
theorem whole (o : S16384x1024.Idx → EReal)
    (ho : ∀ (t : Fin cfg0.N) (r : Fin 256) (l : Fin 1024) (R : Fin 16384), R.val = t.val * 256 + r.val →
      (show EReal from (outsAt0 m c t.val t.isLt).1 (ix2 r l)) = o (ix2 R l)) : (dats m 0 c).arrAt 8 cfg0.N = o := by
  refine (dats m 0 c).arrAt_eq_of_covers 8 _ (by decide +kernel) fun t _ y => ?_
  blk_simp
  rw [after0_8]
  obtain ⟨r, l, rfl⟩ : ∃ (r : Fin 256) (l : Fin 1024), y = ix2 r l := ⟨y 0, y 1, eq_ix2 y⟩
  have hi := (idx t).2.2.2.2.2.2.2.2.2
  have e2 : ((cfg0.win 8).blk t).view.emb (ix2 r l) = ix2 ⟨t.val * 256 + r.val, by omega⟩ l := by
    blk_ext [idx t]
  exact (ho t r l ⟨t.val * 256 + r.val, by omega⟩ rfl).trans (congrArg o e2.symm)

include hF in
/-- The output array after the run is the retention of the arguments. -/
theorem final : (dats m 0 c).arrAt 8 cfg0.N
    = result (m ((c : Thread nD τ).loc main_arg0)) (m ((c : Thread nD τ).loc main_arg1)) (m ((c : Thread nD τ).loc main_arg2)) := by
  refine whole m c _ fun t r l R hR => ?_
  have hl := l.isLt
  have e := out_at m c t hF ⟨l.val / 128, by omega⟩ r ⟨l.val % 128, by omega⟩
  have el : (⟨l.val / 128 * 128 + l.val % 128, by omega⟩ : Fin 1024) = l := Fin.ext (by show l.val / 128 * 128 + l.val % 128 = l.val; omega)
  rw [show (⟨(⟨l.val / 128, by omega⟩ : Fin 8).val * 128 + (⟨l.val % 128, by omega⟩ : Fin 128).val, by omega⟩ : Fin 1024) = l from el] at e
  refine e.trans ?_
  show res _ _ _ _ _ _ _ = res _ _ _ ⟨R.val / 4096, _⟩ (R.val % 4096) ⟨l.val / 128, _⟩ ⟨l.val % 128, _⟩
  have e1 : bt t.val t.isLt = ⟨R.val / 4096, by omega⟩ := Fin.ext (by show t.val / 16 = R.val / 4096; omega)
  have e2 : 256 * (t.val % 16) + r.val = R.val % 4096 := by omega
  rw [e1, e2]

end Cert.KernelIdeal.RetValue

end
-- ==== Proof.RetRef.lean ====
/-
  The retention's reference: what its operations before and after the loop hold, as compositions of the arguments.
-/
module

public import proofs.«01_k».proof.Proof.RetReal
public import proofs.«01_k».proof.Proof.Gen.ReferenceIdeal.Run
public import Idealize.ShloMosaic.Lib.StableHlo.RunRead

@[expose] public section

set_option maxRecDepth 16384

noncomputable section

namespace Cert.ReferenceIdeal.RetRef

open Cert.ReferenceIdeal Cert.ReferenceIdeal.Gen Cert.ReferenceIdeal.Value
open Idealize.ShloMosaic Idealize.ShloMosaic.TcCoe Idealize.SL.Sem Idealize.ShloMosaic.StableHlo
open Cert.Ret (freq lgam)

section tensors

variable (P : FVec Ideal S16384x11776 .f32) (T : IVec S4x4096 32) (G : FVec Ideal S1024 .f32)

/-- The retention's columns of the projection, by sequence. -/
def cut : FVec Ideal S4x4096x4096 .f32 :=
  shapeCast _ (extractStridedSlice S16384x4096 ![0, 0] P slices_S16384x11776_S16384x4096_0_0) shapeCasts_S16384x4096_S4x4096x4096
/-- The queries' columns. -/
def cutq : FVec Ideal S4x4096x1024 .f32 := extractStridedSlice S4x4096x1024 ![0, 0, 0] (cut P) slices_S4x4096x4096_S4x4096x1024_0_0_0
/-- The keys' columns. -/
def cutk : FVec Ideal S4x4096x1024 .f32 := extractStridedSlice S4x4096x1024 ![0, 0, 1024] (cut P) slices_S4x4096x4096_S4x4096x1024_0_0_1024
/-- The values' columns. -/
def cutv : FVec Ideal S4x4096x1024 .f32 := extractStridedSlice S4x4096x1024 ![0, 0, 2048] (cut P) slices_S4x4096x4096_S4x4096x1024_0_0_2048
/-- The gates' columns. -/
def cutg : FVec Ideal S4x4096x1024 .f32 := extractStridedSlice S4x4096x1024 ![0, 0, 3072] (cut P) slices_S4x4096x4096_S4x4096x1024_0_0_3072
/-- Columns by head and lane. -/
def heads (x : FVec Ideal S4x4096x1024 .f32) : FVec Ideal S4x4096x8x128 .f32 := shapeCast _ x shapeCasts_S4x4096x1024_S4x4096x8x128

/-- The angles. -/
def ang : FVec Ideal S4x4096x64 .f32 :=
  mulf (broadcastInDim S4x4096x64 ![0, 1, 2] bcast_S4x4096x1_S4x4096x64_0_1_2 (broadcastInDim S4x4096x1 ![0, 1] bcast_S4x4096_S4x4096x1_0_1 (sitofp .f32 T)))
    (broadcastInDim S4x4096x64 ![0, 1, 2] bcast_S1x1x64_S4x4096x64_0_1_2 (broadcastInDim S1x1x64 ![2] bcast_S64_S1x1x64_2 freq))
/-- The cosines, for every head. -/
def cosT : FVec Ideal S4x4096x8x64 .f32 := broadcastInDim S4x4096x8x64 ![0, 1, 2, 3] bcast_S4x4096x1x64_S4x4096x8x64_0_1_2_3
  (broadcastInDim S4x4096x1x64 ![0, 1, 3] bcast_S4x4096x64_S4x4096x1x64_0_1_3 (Host.cos (ang T)))
/-- The sines, for every head. -/
def sinT : FVec Ideal S4x4096x8x64 .f32 := broadcastInDim S4x4096x8x64 ![0, 1, 2, 3] bcast_S4x4096x1x64_S4x4096x8x64_0_1_2_3
  (broadcastInDim S4x4096x1x64 ![0, 1, 3] bcast_S4x4096x64_S4x4096x1x64_0_1_3 (Host.sin (ang T)))
/-- Heads rotated by the angles. -/
def rotv (x : FVec Ideal S4x4096x8x128 .f32) : FVec Ideal S4x4096x8x128 .f32 :=
  concatenate S4x4096x8x128 3
    [⟨S4x4096x8x64, subf (mulf (extractStridedSlice S4x4096x8x64 ![0, 0, 0, 0] x slices_S4x4096x8x128_S4x4096x8x64_0_0_0_0) (cosT T))
      (mulf (extractStridedSlice S4x4096x8x64 ![0, 0, 0, 64] x slices_S4x4096x8x128_S4x4096x8x64_0_0_0_64) (sinT T))⟩,
     ⟨S4x4096x8x64, addf (mulf (extractStridedSlice S4x4096x8x64 ![0, 0, 0, 0] x slices_S4x4096x8x128_S4x4096x8x64_0_0_0_0) (sinT T))
      (mulf (extractStridedSlice S4x4096x8x64 ![0, 0, 0, 64] x slices_S4x4096x8x128_S4x4096x8x64_0_0_0_64) (cosT T))⟩]
    concatenates_S4x4096x8x64_S4x4096x8x64_S4x4096x8x128_d3
/-- By chunk. -/
def chunks (x : FVec Ideal S4x4096x8x128 .f32) : FVec Ideal S4x32x128x8x128 .f32 := shapeCast _ x shapeCasts_S4x4096x8x128_S4x32x128x8x128
/-- The queries by chunk. -/
def qc : FVec Ideal S4x32x128x8x128 .f32 := chunks (rotv T (heads (cutq P)))
/-- The keys by chunk. -/
def kc : FVec Ideal S4x32x128x8x128 .f32 :=
  chunks (mulf (rotv T (heads (cutk P))) (broadcastInDim S4x4096x8x128 ![] bcast_S_S4x4096x8x128 (constant S_ .f32 0x3DB504F3#32)))
/-- The values by chunk. -/
def vc : FVec Ideal S4x32x128x8x128 .f32 := chunks (heads (cutv P))
/-- The places in a chunk. -/
def places : FVec Ideal S128 .f32 := sitofp .f32 (iotaInDim S128 32 0)
/-- The distances of two places. -/
def rel : FVec Ideal S128x128 .f32 :=
  subf (broadcastInDim S128x128 ![0, 1] bcast_S128x1_S128x128_0_1 (broadcastInDim S128x1 ![0] bcast_S128_S128x1_0 places))
    (broadcastInDim S128x128 ![0, 1] bcast_S1x128_S128x128_0_1 (broadcastInDim S1x128 ![1] bcast_S128_S1x128_1 places))
/-- The decay of two places, zero for a later one. -/
def decay : FVec Ideal S8x128x128 .f32 :=
  select (broadcastInDim S8x128x128 ![1, 2] bcast_S128x128_S8x128x128_1_2 (cmpf .oge rel (broadcastInDim S128x128 ![] bcast_S_S128x128 (constant S_ .f32 0x00000000#32))))
    (Host.exp (mulf
      (broadcastInDim S8x128x128 ![0, 1, 2] bcast_S1x128x128_S8x128x128_0_1_2 (broadcastInDim S1x128x128 ![1, 2] bcast_S128x128_S1x128x128_1_2
        (maximumf rel (broadcastInDim S128x128 ![] bcast_S_S128x128 (constant S_ .f32 0x00000000#32)))))
      (broadcastInDim S8x128x128 ![0, 1, 2] bcast_S8x1x1_S8x128x128_0_1_2 (broadcastInDim S8x1x1 ![0] bcast_S8_S8x1x1_0 lgam))))
    (broadcastInDim S8x128x128 ![] bcast_S_S8x128x128 (constant S_ .f32 0x00000000#32))
/-- The attention inside a chunk. -/
def intra (q k v : FVec Ideal S4x32x128x8x128 .f32) : FVec Ideal S4x32x128x8x128 .f32 :=
  transpose S4x32x128x8x128 [0, 1, 4, 2, 3]
    (Host.dotGeneral dot_S4x32x128x8x128_S4x32x8x128x128_S4x32x8x128x128_2_4_4_3_013_012 none v
      (mulf (Host.dotGeneral dot_S4x32x128x8x128_S4x32x128x8x128_S4x32x8x128x128_4_4_2_2_013_013 none q k)
        (broadcastInDim S4x32x8x128x128 ![0, 1, 2, 3, 4] bcast_S1x1x8x128x128_S4x32x8x128x128_0_1_2_3_4
          (broadcastInDim S1x1x8x128x128 ![2, 3, 4] bcast_S8x128x128_S1x1x8x128x128_2_3_4 decay)))) transposes_S4x32x8x128x128_S4x32x128x8x128_0_1_4_2_3
/-- The decays of a place's row, for every head and lane. -/
def rowsOf (x : FVec Ideal S128 .f32) : FVec Ideal S4x32x128x8x128 .f32 :=
  broadcastInDim S4x32x128x8x128 ![0, 1, 2, 3, 4] bcast_S1x1x128x8x1_S4x32x128x8x128_0_1_2_3_4 (broadcastInDim S1x1x128x8x1 ![2, 3] bcast_S128x8_S1x1x128x8x1_2_3
    (Host.exp (mulf (broadcastInDim S128x8 ![0, 1] bcast_S128x1_S128x8_0_1 (broadcastInDim S128x1 ![0] bcast_S128_S128x1_0 x))
      (broadcastInDim S128x8 ![0, 1] bcast_S1x8_S128x8_0_1 (broadcastInDim S1x8 ![1] bcast_S8_S1x8_1 lgam)))))
/-- What each chunk adds to the state. -/
def kv (k v : FVec Ideal S4x32x128x8x128 .f32) : FVec Ideal S32x4x8x128x128 .f32 :=
  Host.dotGeneral dot_S4x32x128x8x128_S4x32x128x8x128_S32x4x8x128x128_2_2_4_4_103_103 none
    (mulf k (rowsOf (subf (broadcastInDim S128 ![] bcast_S_S128 (constant S_ .f32 0x42FE0000#32)) places))) v
/-- A chunk's decay of the state. -/
def cdec : FVec Ideal S8 .f32 := Host.exp (mulf (broadcastInDim S8 ![] bcast_S_S8 (constant S_ .f32 0x43000000#32)) lgam)

/-- The attention from the states before the chunks. -/
def cross (q : FVec Ideal S4x32x128x8x128 .f32) (S : FVec Ideal S32x4x8x128x128 .f32) : FVec Ideal S4x32x128x8x128 .f32 :=
  mulf (transpose S4x32x128x8x128 [0, 1, 4, 2, 3]
      (Host.dotGeneral dot_S32x4x8x128x128_S4x32x128x8x128_S4x32x8x128x128_3_4_4_2_102_013 none S q) transposes_S4x32x8x128x128_S4x32x128x8x128_0_1_4_2_3)
    (rowsOf (addf places (broadcastInDim S128 ![] bcast_S_S128 (constant S_ .f32 0x3F800000#32))))
/-- The means over a head's lanes, in every lane. -/
def means (x : FVec Ideal S4x4096x8x128 .f32) : FVec Ideal S4x4096x8x1 .f32 :=
  Host.divf (broadcastInDim S4x4096x8x1 ![0, 1, 2] bcast_S4x4096x8_S4x4096x8x1_0_1_2
    (Host.reduceAdd x (constant S_ .f32 0x00000000#32) reducesTo_S4x4096x8x128_S4x4096x8_d3 h_S_))
    (broadcastInDim S4x4096x8x1 ![] bcast_S_S4x4096x8x1 (constant S_ .f32 0x43000000#32))
/-- In every lane. -/
def lanes (x : FVec Ideal S4x4096x8x1 .f32) : FVec Ideal S4x4096x8x128 .f32 :=
  broadcastInDim S4x4096x8x128 ![0, 1, 2, 3] bcast_S4x4096x8x1_S4x4096x8x128_0_1_2_3 x
/-- Heads less their means. -/
def devs (x : FVec Ideal S4x4096x8x128 .f32) : FVec Ideal S4x4096x8x128 .f32 := subf x (lanes (means x))
/-- Heads normalised. -/
def norm (x : FVec Ideal S4x4096x8x128 .f32) : FVec Ideal S4x4096x8x128 .f32 :=
  mulf (devs x) (lanes (Host.rsqrt (addf (means (mulf (devs x) (devs x))) (broadcastInDim S4x4096x8x1 ![] bcast_S_S4x4096x8x1 (constant S_ .f32 0x3727C5AC#32)))))
/-- The gates. -/
def silu (g : FVec Ideal S4x4096x1024 .f32) : FVec Ideal S4x4096x1024 .f32 :=
  mulf g (Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf g))))
/-- The result from the attention by chunk, the gates and the gains. -/
def post (o : FVec Ideal S4x32x128x8x128 .f32) (g : FVec Ideal S4x4096x1024 .f32) : FVec Ideal S16384x1024 .bf16 :=
  truncf .bf16 (shapeCast S16384x1024 (mulf (silu g) (mulf
    (shapeCast S4x4096x1024 (norm (shapeCast S4x4096x8x128 o shapeCasts_S4x32x128x8x128_S4x4096x8x128)) shapeCasts_S4x4096x8x128_S4x4096x1024)
    (broadcastInDim S4x4096x1024 ![0, 1, 2] bcast_S1x1x1024_S4x4096x1024_0_1_2 (broadcastInDim S1x1x1024 ![2] bcast_S1024_S1x1x1024_2 G))))
    shapeCasts_S4x4096x1024_S16384x1024) bitsLt_bf16_f32

end tensors

variable (W : Valuation τ sig (Elt Ideal))

/-- The queries before the loop. -/
theorem pre_q : afterL preI W (Proc.devRef .tc main_v77) = qc (W (Proc.devRef .tc main_arg0)) (W (Proc.devRef .tc main_arg1)) := by
  simp only [afterL_cons, afterL_nil]
  after_reads_simp
  rfl

/-- The logarithms before the loop. -/
theorem pre_l : afterL preI W (Proc.devRef .tc main_v76) = lgam := by
  simp only [afterL_cons, afterL_nil]
  after_reads_simp
  rfl

/-- The places before the loop. -/
theorem pre_p : afterL preI W (Proc.devRef .tc main_v80) = places := by
  simp only [afterL_cons, afterL_nil]
  after_reads_simp
  rfl

/-- The gates before the loop. -/
theorem pre_g : afterL preI W (Proc.devRef .tc main_v5) = cutg (W (Proc.devRef .tc main_arg0)) := by
  simp only [afterL_cons, afterL_nil]
  after_reads_simp
  rfl

/-- The attention inside chunks before the loop. -/
theorem pre_i : afterL preI W (Proc.devRef .tc main_v102) = intra (qc (W (Proc.devRef .tc main_arg0)) (W (Proc.devRef .tc main_arg1)))
    (kc (W (Proc.devRef .tc main_arg0)) (W (Proc.devRef .tc main_arg1))) (vc (W (Proc.devRef .tc main_arg0))) := by
  simp only [afterL_cons, afterL_nil]
  after_reads_simp
  rfl

/-- What the chunks add, before the loop. -/
theorem pre_kv : afterL preI W (Proc.devRef .tc main_v120_0) = kv
    (kc (W (Proc.devRef .tc main_arg0)) (W (Proc.devRef .tc main_arg1))) (vc (W (Proc.devRef .tc main_arg0))) := by
  simp only [afterL_cons, afterL_nil]
  after_reads_simp
  rfl

/-- The chunk decay before the loop. -/
theorem pre_d : afterL preI W (Proc.devRef .tc main_v120_1) = cdec := by
  simp only [afterL_cons, afterL_nil]
  after_reads_simp
  rfl

/-- The counter before the loop. -/
theorem pre_c : afterL preI W (Proc.devRef .tc main_v120_2) = constantI S_ 32 0#32 := by
  simp only [afterL_cons, afterL_nil]
  after_reads_simp
  rfl

/-- The state before the loop. -/
theorem pre_s : afterL preI W (Proc.devRef .tc main_v120_3) = broadcastInDim S4x8x128x128 ![] bcast_S_S4x8x128x128 (constant (F := Ideal) S_ .f32 0x00000000#32) := by
  simp only [afterL_cons, afterL_nil]
  after_reads_simp
  rfl

/-- The result after the loop. -/
theorem post_r (hl : W (Proc.devRef .tc main_v76) = lgam) (hp : W (Proc.devRef .tc main_v80) = places) :
    afterL postI W (Proc.devRef .tc main_v161) = post (W (Proc.devRef .tc main_arg2))
      (addf (W (Proc.devRef .tc main_v102)) (cross (W (Proc.devRef .tc main_v77)) (W (Proc.devRef .tc main_v120_4)))) (W (Proc.devRef .tc main_v5)) := by
  simp only [afterL_cons, afterL_nil]
  after_reads_simp
  rw [hl, hp]
  rfl

end Cert.ReferenceIdeal.RetRef

end
-- ==== Proof.RetRefAt.lean ====
/-
  The retention's reference at an index: queries, keys, values and decays of real arguments are real numbers.
-/
module

public import proofs.«01_k».proof.Proof.RetRef

@[expose] public section

set_option maxRecDepth 16384

noncomputable section

namespace Cert.ReferenceIdeal.RetRef

open Cert.ReferenceIdeal Cert.ReferenceIdeal.Gen Cert.ReferenceIdeal.Value
open Idealize.ShloMosaic Idealize.ShloMosaic.TcCoe Idealize.SL.Sem Idealize.ShloMosaic.StableHlo
open Cert.Ret (freq lgam row col px theta rot Q K V att ld fr ks)

variable (P : FVec Ideal S16384x11776 .f32) (T : IVec S4x4096 32)
  (b : Fin 4) (p : Fin 4096) (h : Fin 8) (d e : Fin 128) (n : Fin 32) (r : Fin 128)

/-- The projection's columns, by sequence. -/
theorem cut_at (k : Fin 4096) : cut P (ix3 b p k) = P (ix2 (row b p.val) ⟨k.val, by omega⟩) := by
  have e : ∀ x : FVec Ideal S16384x4096 .f32, shapeCast S4x4096x4096 x shapeCasts_S16384x4096_S4x4096x4096 (ix3 b p k) = x (ix2 (row b p.val) k) := by
    intro x
    rw [shapeCast_apply]
    rw [Shape.rowMajor_val_two, Shape.rowMajor_val_three]
    show (b.val * 4096 + p.val % 4096) * 4096 + k.val = (b.val * 4096 + p.val) * 4096 + k.val
    omega
  unfold cut
  rw [e]
  pointwise

/-- Heads' lanes are columns. -/
theorem heads_at (x : FVec Ideal S4x4096x1024 .f32) : heads x (ix4 b p h d) = x (ix3 b p ⟨h.val * 128 + d.val, by omega⟩) := by
  unfold heads
  rw [shapeCast_apply]
  rw [Shape.rowMajor_val_three, Shape.rowMajor_val_four]
  show (b.val * 4096 + p.val) * 1024 + (h.val * 128 + d.val) = ((b.val * 4096 + p.val) * 8 + h.val) * 128 + d.val
  omega

/-- A chunk's places are positions. -/
theorem chunks_at (x : FVec Ideal S4x4096x8x128 .f32) : chunks x (ix5 b n r h d) = x (ix4 b ⟨n.val * 128 + r.val, by omega⟩ h d) := by
  unfold chunks
  rw [shapeCast_apply]
  rw [Shape.rowMajor_val_four, Shape.rowMajor_val_five]
  show ((b.val * 4096 + (n.val * 128 + r.val)) * 8 + h.val) * 128 + d.val = (((b.val * 32 + n.val) * 128 + r.val) * 8 + h.val) * 128 + d.val
  omega

/-- The queries' entries. -/
theorem cutq_at : heads (cutq P) (ix4 b p h d) = P (ix2 (row b p.val) (col 0 h d)) := by
  rw [heads_at]
  pointwise [cutq, cut_at]
  exact congrArg (fun k => P (ix2 _ k)) (Fin.ext (by show _ = 0 * 1024 + h.val * 128 + d.val; dsimp only; omega))

/-- The keys' entries. -/
theorem cutk_at : heads (cutk P) (ix4 b p h d) = P (ix2 (row b p.val) (col 1 h d)) := by
  rw [heads_at]
  pointwise [cutk, cut_at]
  exact congrArg (fun k => P (ix2 _ k)) (Fin.ext (by show _ = 1 * 1024 + h.val * 128 + d.val; dsimp only; omega))

/-- The values' entries. -/
theorem cutv_at : heads (cutv P) (ix4 b p h d) = P (ix2 (row b p.val) (col 2 h d)) := by
  rw [heads_at]
  pointwise [cutv, cut_at]
  exact congrArg (fun k => P (ix2 _ k)) (Fin.ext (by show _ = 2 * 1024 + h.val * 128 + d.val; dsimp only; omega))

/-- The gates' entries. -/
theorem cutg_at : cutg P (ix3 b p ⟨h.val * 128 + d.val, by omega⟩) = P (ix2 (row b p.val) (col 3 h d)) := by
  pointwise [cutg, cut_at]
  exact congrArg (fun k => P (ix2 _ k)) (Fin.ext (by show _ = 3 * 1024 + h.val * 128 + d.val; dsimp only; omega))

/-- An angle is a real number. -/
theorem ang_at (j : Fin 64) : ang T (ix3 b p j) = ((theta T b p.val j : ℝ) : EReal) := by
  pointwise [ang]
  rw [Cert.Ret.freq_eq, Cert.Ret.word, ← EReal.coe_mul]
  have e : (⟨p.val % 4096, by omega⟩ : Fin 4096) = p := Fin.ext (Nat.mod_eq_of_lt p.isLt)
  unfold theta
  rw [e]

/-- The cosine of an angle. -/
theorem cosT_at (j : Fin 64) : cosT T (ix4 b p h j) = ((Real.cos (theta T b p.val j) : ℝ) : EReal) := by
  pointwise [cosT]
  show Ideal.cos (ang T _) = _
  rw [ang_at]
  rfl

/-- The sine of an angle. -/
theorem sinT_at (j : Fin 64) : sinT T (ix4 b p h j) = ((Real.sin (theta T b p.val j) : ℝ) : EReal) := by
  pointwise [sinT]
  show Ideal.sin (ang T _) = _
  rw [ang_at]
  rfl

/-- Real heads are rotated to real heads. -/
theorem rotv_at (x : FVec Ideal S4x4096x8x128 .f32) (X : Fin 128 → ℝ) (hx : ∀ d, x (ix4 b p h d) = ((X d : ℝ) : EReal)) :
    rotv T x (ix4 b p h d) = ((rot X (theta T b p.val) d : ℝ) : EReal) := by
  pointwise [rotv, cosT_at, sinT_at, hx]
  unfold rot
  by_cases hd : d.val < 64
  · have e : (⟨64 + d.val, by omega⟩ : Fin 128) = ⟨d.val + 64, by omega⟩ := Fin.ext (Nat.add_comm _ _)
    simp only [dif_pos hd, ← EReal.coe_mul, ← EReal.coe_sub, e]
  · have e : (⟨64 + (d.val - 64), by omega⟩ : Fin 128) = d := Fin.ext (by dsimp only; omega)
    simp only [dif_neg hd, ← EReal.coe_mul, ← EReal.coe_add, e]

variable (hF : Cert.Ret.Finite P)

/-- The position of a chunk's place. -/
theorem pos : (⟨n.val * 128 + r.val, by omega⟩ : Fin 4096).val = 128 * n.val + r.val := by dsimp only; omega

include hF in
/-- The queries of a chunk. -/
theorem qc_at : qc P T (ix5 b n r h d) = ((Q P T b h (128 * n.val + r.val) d : ℝ) : EReal) := by
  unfold qc
  rw [chunks_at, rotv_at T b _ h d _ _ (fun d => (cutq_at P b _ h d).trans (Cert.Ret.px_eq P hF 0 (by decide) b h _ d)), pos]
  rfl

include hF in
/-- The keys of a chunk. -/
theorem kc_at : kc P T (ix5 b n r h d) = ((K P T b h d (128 * n.val + r.val) : ℝ) : EReal) := by
  unfold kc
  rw [chunks_at]
  have e := rotv_at T b (⟨n.val * 128 + r.val, by omega⟩) h d _ _ (fun d => (cutk_at P b _ h d).trans (Cert.Ret.px_eq P hF 1 (by decide) b h _ d))
  rw [pos] at e
  pointwise [e]
  rw [Cert.Ret.scale_eq, ← EReal.coe_mul]
  rfl

include hF in
/-- The values of a chunk. -/
theorem vc_at : vc P (ix5 b n r h e) = ((V P b h e (128 * n.val + r.val) : ℝ) : EReal) := by
  unfold vc
  rw [chunks_at, cutv_at, Cert.Ret.px_eq P hF 2 (by decide), pos]
  rfl

/-- A place's number. -/
theorem places_at : places (ix1 r) = ((r.val : ℝ) : EReal) := by
  pointwise [places]
  rw [Cert.Ret.word, BitVec.toInt_eq_toNat_of_lt] <;> rw [BitVec.toNat_ofNat, Nat.mod_eq_of_lt (by omega)]
  · norm_num
  · omega

/-- The distance of two places. -/
theorem rel_at (i j : Fin 128) : rel (ix2 i j) = (((i.val : ℝ) - j.val : ℝ) : EReal) := by
  pointwise [rel, places_at]
  rw [← EReal.coe_sub]

/-- The decay of two places. -/
theorem decay_at (i j : Fin 128) : decay (ix3 h i j) = ((if j.val ≤ i.val then Real.exp (((i.val : ℝ) - j.val) * ld h) else 0 : ℝ) : EReal) := by
  pointwise [decay, rel_at, Cert.Ret.lgam_eq]
  by_cases hj : j.val ≤ i.val
  · have hr : (0 : ℝ) ≤ (i.val : ℝ) - j.val := sub_nonneg.mpr (Nat.cast_le.mpr hj)
    rw [if_pos (EReal.coe_nonneg.mpr hr), if_pos hj, max_eq_left (EReal.coe_nonneg.mpr hr), ← EReal.coe_mul, Ideal.exp_coe]
  · have hr : ¬ (0 : ℝ) ≤ (i.val : ℝ) - j.val := fun h0 => hj (Nat.cast_le.mp (sub_nonneg.mp h0))
    rw [if_neg (fun h0 => hr (EReal.coe_nonneg.mp h0)), if_neg hj]
    rfl

/-- The decays of a place's row. -/
theorem rowsOf_at (x : FVec Ideal S128 .f32) (X : ℝ) (hx : x (ix1 r) = (X : EReal)) :
    rowsOf x (ix5 b n r h d) = ((Real.exp (X * ld h) : ℝ) : EReal) := by
  pointwise [rowsOf, hx, Cert.Ret.lgam_eq]
  rw [← EReal.coe_mul, Ideal.exp_coe]

/-- A chunk's length, as its pattern. -/
theorem len_f32 : Ideal.ofBits .f32 0x43000000#32 = ((128 : ℝ) : EReal) := by
  simp [Ideal.ofBits, Ideal.ieee, -EReal.coe_mul]
  norm_num

/-- A chunk's length less one, as its pattern. -/
theorem last_f32 : Ideal.ofBits .f32 0x42FE0000#32 = ((127 : ℝ) : EReal) := by
  simp [Ideal.ofBits, Ideal.ieee, -EReal.coe_mul]
  norm_num

/-- A chunk's decay of the state. -/
theorem cdec_at : cdec (ix1 h) = ((Real.exp (128 * ld h) : ℝ) : EReal) := by
  pointwise [cdec, Cert.Ret.lgam_eq]
  rw [len_f32, ← EReal.coe_mul, Ideal.exp_coe]

/-- What a chunk of real keys and values adds to the state. -/
theorem kv_at (k v : FVec Ideal S4x32x128x8x128 .f32) (KK VV : ℕ → ℝ) (hk : ∀ r, k (ix5 b n r h d) = ((KK (128 * n.val + r.val) : ℝ) : EReal))
    (hv : ∀ r, v (ix5 b n r h e) = ((VV (128 * n.val + r.val) : ℝ) : EReal)) : kv k v (ix5 n b h d e)
      = ((∑ r : Fin 128, KK (128 * n.val + r.val) * Real.exp ((127 - r.val) * ld h) * VV (128 * n.val + r.val) : ℝ) : EReal) := by
  have e1 : ∀ r : Fin 128, rowsOf (subf (broadcastInDim S128 ![] bcast_S_S128 (constant (F := Ideal) S_ .f32 0x42FE0000#32)) places) (ix5 b n r h d)
      = ((Real.exp ((127 - r.val) * ld h) : ℝ) : EReal) := fun r => rowsOf_at b h d n r _ _ (by
    pointwise [places_at]
    rw [last_f32, ← EReal.coe_sub])
  pointwise [kv, hk, hv, e1]
  simp only [← EReal.coe_mul]
  rw [Cert.Reals.coe_sum]

/-- The attention inside a chunk, of real queries, keys and values. -/
theorem intra_at (q k v : FVec Ideal S4x32x128x8x128 .f32) (QQ : Fin 128 → ℝ) (KK : Fin 128 → ℕ → ℝ) (VV : ℕ → ℝ)
    (hq : ∀ d, q (ix5 b n r h d) = ((QQ d : ℝ) : EReal))
    (hk : ∀ r d, k (ix5 b n r h d) = ((KK d (128 * n.val + r.val) : ℝ) : EReal))
    (hv : ∀ r, v (ix5 b n r h e) = ((VV (128 * n.val + r.val) : ℝ) : EReal)) : intra q k v (ix5 b n r h e)
      = ((∑ j : Fin 128, (∑ d, QQ d * KK d (128 * n.val + j.val)) * (if j.val ≤ r.val then Real.exp (((r.val : ℝ) - j.val) * ld h) else 0)
          * VV (128 * n.val + j.val) : ℝ) : EReal) := by
  pointwise [intra, hq, hk, hv, decay_at]
  simp only [← EReal.coe_mul]
  simp only [← Cert.Reals.coe_sum, ← EReal.coe_mul]
  refine congrArg _ (Finset.sum_congr rfl fun j _ => by ring)

/-- The attention from the states before the chunks. -/
theorem cross_at (q : FVec Ideal S4x32x128x8x128 .f32) (S : FVec Ideal S32x4x8x128x128 .f32) (QQ SS : Fin 128 → ℝ)
    (hq : ∀ d, q (ix5 b n r h d) = ((QQ d : ℝ) : EReal)) (hs : ∀ d, S (ix5 n b h d e) = ((SS d : ℝ) : EReal)) :
    cross q S (ix5 b n r h e) = (((∑ d, QQ d * SS d) * Real.exp (((r.val : ℝ) + 1) * ld h) : ℝ) : EReal) := by
  have e1 : rowsOf (addf places (broadcastInDim S128 ![] bcast_S_S128 (constant (F := Ideal) S_ .f32 0x3F800000#32))) (ix5 b n r h e)
      = ((Real.exp (((r.val : ℝ) + 1) * ld h) : ℝ) : EReal) := rowsOf_at b h e n r _ _ (by
    pointwise [places_at]
    rw [← EReal.coe_one, ← EReal.coe_add])
  pointwise [cross, hq, hs, e1]
  simp only [← EReal.coe_mul]
  simp only [← Cert.Reals.coe_sum, ← EReal.coe_mul]
  refine congrArg (fun x : ℝ => ((x * _ : ℝ) : EReal)) (Finset.sum_congr rfl fun j _ => by ring)

end Cert.ReferenceIdeal.RetRef

end
-- ==== Proof.RetLoop.lean ====
/-
  The retention's reference through its loop: the state, and the states kept, of real arguments.
-/
module

public import proofs.«01_k».proof.Proof.RetRefAt
public import proofs.«01_k».proof.Proof.RefFrame
public import Idealize.ShloMosaic.Lib.WordCmp

@[expose] public section

set_option maxRecDepth 16384

noncomputable section

namespace Cert.ReferenceIdeal.RetRef

open Cert.ReferenceIdeal Cert.ReferenceIdeal.Gen Cert.ReferenceIdeal.Value Cert.ReferenceIdeal.RefFrame
open Idealize.ShloMosaic Idealize.ShloMosaic.TcCoe Idealize.SL.Sem Idealize.ShloMosaic.StableHlo
open Cert.Ret (K V ld)

variable (m : (ℓ : Loc nD τ sig) → Buf (Elt Ideal) ℓ) (c : Dev nD)

/-- A reference that only the operations before the loop write. -/
def Held (r : Ref sig .tc) : Prop :=
  (∀ V : Valuation τ sig (Elt Ideal), after condOps V (Proc.devRef .tc r) = V (Proc.devRef .tc r))
  ∧ (∀ V : Valuation τ sig (Elt Ideal), afterL bodyI V (Proc.devRef .tc r) = V (Proc.devRef .tc r))

/-- What the operations before the loop leave there, the loop keeps. -/
theorem held {r : Ref sig .tc} (h : Held r) (k : ℕ) : atK m k c (Proc.devRef .tc r) = entryContents preI m c (Proc.devRef .tc r) := by
  induction k with
  | zero => rfl
  | succ k ih => rw [show atK m (k + 1) c = afterL bodyI (after condOps (atK m k c)) from rfl, h.2, h.1, ih]

/-- The queries are held. -/
theorem held_q : Held main_v77 := by
  refine ⟨fun V => ?_, fun V => ?_⟩ <;> (try simp only [afterL_cons, afterL_nil]) <;> after_reads_simp
/-- The logarithms are held. -/
theorem held_l : Held main_v76 := by
  refine ⟨fun V => ?_, fun V => ?_⟩ <;> (try simp only [afterL_cons, afterL_nil]) <;> after_reads_simp
/-- The places are held. -/
theorem held_p : Held main_v80 := by
  refine ⟨fun V => ?_, fun V => ?_⟩ <;> (try simp only [afterL_cons, afterL_nil]) <;> after_reads_simp
/-- The gates are held. -/
theorem held_g : Held main_v5 := by
  refine ⟨fun V => ?_, fun V => ?_⟩ <;> (try simp only [afterL_cons, afterL_nil]) <;> after_reads_simp
/-- The attention inside chunks is held. -/
theorem held_i : Held main_v102 := by
  refine ⟨fun V => ?_, fun V => ?_⟩ <;> (try simp only [afterL_cons, afterL_nil]) <;> after_reads_simp
/-- The chunks' additions are held. -/
theorem held_kv : Held main_v120_0 :=
  ⟨fun V => cond_keeps V main_v120_0 (by decide), fun V => trip_main_v120_0 V⟩
/-- The chunk decay is held. -/
theorem held_d : Held main_v120_1 :=
  ⟨fun V => cond_keeps V main_v120_1 (by decide), fun V => trip_main_v120_1 V⟩

/-- The starts of a slice of one chunk. -/
theorem starts (w : IVec S_ 32) (k : ℕ) (hk : k < 32) (hw : w = fun _ => Scf.iv 0#32 1#32 k) (a : Fin 5) :
    (((![w, constantI S_ 32 0#32, constantI S_ 32 0#32, constantI S_ 32 0#32, constantI S_ 32 0#32] : Fin 5 → (⟨S_, .i32⟩ : BufTy).Contents (Elt Ideal))) a
      (Shape.Idx.first h_S_)).toInt = ((![k, 0, 0, 0, 0] : Fin 5 → ℕ) a : Int) := by
  subst hw
  have h1 : (Scf.iv 0#32 1#32 k : BitVec 32).toInt = (k : ℤ) := by
    unfold Scf.iv
    rw [BitVec.zero_add, BitVec.mul_one, BitVec.toInt_eq_toNat_of_lt] <;> rw [BitVec.toNat_ofNat, Nat.mod_eq_of_lt (by omega)]
    omega
  have h0 : (0#32).toInt = 0 := by decide
  fin_cases a
  · exact h1
  all_goals exact h0

/-- One chunk is a slice. -/
theorem slices (k : ℕ) (hk : k < 32) : S32x4x8x128x128.Slices ![k, 0, 0, 0, 0] S1x4x8x128x128 := by
  refine ⟨rfl, fun a => ?_⟩
  fin_cases a
  · show k + 1 ≤ 32; omega
  · show 0 + 4 ≤ 4; omega
  · show 0 + 8 ≤ 8; omega
  · show 0 + 128 ≤ 128; omega
  · show 0 + 128 ≤ 128; omega

section trip

variable (x : FVec Ideal S32x4x8x128x128 .f32) (y : FVec Ideal S8 .f32) (z : FVec Ideal S4x8x128x128 .f32) (w : IVec S_ 32)
  (k : ℕ) (hk : k < 32) (hw : w = fun _ => Scf.iv 0#32 1#32 k) (n : Fin 32) (b : Fin 4) (h : Fin 8) (d e : Fin 128)

include hw in
/-- One chunk's addition. -/
theorem slice_at : (shapeCast S4x8x128x128 (Host.dynamicSlice S1x4x8x128x128 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x8x128x128_S1x4x8x128x128) shapeCasts_S1x4x8x128x128_S4x8x128x128) (ix4 b h d e)
    = x (ix5 ⟨k, hk⟩ b h d e) := by
  rw [WordCmp.dynamicSlice_eq_extract _ _ _ _ ![k, 0, 0, 0, 0] (slices k hk) (starts _ k hk hw)]
  have e0 : ∀ v : FVec Ideal S1x4x8x128x128 .f32, shapeCast S4x8x128x128 v shapeCasts_S1x4x8x128x128_S4x8x128x128 (ix4 b h d e) = v (ix5 0 b h d e) := by
    intro v
    rw [shapeCast_apply]
    rw [Shape.rowMajor_val_four, Shape.rowMajor_val_five]
    show (((0 * 4 + b.val) * 8 + h.val) * 128 + d.val) * 128 + e.val = ((b.val * 8 + h.val) * 128 + d.val) * 128 + e.val
    omega
  rw [e0]
  pointwise

include hw in
/-- The state a trip further. -/
theorem next_s : (addf (mulf z (broadcastInDim S4x8x128x128 ![0, 1, 2, 3] bcast_S1x8x1x1_S4x8x128x128_0_1_2_3 (broadcastInDim S1x8x1x1 ![1] bcast_S8_S1x8x1x1_1 y)))
      (shapeCast S4x8x128x128 (Host.dynamicSlice S1x4x8x128x128 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x8x128x128_S1x4x8x128x128) shapeCasts_S1x4x8x128x128_S4x8x128x128)) (ix4 b h d e)
    = z (ix4 b h d e) * y (ix1 h) + x (ix5 ⟨k, hk⟩ b h d e) := by
  have e0 := slice_at x w k hk hw b h d e
  generalize (shapeCast S4x8x128x128 (Host.dynamicSlice S1x4x8x128x128 x (fun k => (((![w, constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x8x128x128_S1x4x8x128x128) shapeCasts_S1x4x8x128x128_S4x8x128x128) = v at e0 ⊢
  pointwise [e0]

include hk hw in
/-- The states kept a trip further. -/
theorem next_k : (Host.dynamicUpdateSlice x (broadcastInDim S1x4x8x128x128 ![1, 2, 3, 4] bcast_S4x8x128x128_S1x4x8x128x128_1_2_3_4 z) (fun k => (((![w, constantI S_ 32 0#32, constantI S_ 32 0#32, constantI S_ 32 0#32, constantI S_ 32 0#32] : Fin 5 → (⟨S_, .i32⟩ : BufTy).Contents (Elt Ideal))) k (Shape.Idx.first h_S_)).toInt) updateFits_S32x4x8x128x128_S1x4x8x128x128) (ix5 n b h d e)
    = if n.val = k then z (ix4 b h d e) else x (ix5 n b h d e) := by
  rw [WordCmp.dynamicUpdateSlice_eq_update _ _ _ _ ![k, 0, 0, 0, 0] (slices k hk) (starts _ k hk hw)]
  unfold updateSlice
  by_cases hn : n.val = k
  · rw [if_pos hn, dif_pos]
    · have e0 : (broadcastInDim S1x4x8x128x128 ![1, 2, 3, 4] bcast_S4x8x128x128_S1x4x8x128x128_1_2_3_4 z) (ix5 0 b h d e) = z (ix4 b h d e) := by
        pointwise
      refine (congrArg _ (funext fun a => Fin.ext ?_)).trans e0
      fin_cases a
      · show n.val - k = 0; omega
      · rfl
      · rfl
      · rfl
      · rfl
    · intro a
      fin_cases a
      · show k ≤ n.val ∧ n.val < k + 1; omega
      · show 0 ≤ b.val ∧ b.val < 0 + 4; omega
      · show 0 ≤ h.val ∧ h.val < 0 + 8; omega
      · show 0 ≤ d.val ∧ d.val < 0 + 128; omega
      · show 0 ≤ e.val ∧ e.val < 0 + 128; omega
  · rw [if_neg hn, dif_neg]
    intro hin
    have h1 : k ≤ n.val ∧ n.val < k + 1 := hin 0
    omega

end trip

variable (hF : Cert.Ret.Finite (m ((c.tc : Thread nD τ).loc main_arg0)))

/-- The state of the arguments at a position of a sequence. -/
def stateAt (b : Fin 4) (h : Fin 8) (d e : Fin 128) (n : ℕ) : ℝ :=
  Cert.Decay.state (ld h) (K (m ((c.tc : Thread nD τ).loc main_arg0)) (m ((c.tc : Thread nD τ).loc main_arg1)) b h d)
    (V (m ((c.tc : Thread nD τ).loc main_arg0)) b h e) n

include hF in
/-- The state, trip by trip. -/
theorem state_at (k : ℕ) (hk : k ≤ 32) (b : Fin 4) (h : Fin 8) (d e : Fin 128) :
    (show FVec Ideal S4x8x128x128 .f32 from atK m k c (Proc.devRef .tc main_v120_3)) (ix4 b h d e) = ((stateAt m c b h d e (128 * k) : ℝ) : EReal) := by
  induction k with
  | zero =>
    rw [show atK m 0 c (Proc.devRef .tc main_v120_3) = _ from pre_s _]
    show _ = ((Cert.Decay.state _ _ _ 0 : ℝ) : EReal)
    rw [Cert.Decay.state_zero]
    pointwise
    rfl
  | succ k ih =>
    have hs : atK m (k + 1) c (Proc.devRef .tc main_v120_3) = step_main_v120_3 (atK m k c) :=
      (trip_agree (atK m k c) main_v120_3 (by decide)).trans (STEP_main_v120_3 _)
    have hx : atK m k c (Proc.devRef .tc main_v120_0) = kv (kc (m ((c.tc : Thread nD τ).loc main_arg0)) (m ((c.tc : Thread nD τ).loc main_arg1)))
      (vc (m ((c.tc : Thread nD τ).loc main_arg0))) := (held m c held_kv k).trans (pre_kv _)
    have hy : atK m k c (Proc.devRef .tc main_v120_1) = cdec := (held m c held_d k).trans (pre_d _)
    rw [hs]
    refine (next_s _ _ _ _ k (by omega) (atK_ctr m c k) b h d e).trans ?_
    rw [hx, hy, cdec_at, kv_at b h d e ⟨k, by omega⟩ _ _ _ _ (fun r => kc_at _ _ b h d ⟨k, by omega⟩ r hF) (fun r => vc_at _ b h e ⟨k, by omega⟩ r hF)]
    have hi := ih (by omega)
    rw [show (128 * (k + 1)) = 128 * k + 128 from rfl]
    unfold stateAt at hi ⊢
    rw [Cert.Decay.state_add, Finset.sum_range]
    refine (congrArg (· * _ + _) hi).trans ?_
    rw [← EReal.coe_mul, ← EReal.coe_add]
    norm_num

include hF in
/-- The states kept, trip by trip: each is the one before its chunk. -/
theorem kept_at (k : ℕ) (hk : k ≤ 32) (n : Fin 32) (hn : n.val < k) (b : Fin 4) (h : Fin 8) (d e : Fin 128) :
    (show FVec Ideal S32x4x8x128x128 .f32 from atK m k c (Proc.devRef .tc main_v120_4)) (ix5 n b h d e)
      = ((stateAt m c b h d e (128 * n.val) : ℝ) : EReal) := by
  induction k with
  | zero => omega
  | succ k ih =>
    have hs : atK m (k + 1) c (Proc.devRef .tc main_v120_4) = step_main_v120_4 (atK m k c) :=
      (trip_agree (atK m k c) main_v120_4 (by decide)).trans (STEP_main_v120_4 _)
    rw [hs]
    refine (next_k _ _ _ k (by omega) (atK_ctr m c k) n b h d e).trans ?_
    by_cases h0 : n.val = k
    · rw [if_pos h0, h0]
      exact state_at m c hF k (by omega) b h d e
    · rw [if_neg h0]
      exact ih (by omega) (by omega)

end Cert.ReferenceIdeal.RetRef

end
-- ==== Proof.RetOut.lean ====
/-
  The retention's reference after its loop: the result is the one function of the arguments.
-/
module

public import proofs.«01_k».proof.Proof.RetLoop

@[expose] public section

set_option maxRecDepth 16384

noncomputable section

namespace Cert.ReferenceIdeal.RetRef

open Cert.ReferenceIdeal Cert.ReferenceIdeal.Gen Cert.ReferenceIdeal.Value Cert.ReferenceIdeal.RefFrame
open Idealize.ShloMosaic Idealize.ShloMosaic.TcCoe Idealize.SL.Sem Idealize.ShloMosaic.StableHlo
open Cert.Ret (row col Q K V att ld dev gated res result)

section tail

variable (x : FVec Ideal S4x4096x8x128 .f32) (b : Fin 4) (p : Fin 4096) (h : Fin 8) (e : Fin 128)

/-- A head's mean. -/
theorem means_at : means x (ix4 b p h 0) = Ideal.div (∑ e : Fin 128, x (ix4 b p h e)) (Ideal.ofBits .f32 0x43000000#32) := by
  pointwise [means]

/-- A head less its mean. -/
theorem devs_at : devs x (ix4 b p h e) = dev (fun e => x (ix4 b p h e)) e := by
  pointwise [devs, lanes, means_at]
  rfl

/-- A head normalised. -/
theorem norm_at : norm x (ix4 b p h e) = dev (fun e => x (ix4 b p h e)) e
    * Ideal.rsqrt (Ideal.div (∑ y, dev (fun e => x (ix4 b p h e)) y * dev (fun e => x (ix4 b p h e)) y) (Ideal.ofBits .f32 0x43000000#32)
      + Ideal.ofBits .f32 0x3727C5AC#32) := by
  pointwise [norm, lanes, means_at, devs_at]

/-- A gate. -/
theorem silu_at (g : FVec Ideal S4x4096x1024 .f32) (k : Fin 1024) :
    silu g (ix3 b p k) = g (ix3 b p k) * Ideal.div 1 (1 + Ideal.exp (-g (ix3 b p k))) := by
  pointwise [silu]

/-- A place of a chunk is a position. -/
theorem whole_at (o : FVec Ideal S4x32x128x8x128 .f32) : shapeCast S4x4096x8x128 o shapeCasts_S4x32x128x8x128_S4x4096x8x128 (ix4 b p h e)
    = o (ix5 b ⟨p.val / 128, by omega⟩ ⟨p.val % 128, by omega⟩ h e) := by
  rw [shapeCast_apply]
  rw [Shape.rowMajor_val_four, Shape.rowMajor_val_five]
  show (((b.val * 32 + p.val / 128) * 128 + p.val % 128) * 8 + h.val) * 128 + e.val = ((b.val * 4096 + p.val) * 8 + h.val) * 128 + e.val
  omega

/-- Lanes of heads are columns. -/
theorem flat_at : shapeCast S4x4096x1024 x shapeCasts_S4x4096x8x128_S4x4096x1024 (ix3 b p ⟨h.val * 128 + e.val, by omega⟩) = x (ix4 b p h e) := by
  rw [shapeCast_apply]
  rw [Shape.rowMajor_val_three, Shape.rowMajor_val_four]
  show ((b.val * 4096 + p.val) * 8 + h.val) * 128 + e.val = (b.val * 4096 + p.val) * 1024 + (h.val * 128 + e.val)
  omega

/-- Sequences' positions are rows. -/
theorem rows_at (y : FVec Ideal S4x4096x1024 .f32) (k : Fin 1024) :
    shapeCast S16384x1024 y shapeCasts_S4x4096x1024_S16384x1024 (ix2 (row b p.val) k) = y (ix3 b p k) := by
  rw [shapeCast_apply]
  rw [Shape.rowMajor_val_three, Shape.rowMajor_val_two]
  show (b.val * 4096 + p.val) * 1024 + k.val = (b.val * 4096 + p.val % 4096) * 1024 + k.val
  omega

/-- The result at an entry. -/
theorem post_at (G : FVec Ideal S1024 .f32) (o : FVec Ideal S4x32x128x8x128 .f32) (g : FVec Ideal S4x4096x1024 .f32) (A : Fin 128 → EReal)
    (hA : ∀ e, o (ix5 b ⟨p.val / 128, by omega⟩ ⟨p.val % 128, by omega⟩ h e) = A e) :
    post G o g (ix2 (row b p.val) ⟨h.val * 128 + e.val, by omega⟩)
      = gated A (g (ix3 b p ⟨h.val * 128 + e.val, by omega⟩)) (G (ix1 ⟨h.val * 128 + e.val, by omega⟩)) e := by
  have e1 : ∀ y : FVec Ideal S16384x1024 .f32, truncf .bf16 y bitsLt_bf16_f32 = y := fun _ => rfl
  have hw : (fun e => shapeCast S4x4096x8x128 o shapeCasts_S4x32x128x8x128_S4x4096x8x128 (ix4 b p h e)) = A :=
    funext fun e => (whole_at b p h e o).trans (hA e)
  unfold post
  refine (congrFun (e1 _) _).trans ((rows_at b p _ _).trans ?_)
  have e2 := flat_at (norm (shapeCast S4x4096x8x128 o shapeCasts_S4x32x128x8x128_S4x4096x8x128)) b p h e
  rw [norm_at, hw] at e2
  pointwise [silu_at, e2]
  unfold gated
  rw [mul_assoc]

end tail

variable (m : (ℓ : Loc nD τ sig) → Buf (Elt Ideal) ℓ) (c : Dev nD) (hF : Cert.Ret.Finite (m ((c.tc : Thread nD τ).loc main_arg0)))

/-- The attention by chunk, at the loop's end. -/
def attn : FVec Ideal S4x32x128x8x128 .f32 :=
  addf (intra (qc (m ((c.tc : Thread nD τ).loc main_arg0)) (m ((c.tc : Thread nD τ).loc main_arg1)))
      (kc (m ((c.tc : Thread nD τ).loc main_arg0)) (m ((c.tc : Thread nD τ).loc main_arg1))) (vc (m ((c.tc : Thread nD τ).loc main_arg0))))
    (cross (qc (m ((c.tc : Thread nD τ).loc main_arg0)) (m ((c.tc : Thread nD τ).loc main_arg1))) (atK m 32 c (Proc.devRef .tc main_v120_4)))

include hF in
/-- The attention by chunk is the decayed attention of the whole sequence. -/
theorem attn_at (b : Fin 4) (n : Fin 32) (r : Fin 128) (h : Fin 8) (e : Fin 128) : attn m c (ix5 b n r h e)
    = ((att (m ((c.tc : Thread nD τ).loc main_arg0)) (m ((c.tc : Thread nD τ).loc main_arg1)) b h (128 * n.val + r.val) e : ℝ) : EReal) := by
  have e1 := intra_at b h e n r _ _ _ _ _ _ (fun d => qc_at _ (m ((c.tc : Thread nD τ).loc main_arg1)) b h d n r hF)
    (fun r d => kc_at _ (m ((c.tc : Thread nD τ).loc main_arg1)) b h d n r hF) (fun r => vc_at _ b h e n r hF)
  have e2 := cross_at b h e n r _ _ _ _ (fun d => qc_at _ (m ((c.tc : Thread nD τ).loc main_arg1)) b h d n r hF)
    (fun d => kept_at m c hF 32 le_rfl n n.isLt b h d e)
  show intra _ _ _ _ + cross _ _ _ = _
  rw [e1, e2, ← EReal.coe_add]
  unfold att
  rw [← Cert.Decay.out_chunk _ _ _ _ (128 * n.val) r.val 128 r.isLt, Finset.sum_range]
  rfl

include hF in
/-- The retention's reference ends with the one function of the arguments. -/
theorem final : (show S16384x1024.Idx → EReal from finalContents condOps preI bodyI postI 32 m c (Proc.devRef .tc main_v161))
    = result (m ((c.tc : Thread nD τ).loc main_arg0)) (m ((c.tc : Thread nD τ).loc main_arg1)) (m ((c.tc : Thread nD τ).loc main_arg2)) := by
  have hu : Untouched main_arg2 := arg2
  have k2 : ∀ k, atK m k c (Proc.devRef .tc main_arg2) = m ((c.tc : Thread nD τ).loc main_arg2) := fun k =>
    (held m c ⟨hu.2.1, hu.2.2.1⟩ k).trans (hu.1 _)
  have hc : after condOps (atK m 32 c) (Proc.devRef .tc main_v120_4) = atK m 32 c (Proc.devRef .tc main_v120_4) := cond_keeps _ main_v120_4 (by decide)
  have e0 : finalContents condOps preI bodyI postI 32 m c (Proc.devRef .tc main_v161) = post (m ((c.tc : Thread nD τ).loc main_arg2)) (attn m c)
      (cutg (m ((c.tc : Thread nD τ).loc main_arg0))) := by
    refine (post_r (after condOps (atK m 32 c)) (((held_l.1 _).trans (held m c held_l 32)).trans (pre_l _))
      (((held_p.1 _).trans (held m c held_p 32)).trans (pre_p _))).trans ?_
    rw [hc, held_q.1, held_i.1, held_g.1, hu.2.1, k2 32, held m c held_q 32, held m c held_i 32, held m c held_g 32]
    rw [show entryContents preI m c (Proc.devRef .tc main_v102) = _ from pre_i _, show entryContents preI m c (Proc.devRef .tc main_v77) = _ from pre_q _,
      show entryContents preI m c (Proc.devRef .tc main_v5) = _ from pre_g _]
    rfl
  rw [e0]
  funext i
  have h0 : (i 0).val < 16384 := (i 0).isLt
  have h1 : (i 1).val < 1024 := (i 1).isLt
  have hp := post_at ⟨(i 0).val / 4096, by omega⟩ ⟨(i 0).val % 4096, by omega⟩ ⟨(i 1).val / 128, by omega⟩ ⟨(i 1).val % 128, by omega⟩
    (m ((c.tc : Thread nD τ).loc main_arg2)) (attn m c) (cutg (m ((c.tc : Thread nD τ).loc main_arg0))) _ (fun e => attn_at m c hF _ _ _ _ e)
  rw [cutg_at] at hp
  have hi : i = ix2 (row ⟨(i 0).val / 4096, by omega⟩ ((i 0).val % 4096)) ⟨(i 1).val / 128 * 128 + (i 1).val % 128, by omega⟩ := by
    refine (eq_ix2 i).trans (congrArg₂ ix2 (Fin.ext ?_) (Fin.ext ?_))
    · show (i 0).val = (i 0).val / 4096 * 4096 + (i 0).val % 4096 % 4096
      omega
    · show (i 1).val = (i 1).val / 128 * 128 + (i 1).val % 128
      omega
  have hs : 128 * ((i 0).val % 4096 / 128) + (i 0).val % 4096 % 128 = (i 0).val % 4096 := by omega
  refine (congrArg _ hi).trans (hp.trans ?_)
  unfold result res
  dsimp only
  rw [hs]

end Cert.ReferenceIdeal.RetRef

end
-- ==== Proof.RetClaim.lean ====
/-
  The retention kernel and its reference leave the same array, of finite queries, keys and values.
-/
module

public import proofs.«01_k».proof.Defs
public import proofs.«01_k».proof.Proof.Frames
public import proofs.«01_k».proof.Proof.OutClaim
public import proofs.«01_k».proof.Proof.RetState
public import proofs.«01_k».proof.Proof.RetOut
public import Idealize.ShloMosaic.Lib.Claim

@[expose] public section

set_option maxRecDepth 16384

noncomputable section

namespace Cert.RetClaim

open Idealize.ShloMosaic Idealize.ShloMosaic.TcCoe Idealize.SL.Sem

/-- The precondition's side conditions hold. -/
theorem facts : Cert.Pre_finite_qkv.Facts := by
  constructor <;> decide

/-- The precondition makes the queries, keys and values real numbers. -/
theorem finite [Cert.Pre_finite_qkv.Facts] (m : (ℓ : Loc Cert.KernelIdeal.nD Cert.KernelIdeal.τ Cert.KernelIdeal.sig) → Buf (Elt Ideal) ℓ)
    (h : Cert.Pre_KernelIdeal_finite_qkv m) (c : Dev Cert.KernelIdeal.nD) :
    Cert.Ret.Finite (m ((c.tc : Thread Cert.KernelIdeal.nD Cert.KernelIdeal.τ).loc Cert.KernelIdeal.main_arg0)) := by
  intro R k hk
  have h1 := Cert.OutClaim.finite_of_lt _ _ (h c) (ix2 R ⟨k.val, hk⟩)
  pointwise at h1
  exact h1

/-- The retention: from agreeing arguments of finite queries, keys and values, the kernel and the reference end with equal results. -/
theorem algebraic [Cert.Pre_finite_qkv.Facts] : Cert.algebraic_KernelIdeal_ReferenceIdeal_pre_finite_qkv := by
  intro m g m' g' hpre hagree
  refine ⟨fun c => Cert.Ret.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun r h c => ⟨((h.1 c).1 8).trans (Cert.KernelIdeal.RetValue.final m c (finite m hpre c)), h.2 c⟩)
      (θ_run_and (Cert.KernelIdeal.Gen.run_main m g) (Cert.KernelIdeal.Gen.unchanged m g))
  · refine (θ_run _ _ _).mono ?_ (Cert.ReferenceIdeal.Value.run_fold m' g')
    intro r h c
    obtain ⟨h0, h1, h2⟩ := hagree c
    have hF := finite m hpre c
    rw [← h0] at hF
    have e := Cert.ReferenceIdeal.RetRef.final m' c hF
    rw [h0, h1, h2] at e
    exact ⟨(h c Cert.ReferenceIdeal.main_v161 rfl).trans e,
      (h c Cert.ReferenceIdeal.main_arg0 rfl).trans (Cert.ReferenceIdeal.RefFrame.kept m' Cert.ReferenceIdeal.RefFrame.arg0 c),
      (h c Cert.ReferenceIdeal.main_arg1 rfl).trans (Cert.ReferenceIdeal.RefFrame.kept m' Cert.ReferenceIdeal.RefFrame.arg1 c),
      (h c Cert.ReferenceIdeal.main_arg2 rfl).trans (Cert.ReferenceIdeal.RefFrame.kept m' Cert.ReferenceIdeal.RefFrame.arg2 c)⟩

/-- The frame under the precondition is the plain frame. -/
theorem kernelFrame [Cert.Pre_finite_qkv.Facts] : Cert.quiescent_KernelIdeal_pre_finite_qkv :=
  fun m ρ _ => Cert.Frames.kernelIdeal m ρ trivial

/-- The reference's frame under the precondition is the plain frame. -/
theorem referenceFrame [Cert.Pre_finite_qkv.Facts] : Cert.quiescent_ReferenceIdeal_pre_finite_qkv :=
  fun m ρ _ => Cert.ReferenceIdeal.RefFrame.frame m ρ trivial

end Cert.RetClaim

end
-- ==== Proof.ModHost.lean ====
/-
  The arrays the modulation kernel is launched on, as the operations before the launch leave them.
-/
module

public import proofs.«01_k».proof.Proof.Gen.Kernel5Ideal.Frame
public import Idealize.ShloMosaic.Lib.Pipeline.ValueKit
public import Idealize.ShloMosaic.Lib.Pointwise
public import Idealize.ShloMosaic.Lib.StableHlo.Run
public import Idealize.ShloMosaic.Lib.Routing.OpsSet

@[expose] public section

set_option maxRecDepth 16384

noncomputable section

namespace Cert.Kernel5Ideal.ModValue

open Cert.Kernel5Ideal Cert.Kernel5Ideal.Gen Idealize.ShloMosaic Idealize.ShloMosaic.TcCoe Idealize.SL.Sem Idealize.ShloMosaic.StableHlo

variable (m : (ℓ : Loc nD τ sig) → Buf (Elt Ideal) ℓ)

/-- The conditioning rows in the first four of eight rows. -/
def padded (C : FVec Ideal S4x2048 .f32) : FVec Ideal S8x2048 .f32 :=
  Host.scatter scatter_S8x2048_S1_S4x2048_01_n_0_0 (fun _ b => b) (broadcastInDim S8x2048 ![] bcast_S_S8x2048 (constant S_ .f32 0x00000000#32))
    (broadcastInDim S1 ![] bcast_S_S1 (constantI S_ 32 0#32)) C

/-- The conditioning rows the kernel reads. -/
theorem V_cond (c : Dev nD) : V m c main_v2 = padded (m ((c : Thread nD τ).loc main_arg0)) := by
  unfold V V0
  dsimp only [List.flatten, List.append]
  after_results_simp
  rfl

/-- The biases, one row per layer. -/
theorem V_bias (c : Dev nD) : V m c main_v3 = shapeCast S4x1x12288 (m ((c : Thread nD τ).loc main_arg2)) shapeCasts_S4x12288_S4x1x12288 := by
  unfold V V0
  dsimp only [List.flatten, List.append]
  after_results_simp
  rfl

/-- A conditioning row lands in the row of its own number. -/
theorem lands (idx : IVec S1 32) (h0 : (idx (ix1 0)).toInt = 0) (b : Fin 4) (k : Fin 2048) (b' : Fin 8) (k' : Fin 2048) :
    scatter_S8x2048_S1_S4x2048_01_n_0_0.resultIdx? (ix2 b k) idx = some (ix2 b' k') ↔ b.val = b'.val ∧ k = k' := by
  have hs0 : scatter_S8x2048_S1_S4x2048_01_n_0_0.start (ix2 b k) idx 0 = 0 := by
    unfold ScatterDims.start
    rw [dif_pos (show (0 : Fin 2) ∈ scatter_S8x2048_S1_S4x2048_01_n_0_0.scatterDimsToOperandDims from List.mem_singleton.2 rfl)]
    refine Eq.trans (congrArg (fun z => (idx z).toInt) ?_) h0
    funext z
    match z with
    | ⟨0, _⟩ => exact Subsingleton.elim (α := Fin 1) _ _
  have hs1 : scatter_S8x2048_S1_S4x2048_01_n_0_0.start (ix2 b k) idx 1 = 0 := by
    unfold ScatterDims.start
    rw [dif_neg (show ¬ (1 : Fin 2) ∈ scatter_S8x2048_S1_S4x2048_01_n_0_0.scatterDimsToOperandDims from fun h => absurd (List.mem_singleton.1 h) (by decide : (1 : Fin 2) ≠ 0))]
  have hw0 : scatter_S8x2048_S1_S4x2048_01_n_0_0.window (ix2 b k) 0 = b.val := rfl
  have hw1 : scatter_S8x2048_S1_S4x2048_01_n_0_0.window (ix2 b k) 1 = k.val := rfl
  refine (Routing.resultIdx?_ix2 (R := 8) (C := 2048) scatter_S8x2048_S1_S4x2048_01_n_0_0 (ix2 b k) idx b' k').trans ?_
  rw [Fin.ext_iff, hs0, hw0, hs1, hw1]
  omega

/-- A conditioning row among the padded ones. -/
theorem padded_at (C : FVec Ideal S4x2048 .f32) (b : Fin 4) (b' : Fin 8) (h : b'.val = b.val) (k : Fin 2048) :
    padded C (ix2 b' k) = C (ix2 b k) := by
  have hi : ((broadcastInDim S1 ![] bcast_S_S1 (constantI S_ 32 0#32) : IVec S1 32) (ix1 0)).toInt = 0 := by
    pointwise
    rfl
  refine Routing.scatter_set_hit _ _ _ _ _ _ (fun j hj => ?_) (ix2 b k) ((lands _ hi b k b' k).2 ⟨h.symm, rfl⟩)
  have e := (lands _ hi (j 0) (j 1) b' k).1 ((congrArg (fun t => scatter_S8x2048_S1_S4x2048_01_n_0_0.resultIdx? t _) (eq_ix2 j).symm).trans hj)
  refine congrArg C ((eq_ix2 j).trans ?_)
  have e0 : j 0 = b := Fin.ext (e.1.trans h)
  have e1 : j 1 = k := e.2
  exact congrArg₂ ix2 e0 e1

end Cert.Kernel5Ideal.ModValue

end
-- ==== Proof.ModBlock.lean ====
/-
  The modulation kernel: what one grid point leaves in its block, the whole array, and the rows handed on.
-/
module

public import proofs.«01_k».proof.Proof.ModHost

@[expose] public section

set_option maxRecDepth 16384

noncomputable section

namespace Cert.Kernel5Ideal.ModValue

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Which block each window stages at each grid point. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] ∧ t.val < 48 :=
  (by decide +kernel : ∀ t : Fin grid0.N, _)

/-- A value times its logistic. -/
def gated (x : EReal) : EReal := x * Ideal.div 1 (1 + Ideal.exp (-x))

/-- A conditioning row through one column of a layer's weights, with the bias. -/
def modAt (row : Fin 2048 → EReal) (W : FVec Ideal S4x2048x12288 .f32) (B : FVec Ideal S4x12288 .f32) (l : Fin 4) (j : Fin 12288) : EReal :=
  (∑ k : Fin 2048, gated (row k) * W (ix3 l k j)) + B (ix2 l j)

/-- The array of the products, of all eight rows. -/
def out (c : Dev nD) : S4x8x12288.Idx → EReal := fun i =>
  modAt (fun k => padded (m ((c : Thread nD τ).loc main_arg0)) (ix2 (i 1) k)) (m ((c : Thread nD τ).loc main_arg1))
    (m ((c : Thread nD τ).loc main_arg2)) (i 0) (i 2)

/-- The conditioning rows every block holds. -/
theorem cond_at (c : Dev nD) (t : Fin cfg0.N) (r : Fin 8) (k : Fin 2048) :
    iblk m c 0 t (ix2 r k) = padded (m ((c : Thread nD τ).loc main_arg0)) (ix2 r k) := by
  have e : iblk m c 0 t (ix2 r k) = V m c main_v2 (((cfg0.win 0).blk t).view.emb (ix2 r k)) := rfl
  have e2 : ((cfg0.win 0).blk t).view.emb (ix2 r k) = ix2 r k := by blk_ext [idx t]
  rw [e, V_cond, e2]

/-- The weights a block holds. -/
theorem w_at (c : Dev nD) (t : Fin cfg0.N) (k : Fin 2048) (n : Fin 1024) (l : Fin 4) (j : Fin 12288)
    (hl : l.val = t.val / 12) (hj : j.val = t.val % 12 * 1024 + n.val) :
    iblk m c 1 t (ix3 0 k n) = m ((c : Thread nD τ).loc main_arg1) (ix3 l k j) := by
  have e : iblk m c 1 t (ix3 0 k n) = V m c main_arg1 (((cfg0.win 1).blk t).view.emb (ix3 0 k n)) := rfl
  have e2 : ((cfg0.win 1).blk t).view.emb (ix3 0 k n) = ix3 l k j := by blk_ext [idx t]
  rw [e, V_main_arg1, e2]

/-- The biases a block holds. -/
theorem b_at (c : Dev nD) (t : Fin cfg0.N) (n : Fin 1024) (l : Fin 4) (j : Fin 12288)
    (hl : l.val = t.val / 12) (hj : j.val = t.val % 12 * 1024 + n.val) :
    iblk m c 2 t (ix3 0 0 n) = m ((c : Thread nD τ).loc main_arg2) (ix2 l j) := by
  have e : iblk m c 2 t (ix3 0 0 n) = V m c main_v3 (((cfg0.win 2).blk t).view.emb (ix3 0 0 n)) := rfl
  have e2 : ((cfg0.win 2).blk t).view.emb (ix3 0 0 n) = ix3 l 0 j := by blk_ext [idx t]
  have e3 : ∀ x : FVec Ideal S4x12288 .f32, shapeCast S4x1x12288 x shapeCasts_S4x12288_S4x1x12288 (ix3 l 0 j) = x (ix2 l j) := by
    intro x
    rw [shapeCast_apply]
    show (S4x12288.rowMajor (ix2 l j)).val = _
    rw [Shape.rowMajor_val_two, Shape.rowMajor_val_three]
    show l.val * 12288 + j.val = (l.val * 1 + 0) * 12288 + j.val
    omega
  rw [e, V_bias, e2, e3]

/-- What the body stores, at an index of its block. -/
theorem body (row : Fin 2048 → EReal) (W : FVec Ideal S4x2048x12288 .f32) (B : FVec Ideal S4x12288 .f32)
    (x0 : FVec Ideal S8x2048 .f32) (x1 : FVec Ideal S1x2048x1024 .f32) (x2 : FVec Ideal S1x1x1024 .f32) (r : Fin 8) (n : Fin 1024) (l : Fin 4) (j : Fin 12288)
    (h0 : ∀ k, x0 (ix2 r k) = row k) (h1 : ∀ k, x1 (ix3 0 k n) = W (ix3 l k j)) (h2 : x2 (ix3 0 0 n) = B (ix2 l j)) :
    k0_pay1 (F := Ideal) x0 x1 x2 (ix3 0 r n) = modAt row W B l j := by
  pointwise [k0_pay1, modAt, gated, h0, h1, h2]
  simp only [zero_sub]

/-- What a point leaves in the output block. -/
theorem left (c : Dev nD) (t : Fin cfg0.N) : (dats m 0 c).after 3 t = k0_pay1 (iblk m c 0 t) (iblk m c 1 t) (iblk m c 2 t) := by
  rw [after0_3]; frame_out

/-- What a point stores is the products' rows of its layer and columns. -/
theorem point (c : Dev nD) (t : Fin cfg0.N) (r : Fin 8) (n : Fin 1024) (l : Fin 4) (j : Fin 12288)
    (hl : l.val = t.val / 12) (hj : j.val = t.val % 12 * 1024 + n.val) :
    k0_pay1 (F := Ideal) (iblk m c 0 t) (iblk m c 1 t) (iblk m c 2 t) (ix3 0 r n) = out m c (ix3 l r j) :=
  body _ _ _ _ _ _ r n l j (fun k => cond_at m c t r k) (fun k => w_at m c t k n l j hl hj) (b_at m c t n l j hl hj)

/-- The products' array after the run. -/
theorem final (c : Dev nD) : (dats m 0 c).arrAt 3 cfg0.N = out m c := by
  refine (dats m 0 c).arrAt_eq_of_covers 3 _ (by decide +kernel) fun t _ y => ?_
  blk_simp
  rw [left]
  obtain ⟨z, r, n, rfl⟩ : ∃ (z : Fin 1) (r : Fin 8) (n : Fin 1024), y = ix3 z r n := ⟨y 0, y 1, y 2, eq_ix3 y⟩
  obtain rfl : z = 0 := Subsingleton.elim _ _
  have hi := (idx t).2.2.2.2
  have e2 : ((cfg0.win 3).blk t).view.emb (ix3 0 r n) = ix3 ⟨t.val / 12, by omega⟩ r ⟨t.val % 12 * 1024 + n.val, by omega⟩ := by
    blk_ext [idx t]
  refine (point m c t r n ⟨t.val / 12, by omega⟩ ⟨t.val % 12 * 1024 + n.val, by omega⟩ rfl rfl).trans ?_
  exact congrArg (out m c) e2.symm

/-- The result: the first four rows of the array. -/
theorem result (c : Dev nD) : Pipeline.afterTail₀ cfgs (dats m) 0 (V0 m) [hostOps1] c main_v5
    = extractStridedSlice S4x4x12288 ![0, 0, 0] (out m c) slices_S4x8x12288_S4x4x12288_0_0_0 := by
  rw [← final]
  unfold Pipeline.afterTail₀
  dsimp only [List.flatten, List.append]
  after_results_simp
  exact congrArg (fun z => extractStridedSlice S4x4x12288 ![0, 0, 0] z slices_S4x8x12288_S4x4x12288_0_0_0)
    (Pipeline.withArrays_arr spec0 launch0.win.arr_inj c (V0 m c) (fun w => (dats m 0 c).arrAt w cfg0.N) 3)

/-- The result at an index. -/
theorem result_at (c : Dev nD) (l b : Fin 4) (j : Fin 12288) :
    Pipeline.afterTail₀ cfgs (dats m) 0 (V0 m) [hostOps1] c main_v5 (ix3 l b j)
      = modAt (fun k => m ((c : Thread nD τ).loc main_arg0) (ix2 b k)) (m ((c : Thread nD τ).loc main_arg1))
        (m ((c : Thread nD τ).loc main_arg2)) l j := by
  rw [result]
  have e : (extractStridedSlice S4x4x12288 ![0, 0, 0] (out m c) slices_S4x8x12288_S4x4x12288_0_0_0) (ix3 l b j)
      = out m c (ix3 l ⟨b.val, by omega⟩ j) := by pointwise
  refine e.trans ?_
  exact congrArg (fun f => modAt f (m ((c : Thread nD τ).loc main_arg1)) (m ((c : Thread nD τ).loc main_arg2)) l j)
    (funext fun k => padded_at _ b ⟨b.val, by omega⟩ rfl k)

end Cert.Kernel5Ideal.ModValue

end
-- ==== Proof.ModClaim.lean ====
/-
  The reference of the modulation, and that the kernel leaves the same array.
-/
module

public import proofs.«01_k».proof.Defs
public import proofs.«01_k».proof.Proof.ModBlock
public import proofs.«01_k».proof.Proof.Gen.Reference5Ideal.Run
public import Idealize.ShloMosaic.Lib.Claim

@[expose] public section

set_option maxRecDepth 16384

noncomputable section

namespace Cert.Reference5Ideal.RefValue

open Cert.Reference5Ideal Cert.Reference5Ideal.Gen Idealize.ShloMosaic Idealize.ShloMosaic.TcCoe Idealize.SL.Sem

/-- The conditioning, gated by its logistic. -/
def cond (C : FVec Ideal S4x2048 .f32) : FVec Ideal S4x2048 .f32 :=
  mulf C (Host.divf (broadcastInDim S4x2048 ![] bcast_S_S4x2048 (constant S_ .f32 0x3F800000#32)) (addf (broadcastInDim S4x2048 ![] bcast_S_S4x2048 (constant S_ .f32 0x3F800000#32)) (Host.exp (Host.negf C))))

/-- One layer's products, from its weights and biases. -/
def layer (C : FVec Ideal S4x2048 .f32) (W : FVec Ideal S1x2048x12288 .f32) (B : FVec Ideal S1x12288 .f32) : FVec Ideal S1x4x12288 .f32 :=
  broadcastInDim S1x4x12288 ![1, 2] bcast_S4x12288_S1x4x12288_1_2 (addf (Host.dotGeneral dot_S4x2048_S2048x12288_S4x12288_1_0_0_1_n_n none (cond C) (shapeCast _ W shapeCasts_S1x2048x12288_S2048x12288)) (broadcastInDim S4x12288 ![0, 1] bcast_S1x12288_S4x12288_0_1 (broadcastInDim S1x12288 ![1] bcast_S12288_S1x12288_1 (shapeCast _ B shapeCasts_S1x12288_S12288))))

/-- The four layers' products, stacked. -/
def stacked (C : FVec Ideal S4x2048 .f32) (W : FVec Ideal S4x2048x12288 .f32) (B : FVec Ideal S4x12288 .f32) : FVec Ideal S4x4x12288 .f32 :=
  concatenate S4x4x12288 0
    [⟨S1x4x12288, layer C (extractStridedSlice S1x2048x12288 ![0, 0, 0] W slices_S4x2048x12288_S1x2048x12288_0_0_0) (extractStridedSlice S1x12288 ![0, 0] B slices_S4x12288_S1x12288_0_0)⟩,
     ⟨S1x4x12288, layer C (extractStridedSlice S1x2048x12288 ![1, 0, 0] W slices_S4x2048x12288_S1x2048x12288_1_0_0) (extractStridedSlice S1x12288 ![1, 0] B slices_S4x12288_S1x12288_1_0)⟩,
     ⟨S1x4x12288, layer C (extractStridedSlice S1x2048x12288 ![2, 0, 0] W slices_S4x2048x12288_S1x2048x12288_2_0_0) (extractStridedSlice S1x12288 ![2, 0] B slices_S4x12288_S1x12288_2_0)⟩,
     ⟨S1x4x12288, layer C (extractStridedSlice S1x2048x12288 ![3, 0, 0] W slices_S4x2048x12288_S1x2048x12288_3_0_0) (extractStridedSlice S1x12288 ![3, 0] B slices_S4x12288_S1x12288_3_0)⟩]
    concatenates_S1x4x12288_S1x4x12288_S1x4x12288_S1x4x12288_S4x4x12288_d0

/-- One product of one layer. -/
theorem layer_at (C : FVec Ideal S4x2048 .f32) (W : FVec Ideal S1x2048x12288 .f32) (B : FVec Ideal S1x12288 .f32) (b : Fin 4) (j : Fin 12288) :
    layer C W B (ix3 0 b j) = (∑ k : Fin 2048, Cert.Kernel5Ideal.ModValue.gated (C (ix2 b k)) * W (ix3 0 k j)) + B (ix2 0 j) := by
  pointwise [layer, cond, Cert.Kernel5Ideal.ModValue.gated]

/-- One product of the stack. -/
theorem stacked_at (C : FVec Ideal S4x2048 .f32) (W : FVec Ideal S4x2048x12288 .f32) (B : FVec Ideal S4x12288 .f32) (l b : Fin 4) (j : Fin 12288) :
    stacked C W B (ix3 l b j) = Cert.Kernel5Ideal.ModValue.modAt (fun k => C (ix2 b k)) W B l j := by
  pointwise [stacked, Cert.Kernel5Ideal.ModValue.modAt]
  fin_cases l <;> simp [layer_at] <;> pointwise

end Cert.Reference5Ideal.RefValue

namespace Cert.ModClaim

open Idealize.ShloMosaic Idealize.ShloMosaic.TcCoe Idealize.SL.Sem

/-- The modulation: from agreeing arguments, the kernel and the reference end with equal products. -/
theorem algebraic : Cert.algebraic_Kernel5Ideal_Reference5Ideal := by
  pair_intro
  · run_from Cert.Kernel5Ideal.Gen.run_main m g & Cert.Kernel5Ideal.Gen.unchanged m g
  · run_from Cert.Reference5Ideal.Value.run m' g'
    obtain ⟨h0, h1, h2⟩ := hagree c
    refine Eq.trans (show _ = Cert.Reference5Ideal.RefValue.stacked (m ((c.tc : Thread _ _).loc Cert.Kernel5Ideal.main_arg0)) (m ((c.tc : Thread _ _).loc Cert.Kernel5Ideal.main_arg1)) (m' ((c.tc : Thread _ _).loc Cert.Reference5Ideal.main_arg2)) from rfl) ?_
    rw [h2]
    funext i
    refine (congrArg (Cert.Reference5Ideal.RefValue.stacked _ _ _) (eq_ix3 i)).trans ((Cert.Reference5Ideal.RefValue.stacked_at _ _ _ (i 0) (i 1) (i 2)).trans ?_)
    exact (Cert.Kernel5Ideal.ModValue.result_at m c (i 0) (i 1) (i 2)).symm.trans (congrArg (Pipeline.afterTail₀ Cert.Kernel5Ideal.cfgs (Cert.Kernel5Ideal.Gen.dats m) 0 (Cert.Kernel5Ideal.Gen.V0 m) [Cert.Kernel5Ideal.Gen.hostOps1] c Cert.Kernel5Ideal.main_v5) (eq_ix3 i)).symm

end Cert.ModClaim

end
-- ==== Proof.RouteMath.lean ====
/-
  Selection by repeated maximum: the greatest entry, the first place that holds it, that place taken away, and again;
  the places so found are the first ones of a stable sort from the greatest down.
-/
module

public import proofs.«01_k».proof.Proof.Reals
public import Idealize.ShloMosaic.Lib.SortPrefix

@[expose] public section

noncomputable section

namespace Cert.Route

open Idealize.ShloMosaic

/-- Every row of numbers has a first place of its greatest entry. -/
theorem exists_best (y : Fin 128 → EReal) : ∃ s, (∀ k, y k ≤ y s) ∧ ∀ k, k < s → y k < y s := by
  classical
  obtain ⟨s0, -, h0⟩ := Finset.exists_max_image Finset.univ y ⟨0, Finset.mem_univ _⟩
  have hne : (Finset.univ.filter fun k => y k = y s0).Nonempty := ⟨s0, by simp⟩
  have hm := Finset.min'_mem _ hne
  have he : y (Finset.min' _ hne) = y s0 := (Finset.mem_filter.mp hm).2
  have hmin : ∀ k ∈ Finset.univ.filter (fun k => y k = y s0), Finset.min' _ hne ≤ k := fun k hk => Finset.min'_le _ k hk
  generalize Finset.min' _ hne = s at he hmin
  refine ⟨s, fun k => (h0 k (Finset.mem_univ k)).trans he.ge, fun k hk => ?_⟩
  refine lt_of_le_of_ne ((h0 k (Finset.mem_univ k)).trans he.ge) fun e => ?_
  exact absurd (hmin k (Finset.mem_filter.mpr ⟨Finset.mem_univ _, e.trans he⟩)) (not_le.mpr hk)

/-- The first place of a row's greatest entry. -/
def pick (y : Fin 128 → EReal) : Fin 128 := (exists_best y).choose

/-- No entry is greater than the picked one. -/
theorem le_pick (y : Fin 128 → EReal) (k : Fin 128) : y k ≤ y (pick y) := (exists_best y).choose_spec.1 k

/-- Every entry before the picked one is less. -/
theorem lt_pick (y : Fin 128 → EReal) (k : Fin 128) (h : k < pick y) : y k < y (pick y) := (exists_best y).choose_spec.2 k h

/-- The row after some rounds: the picked places hold the least value. -/
def rest (x : Fin 128 → EReal) : ℕ → Fin 128 → EReal
  | 0 => x
  | r + 1 => fun k => if k = pick (rest x r) then ⊥ else rest x r k

/-- The place picked in a round. -/
def place (x : Fin 128 → EReal) (r : ℕ) : Fin 128 := pick (rest x r)

/-- The fold of the maximum is the picked entry. -/
theorem fold_max (y : Fin 128 → EReal) : (Finset.univ : Finset (Fin 128)).fold max ⊥ y = y (pick y) :=
  le_antisymm ((Finset.fold_max_le _).mpr ⟨bot_le, fun k _ => le_pick y k⟩)
    ((Finset.le_fold_max _).mpr (Or.inr ⟨pick y, Finset.mem_univ _, le_rfl⟩))

/-- The least number of a place that holds the greatest entry is the picked place's. -/
theorem fold_min (y : Fin 128 → EReal) (b : EReal) (hb : ((128 : ℝ) : EReal) ≤ b) :
    (Finset.univ : Finset (Fin 128)).fold min ⊤
      (fun k => if y k = y (pick y) then (((k.val : ℝ)) : EReal) else b) = (((pick y).val : ℝ) : EReal) := by
  have h128 : (((pick y).val : ℝ) : EReal) ≤ b :=
    le_trans (EReal.coe_le_coe_iff.mpr (by exact_mod_cast (pick y).isLt.le)) hb
  refine le_antisymm ((Finset.fold_min_le _).mpr (Or.inr ⟨pick y, Finset.mem_univ _, by rw [if_pos rfl]⟩)) ?_
  refine (Finset.le_fold_min _).mpr ⟨le_top, fun k _ => ?_⟩
  by_cases h : y k = y (pick y)
  · rw [if_pos h]
    refine EReal.coe_le_coe_iff.mpr ?_
    have : ¬ k < pick y := fun hk => absurd h (ne_of_lt (lt_pick y k hk))
    exact_mod_cast not_lt.mp this
  · rw [if_neg h]; exact h128

/-- A place not yet picked holds its first entry. -/
theorem rest_of_ne (x : Fin 128 → EReal) (k : Fin 128) : ∀ r : ℕ, (∀ j, j < r → place x j ≠ k) → rest x r k = x k
  | 0, _ => rfl
  | r + 1, h => by
    have h1 : k ≠ pick (rest x r) := fun e => h r (Nat.lt_succ_self r) e.symm
    show (if k = pick (rest x r) then ⊥ else rest x r k) = x k
    rw [if_neg h1]
    exact rest_of_ne x k r fun j hj => h j (Nat.lt_succ_of_lt hj)

/-- A picked place holds the least value afterwards. -/
theorem rest_of_eq (x : Fin 128 → EReal) : ∀ r j : ℕ, j < r → rest x r (place x j) = ⊥
  | 0, j, h => absurd h (Nat.not_lt_zero j)
  | r + 1, j, h => by
    show (if place x j = pick (rest x r) then ⊥ else rest x r (place x j)) = ⊥
    by_cases e : place x j = pick (rest x r)
    · rw [if_pos e]
    · rw [if_neg e]
      exact rest_of_eq x r j (lt_of_le_of_ne (Nat.lt_succ_iff.mp h) fun hj => e (by rw [hj]; rfl))

section Padded

variable (x : Fin 128 → EReal) (p : EReal) (hlow : ∀ k : Fin 128, k.val < 32 → p < x k) (hpad : ∀ k : Fin 128, 32 ≤ k.val → x k = p)
include hlow hpad

/-- In the first four rounds the greatest entry is above the padding. -/
theorem above (r : ℕ) (hr : r < 4) : p < rest x r (place x r) := by
  classical
  obtain ⟨k, hk, hn⟩ : ∃ k : Fin 128, k.val < 32 ∧ ∀ j, j < r → place x j ≠ k := by
    by_contra hc
    push Not at hc
    have hsub : (Finset.univ.filter fun k : Fin 128 => k.val < 32) ⊆ (Finset.range r).image (place x) := by
      intro k hk
      obtain ⟨j, hj, e⟩ := hc k (Finset.mem_filter.mp hk).2
      exact Finset.mem_image.mpr ⟨j, Finset.mem_range.mpr hj, e⟩
    have h1 := Finset.card_le_card hsub
    have h2 : ((Finset.range r).image (place x)).card ≤ r := Finset.card_image_le.trans (by simp)
    have h3 : (Finset.univ.filter fun k : Fin 128 => k.val < 32).card = 32 := by decide
    omega
  exact lt_of_lt_of_le (by rw [rest_of_ne x k r hn]; exact hlow k hk) (le_pick _ k)

/-- A round picks a place no earlier round picked. -/
theorem place_ne (r j : ℕ) (hr : r < 4) (hj : j < r) : place x j ≠ place x r := fun e => by
  have h := above x p hlow hpad r hr
  rw [← e, rest_of_eq x r j hj] at h
  exact absurd h not_lt_bot

/-- What a round picks is its place's first entry. -/
theorem value (r : ℕ) (hr : r < 4) : rest x r (place x r) = x (place x r) :=
  rest_of_ne x _ r fun j hj => place_ne x p hlow hpad r j hr hj

/-- The first four rounds pick places before the padding. -/
theorem place_lt (r : ℕ) (hr : r < 4) : (place x r).val < 32 := by
  by_contra h
  have h1 := above x p hlow hpad r hr
  rw [value x p hlow hpad r hr, hpad _ (not_lt.mp h)] at h1
  exact absurd h1 (lt_irrefl _)

/-- A place no earlier round picked is not before the round's: it holds no more, and less if it comes first. -/
theorem dominates (r : ℕ) (hr : r < 4) (k : Fin 128) (hk : ∀ j, j < r → place x j ≠ k) :
    x k ≤ x (place x r) ∧ (k < place x r → x k < x (place x r)) := by
  have e := value x p hlow hpad r hr
  have ek := rest_of_ne x k r hk
  have h1 := le_pick (rest x r) k
  have h2 := lt_pick (rest x r) k
  change _ ≤ rest x r (place x r) at h1
  change k < place x r → _ < rest x r (place x r) at h2
  rw [e, ek] at h1 h2
  exact ⟨h1, h2⟩

end Padded

/-- On positions in ascending order, a stable sort by a key alone is the sort by the key and then the position. -/
theorem stableSort_position {n : ℕ} (R : Fin n → Fin n → Bool) (T : Fin n → Fin n → Bool)
    (h : ∀ a b, b < a → R a b = T a b) : ∀ l : List (Fin n), l.Pairwise (· < ·) → stableSort R l = stableSort T l
  | [], _ => rfl
  | a :: l, hl => by
    rw [List.pairwise_cons] at hl
    unfold stableSort
    rw [stableSort_position R T h l hl.2]
    exact insertBefore_congr R T a _ fun b hb => h b a (hl.1 b ((perm_stableSort T l).mem_iff.mp hb))

/-- So the source positions agree too. -/
theorem sortedFrom_position {n : ℕ} (R : Fin n → Fin n → Bool) (T : Fin n → Fin n → Bool)
    (h : ∀ a b, b < a → R a b = T a b) : sortedFrom R = sortedFrom T := by
  funext k
  unfold sortedFrom
  have e : sortPositions n R = sortPositions n T := stableSort_position R T h _ (List.pairwise_lt_finRange n)
  rw [List.get_of_eq e]
  rfl

/-- The first four positions of the sort from the greatest down are the places the rounds pick. -/
theorem sorted_place (x : Fin 128 → EReal) (p : EReal) (hlow : ∀ k : Fin 128, k.val < 32 → p < x k)
    (hpad : ∀ k : Fin 128, 32 ≤ k.val → x k = p) (R : Fin 32 → Fin 32 → Bool)
    (hR : ∀ a b : Fin 32, R a b = decide (x ⟨b.val, by omega⟩ < x ⟨a.val, by omega⟩)) (i : Fin 4) :
    (sortedFrom R (i.castLE (by decide))).val = (place x i.val).val := by
  classical
  have hB := StrictTotalBefore.of_key_then_position (fun a b : EReal => decide (b < a)) (fun k : Fin 32 => x ⟨k.val, by omega⟩)
    (fun a => by simp) (fun a b c h1 h2 => by simp only [decide_eq_true_eq] at *; exact lt_trans h2 h1)
    (fun a b => by simp only [decide_eq_true_eq]; rcases lt_trichotomy a b with h | h | h <;> simp [h])
  have hlt := fun j : Fin 4 => place_lt x p hlow hpad j.val j.isLt
  have hdom : ∀ (j : Fin 4) (q : Fin 32), (∀ l, l < j.val → place x l ≠ ⟨q.val, by omega⟩) →
      (decide (x (place x j.val) < x ⟨q.val, by omega⟩) || (decide (x ⟨q.val, by omega⟩ = x (place x j.val))
        && decide (q < (⟨(place x j.val).val, hlt j⟩ : Fin 32)))) = false := by
    intro j q hq
    obtain ⟨h1, h2⟩ := dominates x p hlow hpad j.val j.isLt ⟨q.val, by omega⟩ hq
    rw [Bool.or_eq_false_iff, Bool.and_eq_false_iff, decide_eq_false_iff_not, decide_eq_false_iff_not, decide_eq_false_iff_not]
    refine ⟨not_lt.mpr h1, ?_⟩
    by_cases hl : q < (⟨(place x j.val).val, hlt j⟩ : Fin 32)
    · exact Or.inl (ne_of_lt (h2 hl))
    · exact Or.inr hl
  have hne : ∀ a b : Fin 4, a < b → place x a.val ≠ place x b.val := fun a b h => place_ne x p hlow hpad b.val a.val b.isLt h
  have key := hB.sortedFrom_eq_of_prefix (by decide : 4 ≤ 32) (fun j : Fin 4 => ⟨(place x j.val).val, hlt j⟩)
    (fun a b e => by
      have e0 := congrArg Fin.val e
      have e' : place x a.val = place x b.val := Fin.ext e0
      rcases lt_trichotomy a b with h | h | h
      · exact absurd e' (hne a b h)
      · exact h
      · exact absurd e'.symm (hne b a h))
    (fun a b h => hdom a ⟨(place x b.val).val, hlt b⟩ fun l hl e => by
      have e' : place x l = place x b.val := Fin.ext (Fin.ext_iff.mp e)
      exact place_ne x p hlow hpad b.val l b.isLt (lt_trans hl h) e')
    (fun a q h => hdom a q fun l hl e => h ⟨l, lt_trans hl a.isLt⟩ (Fin.ext (Fin.ext_iff.mp e : (place x l).val = q.val))) i
  rw [sortedFrom_position R (fun k k' : Fin 32 => (fun a b : EReal => decide (b < a)) (x ⟨k.val, by omega⟩) (x ⟨k'.val, by omega⟩)
    || (decide (x ⟨k.val, by omega⟩ = x ⟨k'.val, by omega⟩) && decide (k < k'))) (fun a b hab => by
      rw [hR, decide_eq_false (not_lt.mpr hab.le), Bool.and_false, Bool.or_false])]
  exact congrArg Fin.val key

end Cert.Route

end
-- ==== Proof.RouteBlock.lean ====
/-
  The router kernel: what one grid point leaves in the blocks of the picked places and of their gates.
-/
module

public import proofs.«01_k».proof.Proof.Gen.Kernel6Ideal.Frame
public import proofs.«01_k».proof.Proof.RouteMath

@[expose] public section

set_option maxRecDepth 16384

noncomputable section

namespace Cert.Kernel6Ideal.RouteValue

open Cert.Kernel6Ideal Cert.Kernel6Ideal.Gen Cert.Route Idealize.ShloMosaic Idealize.ShloMosaic.TcCoe Idealize.SL.Sem
open Idealize.ShloMosaic.Pipeline (Dat)

variable (m : (ℓ : Loc nD τ sig) → Buf (Elt Ideal) ℓ)

/-- Which block each window stages at each grid point. -/
theorem idx : ∀ t : Fin cfg0.N, win0_0.index t = ![t.val, 0] ∧ win0_1.index t = ![t.val, 0] ∧ win0_2.index t = ![t.val, 0] ∧ t.val < 64 :=
  (by decide +kernel : ∀ t : Fin grid0.N, _)

/-- Each row's greatest entry. -/
def peakOf (Y : FVec Ideal S256x128 .f32) : FVec Ideal S256x1 .f32 :=
  shapeCast S256x1 (multiReduction .maximumf [1] S256 Y 0xFF800000#32 reduces_S256x128_S256 (.inl rfl) rfl) shapeCasts_S256_S256x1

/-- The number of the first place that holds it. -/
def laneOf (Y : FVec Ideal S256x128 .f32) : FVec Ideal S256x1 .f32 :=
  shapeCast S256x1 (multiReduction .minimumf [1] S256
    (select (cmpf .oeq Y (broadcastTo S256x128 (peakOf Y) broadcasts_S256x1_S256x128)) (k0_pay3 (F := Ideal))
      (broadcast S256x128 (Scalar.ofBits .f32 0x43000000#32))) 0x7F800000#32 reduces_S256x128_S256 (.inl rfl) rfl) shapeCasts_S256_S256x1

/-- The rows with that place taken away. -/
def maskOf (Y : FVec Ideal S256x128 .f32) : FVec Ideal S256x128 .f32 :=
  select (cmpf .oeq (k0_pay3 (F := Ideal)) (broadcastTo S256x128 (laneOf Y) broadcasts_S256x1_S256x128))
    (broadcast S256x128 (Scalar.ofBits .f32 0xFF800000#32)) Y

/-- The least value. -/
theorem bot_f32 : Ideal.ofBits .f32 0xFF800000#32 = ⊥ := by
  simp [Ideal.ofBits, Ideal.ieee]

/-- The number no place has. -/
theorem none_f32 : Ideal.ofBits .f32 0x43000000#32 = ((128 : ℝ) : EReal) := by
  simp [Ideal.ofBits, Ideal.ieee, -EReal.coe_mul]
  norm_num

/-- A place's number, as a float. -/
theorem lane_f32 (k : Fin 128) : (FloatOps.sitofp (F := Ideal) .f32 (BitVec.ofNat 32 k.val) : EReal) = ((k.val : ℝ) : EReal) := by
  show (((BitVec.ofNat 32 k.val).toInt : ℝ) : EReal) = _
  have e : ∀ k : Fin 128, (BitVec.ofNat 32 k.val).toInt = (k.val : ℤ) := by decide
  rw [e k]
  push_cast
  rfl

/-- A natural number among the extended reals. -/
theorem nat_real (n : ℕ) : (n : EReal) = ((n : ℝ) : EReal) := rfl

/-- A place's number, back as an integer. -/
theorem place_i32 (k : Fin 128) : (FloatOps.fptosi (F := Ideal) (φ := .f32) 32 ((k.val : ℝ) : EReal) : BitVec 32) = BitVec.ofNat 32 k.val := by
  show Ideal.fptosi 32 ((k.val : ℝ) : EReal) = _
  have hk := k.isLt
  have e : max (-((2 ^ 31 : ℕ) : ℤ)) (min (((2 ^ 31 : ℕ) : ℤ) - 1) (k.val : ℤ)) = (k.val : ℤ) := by push_cast; omega
  unfold Ideal.fptosi
  rw [Ideal.toIntClamped_coe, if_pos (by positivity), Int.floor_natCast]
  simp only [show (32 - 1 : ℕ) = 31 from rfl]
  rw [e]
  exact BitVec.ofInt_natCast 32 k.val

/-- A row's greatest entry is the picked one. -/
theorem peakOf_at (Y : FVec Ideal S256x128 .f32) (r : Fin 256) (y : Fin 128 → EReal) (h : ∀ k, Y (ix2 r k) = y k) :
    peakOf Y (ix2 r 0) = y (pick y) := by
  pointwise [peakOf, h, bot_f32]
  exact fold_max y

/-- The number found is the picked place's. -/
theorem laneOf_at (Y : FVec Ideal S256x128 .f32) (r : Fin 256) (y : Fin 128 → EReal) (h : ∀ k, Y (ix2 r k) = y k) :
    laneOf Y (ix2 r 0) = ((((pick y).val : ℝ)) : EReal) := by
  pointwise [laneOf, k0_pay3, peakOf_at Y r y h, h, lane_f32, none_f32, Cert.Reals.inf_f32]
  exact fold_min y _ le_rfl

/-- A row with its picked place taken away. -/
theorem maskOf_at (Y : FVec Ideal S256x128 .f32) (r : Fin 256) (y : Fin 128 → EReal) (h : ∀ k, Y (ix2 r k) = y k) (k : Fin 128) :
    maskOf Y (ix2 r k) = if k = pick y then ⊥ else y k := by
  pointwise [maskOf, k0_pay3, laneOf_at Y r y h, h, lane_f32, bot_f32]
  simp only [EReal.coe_eq_coe_iff, Nat.cast_inj, Fin.ext_iff]

/-- The gates' block. -/
def gatesOf (Y : FVec Ideal S256x128 .f32) : FVec Ideal S256x128 .f32 :=
  k0_pay33 (iota Kind.tc S256x128 32 [1] iota_S256x128_d1_w32)
      (k0_pay19 (k0_pay4 Y) (k0_pay10 Y))
      (k0_pay20 (k0_pay4 Y) (k0_pay9 Y) (k0_pay12 (F := Ideal) Y) k0_pay13)
      (k0_pay21 (k0_pay4 Y) (k0_pay7 Y) (k0_pay9 Y) (k0_pay10 Y)
        (k0_pay12 (F := Ideal) Y) k0_pay13)
      (k0_pay30 (iota Kind.tc S256x128 32 [1] iota_S256x128_d1_w32)
        (k0_pay18 (k0_pay4 Y) (k0_pay7 Y))
        (k0_pay21 (k0_pay4 Y) (k0_pay7 Y) (k0_pay9 Y) (k0_pay10 Y)
          (k0_pay12 (F := Ideal) Y) k0_pay13)
        (k0_pay28 (iota Kind.tc S256x128 32 [1] iota_S256x128_d1_w32) (k0_pay17 (k0_pay4 Y))
          (k0_pay21 (k0_pay4 Y) (k0_pay7 Y) (k0_pay9 Y) (k0_pay10 Y)
            (k0_pay12 (F := Ideal) Y) k0_pay13)))

/-- The one-hot rows of the four picked places, summed. -/
def selOf (Y : FVec Ideal S256x128 .f32) : FVec Ideal S256x128 .f32 :=
  k0_pay22 k0_pay3 (k0_pay5 Y) (k0_pay8 Y) (k0_pay9 Y) (k0_pay11 Y) (k0_pay12 (F := Ideal) Y) k0_pay13

/-- The block of the picked places, and of their ranks after the counts `car` carried so far. -/
def metaOf (Y : FVec Ideal S256x128 .f32) (car : FVec Ideal S1x128 .f32) : IVec S256x128 32 :=
  k0_pay34 (iota Kind.tc S256x128 32 [1] iota_S256x128_d1_w32) k0_pay3
    (k0_pay16 (F := Ideal) k0_pay3 (k0_pay9 Y) (k0_pay12 (F := Ideal) Y) k0_pay13)
    (k0_pay25 (selOf Y) k0_pay23 car)
    (k0_pay31 (iota Kind.tc S256x128 32 [1] iota_S256x128_d1_w32) k0_pay3 (k0_pay8 Y) (k0_pay11 Y)
      (k0_pay25 (selOf Y) k0_pay23 car)
      (k0_pay27 (iota Kind.tc S256x128 32 [1] iota_S256x128_d1_w32) k0_pay3 (k0_pay5 Y) (selOf Y) k0_pay23 car)
      (k0_pay29 (k0_pay8 Y)))
    (k0_pay32 (iota Kind.tc S256x128 32 [1] iota_S256x128_d1_w32) k0_pay3 (k0_pay11 Y) (k0_pay25 (selOf Y) k0_pay23 car))

/-- What a point leaves in the gates' block. -/
theorem left_gates (c : Dev nD) (t : Fin cfg0.N) : (outsAt0 m c t.val t.isLt).2.1 = gatesOf (iblk m c 0 t) := by
  by_cases h0 : t.val % 64 = 0
  · rw [outsAt0_A m c t h0]; frame_out; rfl
  · rw [outsAt0_B m c t h0]; frame_out; rfl

/-- What a point leaves in the places' block. -/
theorem left_meta (c : Dev nD) (t : Fin cfg0.N) : ∃ car, (outsAt0 m c t.val t.isLt).1 = metaOf (iblk m c 0 t) car := by
  by_cases h0 : t.val % 64 = 0
  · rw [outsAt0_A m c t h0]; frame_out; exact ⟨_, rfl⟩
  · rw [outsAt0_B m c t h0]; frame_out; exact ⟨_, rfl⟩

/-- The entries and places of the rounds, of a block's row. -/
theorem rounds (Y : FVec Ideal S256x128 .f32) (r : Fin 256) (x : Fin 128 → EReal) (h : ∀ k, Y (ix2 r k) = x k) :
    (k0_pay4 (F := Ideal) Y (ix2 r 0) = rest x 0 (place x 0) ∧ k0_pay5 (F := Ideal) Y (ix2 r 0) = (((place x 0).val : ℝ) : EReal))
    ∧ (k0_pay7 (F := Ideal) Y (ix2 r 0) = rest x 1 (place x 1) ∧ k0_pay8 (F := Ideal) Y (ix2 r 0) = (((place x 1).val : ℝ) : EReal))
    ∧ (k0_pay10 (F := Ideal) Y (ix2 r 0) = rest x 2 (place x 2) ∧ k0_pay11 (F := Ideal) Y (ix2 r 0) = (((place x 2).val : ℝ) : EReal))
    ∧ (k0_pay15 (F := Ideal) (k0_pay9 Y) (k0_pay12 (F := Ideal) Y) k0_pay13 (ix2 r 0) = rest x 3 (place x 3)
      ∧ k0_pay16 (F := Ideal) k0_pay3 (k0_pay9 Y) (k0_pay12 (F := Ideal) Y) k0_pay13 (ix2 r 0) = (((place x 3).val : ℝ) : EReal)) := by
  have e0 : k0_pay2 Y = Y := by funext i; pointwise [k0_pay2]
  have h0 : ∀ k, k0_pay2 (F := Ideal) Y (ix2 r k) = rest x 0 k := fun k => (congrFun e0 _).trans (h k)
  have h1 : ∀ k, maskOf (k0_pay2 (F := Ideal) Y) (ix2 r k) = rest x 1 k := fun k => maskOf_at _ r _ h0 k
  have h2 : ∀ k, maskOf (maskOf (k0_pay2 (F := Ideal) Y)) (ix2 r k) = rest x 2 k := fun k => maskOf_at _ r _ h1 k
  have h3 : ∀ k, maskOf (maskOf (maskOf (k0_pay2 (F := Ideal) Y))) (ix2 r k) = rest x 3 k := fun k => maskOf_at _ r _ h2 k
  exact ⟨⟨peakOf_at _ r _ h0, laneOf_at _ r _ h0⟩, ⟨peakOf_at _ r _ h1, laneOf_at _ r _ h1⟩,
    ⟨peakOf_at _ r _ h2, laneOf_at _ r _ h2⟩, ⟨peakOf_at _ r _ h3, laneOf_at _ r _ h3⟩⟩

/-- A gate of the block. -/
theorem gatesOf_at (Y : FVec Ideal S256x128 .f32) (r : Fin 256) (v : Fin 4 → EReal)
    (h0 : k0_pay4 (F := Ideal) Y (ix2 r 0) = v 0) (h1 : k0_pay7 (F := Ideal) Y (ix2 r 0) = v 1) (h2 : k0_pay10 (F := Ideal) Y (ix2 r 0) = v 2)
    (h3 : k0_pay15 (F := Ideal) (k0_pay9 Y) (k0_pay12 (F := Ideal) Y) k0_pay13 (ix2 r 0) = v 3) (k : Fin 4) :
    gatesOf Y (ix2 r ⟨k.val, by omega⟩) = Ideal.div (Ideal.exp (v k - v 0)) (∑ j : Fin 4, Ideal.exp (v j - v 0)) := by
  fin_cases k <;> pointwise [gatesOf, k0_pay33, k0_pay30, k0_pay28, k0_pay17, k0_pay18, k0_pay19, k0_pay20, k0_pay21, h0, h1, h2, h3]
  all_goals simp [Scalar.select, IntOp.cmpi, Fin.sum_univ_four]

/-- A picked place of the block. -/
theorem metaOf_at (Y : FVec Ideal S256x128 .f32) (car : FVec Ideal S1x128 .f32) (r : Fin 256) (p : Fin 4 → Fin 128)
    (h0 : k0_pay5 (F := Ideal) Y (ix2 r 0) = (((p 0).val : ℝ) : EReal)) (h1 : k0_pay8 (F := Ideal) Y (ix2 r 0) = (((p 1).val : ℝ) : EReal))
    (h2 : k0_pay11 (F := Ideal) Y (ix2 r 0) = (((p 2).val : ℝ) : EReal))
    (h3 : k0_pay16 (F := Ideal) k0_pay3 (k0_pay9 Y) (k0_pay12 (F := Ideal) Y) k0_pay13 (ix2 r 0) = (((p 3).val : ℝ) : EReal)) (k : Fin 4) :
    metaOf Y car (ix2 r ⟨k.val, by omega⟩) = BitVec.ofNat 32 (p k).val := by
  fin_cases k <;> pointwise [metaOf, k0_pay34, k0_pay31, k0_pay32, k0_pay27, k0_pay29, h0, h1, h2, h3]
  all_goals simp [Scalar.select, IntOp.cmpi]
  all_goals exact (congrArg (FloatOps.fptosi (F := Ideal) (φ := .f32) 32) (nat_real _)).trans (place_i32 _)

end Cert.Kernel6Ideal.RouteValue

end
-- ==== Proof.RouteFinal.lean ====
/-
  The router kernel: the picked places and the gates after the run.
-/
module

public import proofs.«01_k».proof.Proof.RouteBlock
public import Idealize.ShloMosaic.Lib.Pipeline.ValueKit
public import Idealize.ShloMosaic.Lib.Pointwise

@[expose] public section

set_option maxRecDepth 16384

noncomputable section

namespace Cert.Kernel6Ideal.RouteValue

open Cert.Kernel6Ideal Cert.Kernel6Ideal.Gen Cert.Route Idealize.ShloMosaic Idealize.ShloMosaic.TcCoe Idealize.SL.Sem Idealize.ShloMosaic.StableHlo
open Idealize.ShloMosaic.Pipeline (Dat)

variable (m : (ℓ : Loc nD τ sig) → Buf (Elt Ideal) ℓ)
variable (c : Dev nD)

/-- The padding's value. -/
def padValue : EReal := Ideal.ofBits .f32 0xF149F2CA#32

/-- A row of logits, padded to 128 lanes. -/
def row (A : S16384x32.Idx → EReal) (T : Fin 16384) (k : Fin 128) : EReal :=
  if h : k.val < 32 then A (ix2 T ⟨k.val, h⟩) else padValue

/-- The padded logits. -/
def padded (A : FVec Ideal S16384x32 .f32) : FVec Ideal S16384x128 .f32 :=
  concatenate S16384x128 1 [⟨S16384x32, A⟩, ⟨S16384x96, broadcastInDim S16384x96 ![] bcast_S_S16384x96 (constant S_ .f32 0xF149F2CA#32)⟩]
    concatenates_S16384x32_S16384x96_S16384x128_d1

/-- The rows the kernel reads. -/
theorem V_rows : V m c main_v1 = padded (m ((c : Thread nD τ).loc main_arg0)) := by
  unfold V V0
  dsimp only [List.flatten, List.append]
  after_results_simp
  rfl

/-- An entry of the padded logits. -/
theorem padded_at (A : FVec Ideal S16384x32 .f32) (T : Fin 16384) (k : Fin 128) : padded A (ix2 T k) = row A T k := by
  unfold row
  by_cases h : k.val < 32
  · rw [dif_pos h]
    pointwise [padded]
    simp [h]
  · rw [dif_neg h]
    pointwise [padded]
    simp [h, padValue]

/-- An entry of a block. -/
theorem block_at (t : Fin cfg0.N) (r : Fin 256) (k : Fin 128) (T : Fin 16384) (hT : T.val = t.val * 256 + r.val) :
    iblk m c 0 t (ix2 r k) = row (m ((c : Thread nD τ).loc main_arg0)) T k := by
  have e : iblk m c 0 t (ix2 r k) = V m c main_v1 (((cfg0.win 0).blk t).view.emb (ix2 r k)) := rfl
  have e2 : ((cfg0.win 0).blk t).view.emb (ix2 r k) = ix2 T k := by
    blk_ext [idx t]
  rw [e, e2, V_rows]
  exact padded_at _ T k

/-- The point that leaves a row. -/
def pt (T : Fin 16384) : Fin cfg0.N := ⟨T.val / 256, by have := T.isLt; have e : cfg0.N = 64 := N_0; omega⟩

/-- The row's number in its block. -/
def ln (T : Fin 16384) : Fin 256 := ⟨T.val % 256, by omega⟩

/-- The array of places after the run. -/
def outMeta : S16384x128.Idx → BitVec 32 := fun i => (outsAt0 m c (pt (i 0)).val (pt (i 0)).isLt).1 (ix2 (ln (i 0)) (i 1))

/-- The array of gates after the run. -/
def outGates : S16384x128.Idx → EReal := fun i => (outsAt0 m c (pt (i 0)).val (pt (i 0)).isLt).2.1 (ix2 (ln (i 0)) (i 1))

/-- The places are what the points left. -/
theorem finalMeta : (dats m 0 c).arrAt 1 cfg0.N = outMeta m c := by
  refine (dats m 0 c).arrAt_eq_of_covers 1 _ (by decide +kernel) fun t _ y => ?_
  blk_simp
  rw [after0_1]
  obtain ⟨r, l, rfl⟩ : ∃ (r : Fin 256) (l : Fin 128), y = ix2 r l := ⟨y 0, y 1, eq_ix2 y⟩
  have hi := idx t
  have hr := r.isLt
  have e2 : ((cfg0.win 1).blk t).view.emb (ix2 r l) = ix2 ⟨t.val * 256 + r.val, by omega⟩ l := by
    blk_ext [idx t]
  have e3 : pt ⟨t.val * 256 + r.val, by omega⟩ = t := Fin.ext (by simp only [pt]; omega)
  have e4 : ln ⟨t.val * 256 + r.val, by omega⟩ = r := Fin.ext (by simp only [ln]; omega)
  refine Eq.trans ?_ (congrArg (outMeta m c) e2.symm)
  show _ = (outsAt0 m c (pt ⟨t.val * 256 + r.val, _⟩).val _).1 (ix2 (ln ⟨t.val * 256 + r.val, _⟩) l)
  simp only [e3, e4]

/-- The gates are what the points left. -/
theorem finalGates : (dats m 0 c).arrAt 2 cfg0.N = outGates m c := by
  refine (dats m 0 c).arrAt_eq_of_covers 2 _ (by decide +kernel) fun t _ y => ?_
  blk_simp
  rw [after0_2]
  obtain ⟨r, l, rfl⟩ : ∃ (r : Fin 256) (l : Fin 128), y = ix2 r l := ⟨y 0, y 1, eq_ix2 y⟩
  have hi := idx t
  have hr := r.isLt
  have e2 : ((cfg0.win 2).blk t).view.emb (ix2 r l) = ix2 ⟨t.val * 256 + r.val, by omega⟩ l := by
    blk_ext [idx t]
  have e3 : pt ⟨t.val * 256 + r.val, by omega⟩ = t := Fin.ext (by simp only [pt]; omega)
  have e4 : ln ⟨t.val * 256 + r.val, by omega⟩ = r := Fin.ext (by simp only [ln]; omega)
  refine Eq.trans ?_ (congrArg (outGates m c) e2.symm)
  show _ = (outsAt0 m c (pt ⟨t.val * 256 + r.val, _⟩).val _).2.1 (ix2 (ln ⟨t.val * 256 + r.val, _⟩) l)
  simp only [e3, e4]

/-- The first result: four lanes of the places. -/
theorem resultMeta : Pipeline.afterTail₀ cfgs (dats m) 0 (V0 m) [hostOps1] c main_v3
    = extractStridedSlice S16384x4 ![0, 0] (outMeta m c) slices_S16384x128_S16384x4_0_0 := by
  rw [← finalMeta]
  unfold Pipeline.afterTail₀
  dsimp only [List.flatten, List.append]
  after_results_simp
  exact congrArg (fun z => extractStridedSlice S16384x4 ![0, 0] z slices_S16384x128_S16384x4_0_0)
    (Pipeline.withArrays_arr spec0 launch0.win.arr_inj c (V0 m c) (fun w => (dats m 0 c).arrAt w cfg0.N) 1)

/-- The second result: four lanes of the gates. -/
theorem resultGates : Pipeline.afterTail₀ cfgs (dats m) 0 (V0 m) [hostOps1] c main_v4
    = extractStridedSlice S16384x4 ![0, 0] (outGates m c) slices_S16384x128_S16384x4_0_0 := by
  rw [← finalGates]
  unfold Pipeline.afterTail₀
  dsimp only [List.flatten, List.append]
  after_results_simp
  exact congrArg (fun z => extractStridedSlice S16384x4 ![0, 0] z slices_S16384x128_S16384x4_0_0)
    (Pipeline.withArrays_arr spec0 launch0.win.arr_inj c (V0 m c) (fun w => (dats m 0 c).arrAt w cfg0.N) 2)

/-- The gates of four values. -/
def gate (v : Fin 4 → EReal) (k : Fin 4) : EReal := Ideal.div (Ideal.exp (v k - v 0)) (∑ j : Fin 4, Ideal.exp (v j - v 0))

variable (hlow : ∀ (T : Fin 16384) (k : Fin 32), padValue < (show S16384x32.Idx → EReal from m ((c : Thread nD τ).loc main_arg0)) (ix2 T k))

/-- A logit's lane holds more than the padding's value. -/
theorem row_low (A : S16384x32.Idx → EReal) (T : Fin 16384) (h : ∀ k : Fin 32, padValue < A (ix2 T k)) :
    ∀ k : Fin 128, k.val < 32 → padValue < row A T k := fun k hk => by
  rw [row, dif_pos hk]
  exact h _

/-- A padding lane holds the padding's value. -/
theorem row_pad (A : S16384x32.Idx → EReal) (T : Fin 16384) : ∀ k : Fin 128, 32 ≤ k.val → row A T k = padValue := fun k hk => by
  rw [row, dif_neg (by omega)]

/-- The first result at an index: the place's number. -/
theorem meta_at (T : Fin 16384) (k : Fin 4) :
    Pipeline.afterTail₀ cfgs (dats m) 0 (V0 m) [hostOps1] c main_v3 (ix2 T k)
      = BitVec.ofNat 32 (place (row (m ((c : Thread nD τ).loc main_arg0)) T) k.val).val := by
  rw [resultMeta]
  have e : (extractStridedSlice S16384x4 ![0, 0] (outMeta m c) slices_S16384x128_S16384x4_0_0) (ix2 T k)
      = outMeta m c (ix2 T ⟨k.val, by omega⟩) := by pointwise
  refine e.trans ?_
  obtain ⟨car, hc⟩ := left_meta m c (pt T)
  have hb : ∀ l, iblk m c 0 (pt T) (ix2 (ln T) l) = row (m ((c : Thread nD τ).loc main_arg0)) T l := fun l =>
    block_at m c (pt T) (ln T) l T (by simp only [pt, ln]; omega)
  obtain ⟨⟨_, h0⟩, ⟨_, h1⟩, ⟨_, h2⟩, ⟨_, h3⟩⟩ := rounds (iblk m c 0 (pt T)) (ln T) _ hb
  refine (congrFun hc (ix2 (ln T) ⟨k.val, by omega⟩)).trans ?_
  exact metaOf_at _ car (ln T) (fun j => place (row (m ((c : Thread nD τ).loc main_arg0)) T) j.val) h0 h1 h2 h3 k

include hlow in
/-- The second result at an index: the gate among the picked values. -/
theorem gates_at (T : Fin 16384) (k : Fin 4) :
    Pipeline.afterTail₀ cfgs (dats m) 0 (V0 m) [hostOps1] c main_v4 (ix2 T k)
      = gate (fun j => row (m ((c : Thread nD τ).loc main_arg0)) T (place (row (m ((c : Thread nD τ).loc main_arg0)) T) j.val)) k := by
  rw [resultGates]
  have e : (extractStridedSlice S16384x4 ![0, 0] (outGates m c) slices_S16384x128_S16384x4_0_0) (ix2 T k)
      = outGates m c (ix2 T ⟨k.val, by omega⟩) := by pointwise
  refine e.trans ?_
  have hb : ∀ l, iblk m c 0 (pt T) (ix2 (ln T) l) = row (m ((c : Thread nD τ).loc main_arg0)) T l := fun l =>
    block_at m c (pt T) (ln T) l T (by simp only [pt, ln]; omega)
  obtain ⟨⟨h0, _⟩, ⟨h1, _⟩, ⟨h2, _⟩, ⟨h3, _⟩⟩ := rounds (iblk m c 0 (pt T)) (ln T) _ hb
  have hv : ∀ r : ℕ, r < 4 → rest (row (m ((c : Thread nD τ).loc main_arg0)) T) r (place (row (m ((c : Thread nD τ).loc main_arg0)) T) r)
      = row (m ((c : Thread nD τ).loc main_arg0)) T (place (row (m ((c : Thread nD τ).loc main_arg0)) T) r) := fun r hr =>
    value _ padValue (row_low _ T (hlow T)) (row_pad _ T) r hr
  refine (congrFun (left_gates m c (pt T)) (ix2 (ln T) ⟨k.val, by omega⟩)).trans ?_
  exact gatesOf_at _ (ln T) (fun j => row (m ((c : Thread nD τ).loc main_arg0)) T (place (row (m ((c : Thread nD τ).loc main_arg0)) T) j.val))
    (h0.trans (hv 0 (by decide))) (h1.trans (hv 1 (by decide))) (h2.trans (hv 2 (by decide))) (h3.trans (hv 3 (by decide))) k

end Cert.Kernel6Ideal.RouteValue

end
-- ==== Proof.RouteCount.lean ====
/-
  The router kernel: the counts it carries from point to point, and the ones it leaves.
-/
module

public import proofs.«01_k».proof.Proof.RouteFinal
public import Idealize.ShloMosaic.Lib.Pipeline.ReadBack
public import Idealize.ShloMosaic.Lib.WritesUnit

@[expose] public section

set_option maxRecDepth 16384

noncomputable section

namespace Cert.Kernel6Ideal.RouteValue

open Cert.Kernel6Ideal Cert.Kernel6Ideal.Gen Cert.Route Idealize.ShloMosaic Idealize.ShloMosaic.TcCoe Idealize.SL.Sem Idealize.ShloMosaic.StableHlo
open Idealize.ShloMosaic.Pipeline (Dat)

variable (m : (ℓ : Loc nD τ sig) → Buf (Elt Ideal) ℓ)
variable (c : Dev nD)

/-- One. -/
theorem one_f32 : Ideal.ofBits .f32 0x3F800000#32 = 1 := by
  simp [Ideal.ofBits, Ideal.ieee, -EReal.coe_mul]
  norm_num

/-- Zero. -/
theorem zero_f32 : Ideal.ofBits .f32 0x00000000#32 = 0 := by
  simp [Ideal.ofBits, Ideal.ieee, -EReal.coe_mul]

/-- A choice of one or zero is a natural number. -/
theorem choice_cast (P : Prop) [Decidable P] : (if P then (1 : EReal) else 0) = (((if P then 1 else 0 : ℕ) : ℝ) : EReal) := by
  split_ifs <;> simp

/-- A sum of natural numbers among the extended reals. -/
theorem sum_cast {ι : Type} (s : ι → ℕ) (F : Finset ι) : ∑ x ∈ F, ((s x : ℝ) : EReal) = (((∑ x ∈ F, s x : ℕ) : ℝ) : EReal) := by
  classical
  induction F using Finset.induction_on with
  | empty => simp
  | insert a F ha ih =>
    rw [Finset.sum_insert ha, Finset.sum_insert ha, ih, ← EReal.coe_add, ← Nat.cast_add]

/-- A lane of a row's summed one-hots: how many of its four places it is. -/
theorem selOf_at (Y : FVec Ideal S256x128 .f32) (r : Fin 256) (p : Fin 4 → Fin 128)
    (h0 : k0_pay5 (F := Ideal) Y (ix2 r 0) = (((p 0).val : ℝ) : EReal)) (h1 : k0_pay8 (F := Ideal) Y (ix2 r 0) = (((p 1).val : ℝ) : EReal))
    (h2 : k0_pay11 (F := Ideal) Y (ix2 r 0) = (((p 2).val : ℝ) : EReal))
    (h3 : k0_pay16 (F := Ideal) k0_pay3 (k0_pay9 Y) (k0_pay12 (F := Ideal) Y) k0_pay13 (ix2 r 0) = (((p 3).val : ℝ) : EReal)) (l : Fin 128) :
    selOf Y (ix2 r l) = (((∑ k : Fin 4, if p k = l then 1 else 0 : ℕ) : ℝ) : EReal) := by
  have e3 : ∀ k, k0_pay3 (F := Ideal) (ix2 r k) = ((k.val : ℝ) : EReal) := fun k => by pointwise [k0_pay3, lane_f32]
  have q : ∀ k, (((l.val : ℝ) : EReal) = (((p k).val : ℝ) : EReal)) ↔ p k = l := fun k => by
    rw [EReal.coe_eq_coe_iff, Nat.cast_inj, Fin.ext_iff, eq_comm]
  pointwise [selOf, k0_pay22, e3, h0, h1, h2, h3, one_f32, zero_f32]
  simp only [q, choice_cast, ← EReal.coe_add, ← Nat.cast_add, Fin.sum_univ_four]

/-- The last row's running counts: the block's, and those carried. -/
theorem last_at (S : FVec Ideal S256x128 .f32) (C : FVec Ideal S1x128 .f32) (l : Fin 128) (s : Fin 256 → ℕ) (n : ℕ)
    (hs : ∀ r, S (ix2 r l) = ((s r : ℝ) : EReal)) (hC : C (ix2 0 l) = ((n : ℝ) : EReal)) :
    k0_pay24 S k0_pay23 C (ix2 255 l) = (((n + ∑ r, s r : ℕ) : ℝ) : EReal) := by
  have e : ∀ x : Fin 256, BitVec.setWidth 32 (IntOp.cmpi CmpIPredicate.sle (BitVec.ofNat 32 x.val) 255#32) = 1#32 := by decide +kernel
  have e1 : (FloatOps.sitofp (F := Ideal) .f32 (1#32 : BitVec 32) : EReal) = 1 := by
    show (((1#32 : BitVec 32).toInt : ℝ) : EReal) = 1
    simp
  pointwise [k0_pay24, k0_pay23, hs, hC]
  simp only [e]
  refine (congrArg (· + ((n : ℝ) : EReal)) (Finset.sum_congr rfl fun x _ => (congrArg (· * ((s x : ℝ) : EReal)) e1).trans (one_mul _))).trans ?_
  show (∑ x, ((s x : ℝ) : EReal)) + ((n : ℝ) : EReal) = _
  rw [sum_cast, ← EReal.coe_add, ← Nat.cast_add, Nat.add_comm]

/-- The carried row is the last row. -/
theorem carried_at (S : FVec Ideal S256x128 .f32) (C : FVec Ideal S1x128 .f32) (l : Fin 128) :
    k0_pay26 S k0_pay23 C (ix2 0 l) = k0_pay24 S k0_pay23 C (ix2 255 l) := by
  unfold k0_pay26
  generalize k0_pay24 S k0_pay23 C = X
  pointwise
  try rfl

/-- The counts' block holds the last row, as integers. -/
theorem counts_at (X : FVec Ideal S256x128 .f32) (l : Fin 128) :
    k0_pay35 X (ix2 0 l) = FloatOps.fptosi (F := Ideal) (φ := .f32) 32 (X (ix2 255 l)) := by
  pointwise [k0_pay35]
  try rfl

/-- The first row of the carried block. -/
abbrev firstRow : Rect S8x128 := Rect.unit (s := S8x128) ![0, 0] ![1, 128] inb_S8x128_S1x128_0_0

/-- A lane of it. -/
def lane (l : Fin 128) : firstRow.shape.Idx := ix2 (0 : Fin 1) l

/-- The lane's place in the block. -/
theorem first_row (l : Fin 128) : (ix2 0 l : S8x128.Idx) = firstRow.emb (lane l) := by
  funext a
  match a with
  | ⟨0, _⟩ => rfl
  | ⟨1, _⟩ => exact Fin.ext (by show l.val = 0 + 1 * l.val; omega)

/-- The first point starts from no counts. -/
theorem left_first (t : Fin cfg0.N) (h0 : t.val % 64 = 0) : ∃ C : FVec Ideal S1x128 .f32, (∀ l, C (ix2 0 l) = (((0 : ℕ) : ℝ) : EReal))
    ∧ (outsAt0 m c t.val t.isLt).2.2.1 = k0_pay35 (k0_pay24 (selOf (iblk m c 0 t)) k0_pay23 C)
    ∧ ∀ l : Fin 128, (outsAt0 m c t.val t.isLt).2.2.2 (ix2 0 l) = k0_pay26 (selOf (iblk m c 0 t)) k0_pay23 C (ix2 0 l) := by
  rw [outsAt0_A m c t h0]
  frame_out
  refine ⟨_, ?_, rfl, ?_⟩
  · intro l
    rw [View.readCov_fill _ _ _ _ _ (by decide)]
    show (k0_pay1 (F := Ideal)) _ = _
    have e : (k0_pay1 (F := Ideal)) = fun _ => (0 : EReal) := by
      funext i
      pointwise [k0_pay1, zero_f32]
    rw [e]
    simp
  · intro l
    refine (congrArg (View.canon _) (first_row l)).trans ?_
    exact View.canon_cons_emb firstRow _ _ (lane l)

/-- A later point starts from the counts the point before left. -/
theorem left_next (t : Fin cfg0.N) (h0 : ¬ t.val % 64 = 0) (h1 : t.val - 1 < cfg0.N) : ∃ C : FVec Ideal S1x128 .f32, (∀ l, C (ix2 0 l) = (outsAt0 m c (t.val - 1) h1).2.2.2 (ix2 0 l))
    ∧ (outsAt0 m c t.val t.isLt).2.2.1 = k0_pay35 (k0_pay24 (selOf (iblk m c 0 t)) k0_pay23 C)
    ∧ ∀ l : Fin 128, (outsAt0 m c t.val t.isLt).2.2.2 (ix2 0 l) = k0_pay26 (selOf (iblk m c 0 t)) k0_pay23 C (ix2 0 l) := by
  rw [outsAt0_B m c t h0]
  frame_out
  refine ⟨_, ?_, rfl, ?_⟩
  · intro l
    rw [read_unread_whole]
    show (outsAt0 m c (t.val - 1) h1).2.2.2 (firstRow.emb (lane l)) = _
    exact congrArg (outsAt0 m c (t.val - 1) h1).2.2.2 (first_row l).symm
  · intro l
    refine (congrArg (View.read _ _ _) (first_row l)).trans ?_
    exact View.read_writes_cons_emb _ _ firstRow _ _ (lane l)

/-- Whether a flat position's place is a lane. -/
def hit (A : S16384x32.Idx → EReal) (l : Fin 128) (n : ℕ) : ℕ :=
  if h : n < 65536 then (if place (row A ⟨n / 4, by omega⟩) (n % 4) = l then 1 else 0) else 0

/-- How many of the first flat positions have a lane for their place. -/
def tally (A : S16384x32.Idx → EReal) (l : Fin 128) (n : ℕ) : ℕ := ∑ i ∈ Finset.range n, hit A l i

/-- Four positions a row. -/
theorem sum_rows (f : ℕ → ℕ) (b : ℕ) : ∀ N : ℕ, ∑ i ∈ Finset.range (b + 4 * N), f i
    = ∑ i ∈ Finset.range b, f i + ∑ r ∈ Finset.range N, ∑ k : Fin 4, f (b + 4 * r + k.val)
  | 0 => by simp
  | N + 1 => by
    rw [show b + 4 * (N + 1) = b + 4 * N + 1 + 1 + 1 + 1 by omega, Finset.sum_range_succ, Finset.sum_range_succ, Finset.sum_range_succ,
      Finset.sum_range_succ, sum_rows f b N, Finset.sum_range_succ _ N, Fin.sum_univ_four]
    show _ = _ + (_ + (f (b + 4 * N + 0) + f (b + 4 * N + 1) + f (b + 4 * N + 2) + f (b + 4 * N + 3)))
    simp only [Nat.add_zero, Nat.add_assoc, Nat.reduceAdd]

/-- A block's row of summed one-hots counts the row's four flat positions. -/
theorem sel_block (t : Fin cfg0.N) (r : Fin 256) (l : Fin 128) :
    selOf (iblk m c 0 t) (ix2 r l) = (((∑ k : Fin 4, hit (m ((c : Thread nD τ).loc main_arg0)) l (1024 * t.val + 4 * r.val + k.val) : ℕ) : ℝ) : EReal) := by
  obtain ⟨_, _, _, ht⟩ := idx t
  have hr := r.isLt
  have hb : ∀ l, iblk m c 0 t (ix2 r l) = row (m ((c : Thread nD τ).loc main_arg0)) ⟨t.val * 256 + r.val, by omega⟩ l := fun l =>
    block_at m c t r l ⟨t.val * 256 + r.val, by omega⟩ rfl
  obtain ⟨⟨_, h0⟩, ⟨_, h1⟩, ⟨_, h2⟩, ⟨_, h3⟩⟩ := rounds (iblk m c 0 t) r _ hb
  refine (selOf_at _ r (fun j => place (row (m ((c : Thread nD τ).loc main_arg0)) ⟨t.val * 256 + r.val, by omega⟩) j.val) h0 h1 h2 h3 l).trans ?_
  refine congrArg (fun n : ℕ => ((n : ℝ) : EReal)) (Finset.sum_congr rfl fun k _ => ?_)
  have hk := k.isLt
  unfold hit
  rw [dif_pos (by omega)]
  have e1 : (⟨(1024 * t.val + 4 * r.val + k.val) / 4, by omega⟩ : Fin 16384) = ⟨t.val * 256 + r.val, by omega⟩ := Fin.ext (by dsimp only; omega)
  have e2 : (1024 * t.val + 4 * r.val + k.val) % 4 = k.val := by omega
  rw [e1, e2]

/-- After a point, the last row counts every position up to the point's end, when what was carried counts those before it. -/
theorem step (t : Fin cfg0.N) (C : FVec Ideal S1x128 .f32) (l : Fin 128)
    (hC : C (ix2 0 l) = ((tally (m ((c : Thread nD τ).loc main_arg0)) l (1024 * t.val) : ℝ) : EReal)) :
    k0_pay24 (selOf (iblk m c 0 t)) k0_pay23 C (ix2 255 l)
      = ((tally (m ((c : Thread nD τ).loc main_arg0)) l (1024 * (t.val + 1)) : ℝ) : EReal) := by
  refine (last_at _ C l _ _ (fun r => sel_block m c t r l) hC).trans ?_
  refine congrArg (fun n : ℕ => ((n : ℝ) : EReal)) ?_
  unfold tally
  rw [show 1024 * (t.val + 1) = 1024 * t.val + 4 * 256 by omega, sum_rows,
    Finset.sum_range fun r => ∑ k : Fin 4, hit (m ((c : Thread nD τ).loc main_arg0)) l (1024 * t.val + 4 * r + k.val)]

/-- What a point starts from: the counts of the positions before it; what it carries on: those up to its end. -/
theorem carried (l : Fin 128) : ∀ (n : ℕ) (hn : n < cfg0.N), (∃ C : FVec Ideal S1x128 .f32,
      C (ix2 0 l) = ((tally (m ((c : Thread nD τ).loc main_arg0)) l (1024 * n) : ℝ) : EReal)
      ∧ (outsAt0 m c n hn).2.2.1 = k0_pay35 (k0_pay24 (selOf (iblk m c 0 ⟨n, hn⟩)) k0_pay23 C))
    ∧ (outsAt0 m c n hn).2.2.2 (ix2 0 l) = ((tally (m ((c : Thread nD τ).loc main_arg0)) l (1024 * (n + 1)) : ℝ) : EReal)
  | 0, hn => by
    obtain ⟨C, h1, h2, h3⟩ := left_first m c ⟨0, hn⟩ rfl
    have hC : C (ix2 0 l) = ((tally (m ((c : Thread nD τ).loc main_arg0)) l (1024 * 0) : ℝ) : EReal) := by
      rw [h1, tally]
      simp
    exact ⟨⟨C, hC, h2⟩, (h3 l).trans ((carried_at _ C l).trans (step m c ⟨0, hn⟩ C l hC))⟩
  | n + 1, hn => by
    have hN : cfg0.N = 64 := N_0
    obtain ⟨C, h1, h2, h3⟩ := left_next m c ⟨n + 1, hn⟩ (by dsimp only; omega) (by dsimp only; omega)
    have hC : C (ix2 0 l) = ((tally (m ((c : Thread nD τ).loc main_arg0)) l (1024 * (n + 1)) : ℝ) : EReal) :=
      (h1 l).trans (carried l n (by omega)).2
    exact ⟨⟨C, hC, h2⟩, (h3 l).trans ((carried_at _ C l).trans (step m c ⟨n + 1, hn⟩ C l hC))⟩

/-- There are no more hits than positions. -/
theorem tally_le (A : S16384x32.Idx → EReal) (l : Fin 128) (n : ℕ) : tally A l n ≤ n := by
  unfold tally
  refine (Finset.sum_le_card_nsmul _ _ 1 fun i _ => ?_).trans (by simp)
  unfold hit
  split_ifs <;> omega

/-- A count, back as an integer. -/
theorem count_i32 (n : ℕ) (hn : n ≤ 65536) : (FloatOps.fptosi (F := Ideal) (φ := .f32) 32 ((n : ℝ) : EReal) : BitVec 32) = BitVec.ofNat 32 n := by
  show Ideal.fptosi 32 ((n : ℝ) : EReal) = _
  have e : max (-((2 ^ 31 : ℕ) : ℤ)) (min (((2 ^ 31 : ℕ) : ℤ) - 1) (n : ℤ)) = (n : ℤ) := by push_cast; omega
  unfold Ideal.fptosi
  rw [Ideal.toIntClamped_coe, if_pos (by positivity), Int.floor_natCast]
  simp only [show (32 - 1 : ℕ) = 31 from rfl]
  rw [e]
  exact BitVec.ofInt_natCast 32 n

/-- The last point. -/
theorem last_lt : 63 < cfg0.N := by have e : cfg0.N = 64 := N_0; omega

/-- The counts' window stages its one block at each grid point. -/
theorem idx3 : ∀ t : Fin cfg0.N, win0_3.index t = ![0, 0] :=
  (by decide +kernel : ∀ t : Fin grid0.N, _)

section last

variable (n : Fin cfg0.N) (hn : n.val = 63)

include hn in
/-- The array of counts after the run is what the last point left. -/
theorem finalCounts : (dats m 0 c).arrAt 3 cfg0.N = (outsAt0 m c n.val n.isLt).2.2.1 := by
  refine (dats m 0 c).arrAt_eq_of_covers 3 _ (by decide +kernel) fun t ht y => ?_
  have h63 := (flush0_3 t).mp ht
  obtain ⟨_, _, _, h64⟩ := idx t
  obtain rfl : t = n := Fin.ext (by omega)
  blk_simp
  rw [after0_3]
  refine congrArg (outsAt0 m c t.val t.isLt).2.2.1 (Eq.symm ?_)
  obtain ⟨r, l, rfl⟩ : ∃ (r : Fin 8) (l : Fin 128), y = ix2 r l := ⟨y 0, y 1, eq_ix2 y⟩
  blk_ext [idx3 t]

include hn in
/-- The third result: the first lanes of the counts' first row. -/
theorem resultCounts : Pipeline.afterTail₀ cfgs (dats m) 0 (V0 m) [hostOps1] c main_v6
    = shapeCast S32 (extractStridedSlice S1x32 ![0, 0] (outsAt0 m c n.val n.isLt).2.2.1 slices_S8x128_S1x32_0_0) shapeCasts_S1x32_S32 := by
  rw [← finalCounts m c n hn]
  unfold Pipeline.afterTail₀
  dsimp only [List.flatten, List.append]
  after_results_simp
  exact congrArg (fun z => shapeCast S32 (extractStridedSlice S1x32 ![0, 0] z slices_S8x128_S1x32_0_0) shapeCasts_S1x32_S32)
    (Pipeline.withArrays_arr spec0 launch0.win.arr_inj c (V0 m c) (fun w => (dats m 0 c).arrAt w cfg0.N) 3)

include hn in
/-- The third result at an expert, from the last point. -/
theorem counts_last (l : Fin 32) :
    Pipeline.afterTail₀ cfgs (dats m) 0 (V0 m) [hostOps1] c main_v6 (ix1 l)
      = BitVec.ofNat 32 (tally (m ((c : Thread nD τ).loc main_arg0)) ⟨l.val, by omega⟩ 65536) := by
  rw [resultCounts m c n hn]
  obtain ⟨⟨C, hC, h2⟩, _⟩ := carried m c ⟨l.val, by omega⟩ n.val n.isLt
  rw [h2]
  generalize hX : k0_pay24 (selOf (iblk m c 0 n)) k0_pay23 C = X
  have e : shapeCast S32 (extractStridedSlice S1x32 ![0, 0] (k0_pay35 X) slices_S8x128_S1x32_0_0) shapeCasts_S1x32_S32 (ix1 l)
      = k0_pay35 X (ix2 0 ⟨l.val, by omega⟩) := by
    generalize k0_pay35 X = Y
    pointwise
  rw [e, counts_at, ← hX, step m c n C _ hC, hn]
  exact count_i32 _ (tally_le _ _ _)

end last

/-- The third result at an expert: how many positions picked it. -/
theorem counts_result (l : Fin 32) :
    Pipeline.afterTail₀ cfgs (dats m) 0 (V0 m) [hostOps1] c main_v6 (ix1 l)
      = BitVec.ofNat 32 (tally (m ((c : Thread nD τ).loc main_arg0)) ⟨l.val, by omega⟩ 65536) :=
  counts_last m c ⟨63, last_lt⟩ rfl l

end Cert.Kernel6Ideal.RouteValue

end
-- ==== Proof.RouteRef.lean ====
/-
  The reference of the router's selection: the four greatest logits of a row, and their softmax.
-/
module

public import proofs.«01_k».proof.Proof.RouteFinal
public import proofs.«01_k».proof.Proof.Gen.Reference6Ideal.Run
public import Idealize.ShloMosaic.Lib.Pointwise

@[expose] public section

set_option maxRecDepth 16384

noncomputable section

namespace Cert.Reference6Ideal.RouteRef

open Cert.Reference6Ideal Cert.Reference6Ideal.Gen Cert.Route Idealize.ShloMosaic Idealize.ShloMosaic.TcCoe Idealize.SL.Sem
open Cert.Kernel6Ideal.RouteValue (row padValue gate row_low row_pad)

/-- One logit comes before another when it is greater. -/
def before (A : S16384x32.Idx → EReal) (T : Fin 16384) (a b : Fin 32) : Bool := decide (A (ix2 T b) < A (ix2 T a))

/-- A row's index with another place. -/
theorem along_row (T : Fin 16384) (k q : Fin 32) : Shape.Idx.along (s := S16384x32) (ix2 T k) 1 q = ix2 T q := by
  funext z
  match z with
  | ⟨0, _⟩ => rfl
  | ⟨1, _⟩ => rfl

/-- The comparison the sort asks. -/
theorem asks (A : FVec Ideal S16384x32 .f32) (T : Fin 16384) (k : Fin 32) :
    (fun a b : Fin 32 => FloatOps.cmpfTotal (F := Ideal) (φ := .f32) .gt (A (Shape.Idx.along (s := S16384x32) (ix2 T k) 1 a)) (A (Shape.Idx.along (s := S16384x32) (ix2 T k) 1 b)) == 1#1)
      = before A T := by
  funext a b
  rw [along_row, along_row]
  show (BitVec.ofBool (decide ((show EReal from A (ix2 T b)) < A (ix2 T a))) == 1#1) = _
  unfold before
  by_cases h : (show EReal from A (ix2 T b)) < A (ix2 T a)
  · rw [decide_eq_true h]; rfl
  · rw [decide_eq_false h]; rfl

/-- The sorted row, and the row carried along with it. -/
theorem sorted_at {β : Type} (A : FVec Ideal S16384x32 .f32) (Y : S16384x32.Idx → β) (T : Fin 16384) (k : Fin 32) :
    (Host.sort2 S16384x32 1 (fun l r : Ideal .f32 × β => FloatOps.cmpfTotal .gt l.1 r.1) A Y).1 (ix2 T k) = A (ix2 T (sortedFrom (before A T) k))
    ∧ (Host.sort2 S16384x32 1 (fun l r : Ideal .f32 × β => FloatOps.cmpfTotal .gt l.1 r.1) A Y).2 (ix2 T k) = Y (ix2 T (sortedFrom (before A T) k)) := by
  rw [← along_row T k (sortedFrom (before A T) k), ← asks A T k]
  unfold Host.sort2
  rw [dif_pos (by decide : 1 < S16384x32.rank)]
  exact ⟨rfl, rfl⟩

/-- The index of a slice's entry. -/
theorem slice_ix (T : Fin 16384) (i : Fin 4) {β : Type} (Y : S16384x32.Idx → β) :
    extractStridedSlice S16384x4 (fun _ => 0) Y sliceFits_S16384x32_S16384x4 (ix2 T i) = Y (ix2 T (i.castLE (by decide))) := by
  refine congrArg Y (funext fun z => ?_)
  match z with
  | ⟨0, _⟩ => exact Fin.ext (Nat.zero_add _)
  | ⟨1, _⟩ => exact Fin.ext (Nat.zero_add _)

/-- A value of the sorted row. -/
theorem values_at (A : FVec Ideal S16384x32 .f32) (T : Fin 16384) (i : Fin 4) :
    (Host.topK S16384x4 1 (FloatOps.cmpfTotal .gt) A sliceFits_S16384x32_S16384x4).1 (ix2 T i)
      = A (ix2 T (sortedFrom (before A T) (i.castLE (by decide)))) := by
  unfold Host.topK
  dsimp only
  rw [slice_ix]
  exact (sorted_at A _ T _).1

/-- Its position in the row. -/
theorem indices_at (A : FVec Ideal S16384x32 .f32) (T : Fin 16384) (i : Fin 4) :
    (Host.topK S16384x4 1 (FloatOps.cmpfTotal .gt) A sliceFits_S16384x32_S16384x4).2 (ix2 T i)
      = BitVec.ofNat 32 (sortedFrom (before A T) (i.castLE (by decide))).val := by
  unfold Host.topK
  dsimp only
  rw [slice_ix]
  refine (sorted_at A _ T _).2.trans ?_
  rw [dif_pos (by decide : 1 < S16384x32.rank)]
  generalize sortedFrom (before A T) (i.castLE (by decide)) = q
  rfl

/-- The sort's order among a padded row's lanes. -/
theorem before_row (A : S16384x32.Idx → EReal) (T : Fin 16384) (a b : Fin 32) :
    before A T a b = decide (row A T ⟨b.val, by omega⟩ < row A T ⟨a.val, by omega⟩) := by
  unfold before row
  rw [dif_pos a.isLt, dif_pos b.isLt]

section selected

variable (A : FVec Ideal S16384x32 .f32) (T : Fin 16384) (hlow : ∀ k : Fin 32, padValue < A (ix2 T k)) (i : Fin 4)

include hlow in
/-- The position is the place the rounds pick. -/
theorem position : (sortedFrom (before A T) (i.castLE (by decide))).val = (place (row A T) i.val).val :=
  sorted_place (row A T) padValue (row_low A T hlow) (row_pad A T) (before A T) (before_row A T) i

include hlow in
/-- The reference's positions. -/
theorem indices_place :
    (Host.topK S16384x4 1 (FloatOps.cmpfTotal .gt) A sliceFits_S16384x32_S16384x4).2 (ix2 T i) = BitVec.ofNat 32 (place (row A T) i.val).val :=
  (indices_at A T i).trans (congrArg (BitVec.ofNat 32) (position A T hlow i))

include hlow in
/-- The reference's values. -/
theorem values_place :
    (Host.topK S16384x4 1 (FloatOps.cmpfTotal .gt) A sliceFits_S16384x32_S16384x4).1 (ix2 T i) = row A T (place (row A T) i.val) := by
  rw [values_at]
  have h := place_lt (row A T) padValue (row_low A T hlow) (row_pad A T) i.val i.isLt
  have e : row A T (place (row A T) i.val) = A (ix2 T ⟨(place (row A T) i.val).val, h⟩) := dif_pos h
  rw [e]
  exact congrArg (fun q => A (ix2 T q)) (Fin.ext (position A T hlow i))

end selected

/-- The softmax of four values a row. -/
def soft (v : FVec Ideal S16384x4 .f32) : FVec Ideal S16384x4 .f32 :=
  Host.divf (Host.exp (subf v (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x4_S16384_d1 h_S_)))))) (broadcastInDim S16384x4 ![0, 1] bcast_S16384x1_S16384x4_0_1 (broadcastInDim S16384x1 ![0] bcast_S16384_S16384x1_0 (Host.reduceAdd (Host.exp (subf v (broadcastInDim S16384x4 ![0, 1] bcast_S16384x1_S16384x4_0_1 (broadcastInDim S16384x1 ![0] bcast_S16384_S16384x1_0 (maximumf (broadcastInDim S16384 ![] bcast_S_S16384 (constant S_ .f32 0xFF800000#32)) (Host.reduce FloatOps.maximumf v (constant S_ .f32 0xFF800000#32) reducesTo_S16384x4_S16384_d1 h_S_)))))) (constant S_ .f32 0x00000000#32) reducesTo_S16384x4_S16384_d1 h_S_)))

/-- The greatest of four values the first of which no other exceeds. -/
theorem fold_first (w : Fin 4 → EReal) (h : ∀ j, w j ≤ w 0) : (Finset.univ : Finset (Fin 4)).fold max ⊥ w = w 0 := by
  apply le_antisymm
  · exact (Finset.fold_max_le _).2 ⟨bot_le, fun j _ => h j⟩
  · exact (Finset.le_fold_max _).2 (Or.inr ⟨0, Finset.mem_univ _, le_rfl⟩)

/-- A gate of the reference, when the first value is the greatest. -/
theorem soft_at (v : FVec Ideal S16384x4 .f32) (T : Fin 16384) (w : Fin 4 → EReal) (hw : ∀ j, v (ix2 T j) = w j) (h : ∀ j, w j ≤ w 0) (k : Fin 4) :
    soft v (ix2 T k) = gate w k := by
  pointwise [soft, gate, hw, Cert.Kernel6Ideal.RouteValue.bot_f32]
  show Ideal.div (Ideal.exp (w k - max ⊥ (Finset.univ.fold max ⊥ w))) (∑ x, Ideal.exp (w x - max ⊥ (Finset.univ.fold max ⊥ w))) = _
  rw [fold_first w h, max_eq_right bot_le]

/-- No picked value exceeds the first. -/
theorem first_greatest (A : S16384x32.Idx → EReal) (T : Fin 16384) (k : Fin 128) : row A T k ≤ row A T (place (row A T) 0) :=
  le_pick (row A T) k

end Cert.Reference6Ideal.RouteRef

end
-- ==== Proof.RouteHist.lean ====
/-
  The reference's counts: a scatter that adds one at each picked index counts how often each index is picked.
-/
module

public import proofs.«01_k».proof.Proof.RouteCount
public import proofs.«01_k».proof.Proof.RouteRef
public import Idealize.ShloMosaic.Lib.Routing.OpsSet

@[expose] public section

set_option maxRecDepth 16384

noncomputable section

namespace Cert.Reference6Ideal.RouteRef

open Cert.Reference6Ideal Cert.Reference6Ideal.Gen Cert.Route Idealize.ShloMosaic Idealize.ShloMosaic.TcCoe Idealize.SL.Sem
open Cert.Kernel6Ideal.RouteValue (row padValue row_low row_pad hit tally)

/-- The reference's scatter. -/
abbrev dims : ScatterDims S32 S65536x1 S65536 := scatter_S32_S65536x1_S65536_n_0_0_1

/-- An addend lands at an entry exactly when its index, read signed, is the entry's number. -/
theorem lands (idx : IVec S65536x1 32) (i : Fin 65536) (x : Fin 32) :
    dims.resultIdx? (ix1 i) idx = some (ix1 x) ↔ (idx (ix2 i (0 : Fin 1))).toInt = (x.val : Int) := by
  have hm : (0 : Fin 1) ∈ dims.scatterDimsToOperandDims := List.mem_singleton.2 rfl
  have hwin : dims.window (ix1 i) 0 = 0 := by
    unfold ScatterDims.window
    exact dif_neg fun h => (of_decide_eq_true (List.mem_filter.1 h).2) (List.mem_singleton.2 rfl)
  have hstart : dims.start (ix1 i) idx 0 = (idx (ix2 i (0 : Fin 1))).toInt := by
    unfold ScatterDims.start
    rw [dif_pos hm]
    refine congrArg (fun z => (idx z).toInt) (funext fun b => Fin.ext ?_)
    match b with
    | ⟨0, _⟩ =>
      unfold ScatterDims.siIdx
      rw [dif_neg (by show ¬ (0 : ℕ) = 1; decide)]
      unfold ScatterDims.siCoord
      rfl
    | ⟨1, _⟩ =>
      unfold ScatterDims.siIdx
      rw [dif_pos (by show (1 : ℕ) = 1; rfl)]
      rfl
  refine (Routing.resultIdx?_ix1 dims (ix1 i) idx x).trans ?_
  rw [hstart, hwin]
  simp

/-- Ones added into zeros at indices that are small numbers: each entry is how often its number occurs. -/
theorem histogram (z : IVec S32 32) (hz : ∀ i, z i = 0#32) (idx : IVec S65536x1 32) (u : IVec S65536 32) (hu : ∀ i, u i = 1#32)
    (g : ℕ → ℕ) (hg : ∀ i : Fin 65536, idx (ix2 i (0 : Fin 1)) = BitVec.ofNat 32 (g i.val)) (hg31 : ∀ i : Fin 65536, g i.val < 2 ^ 31) (x : Fin 32) :
    Host.scatter dims IntOp.addi z idx u (ix1 x) = BitVec.ofNat 32 (Nat.count (fun i => g i = x.val) 65536) := by
  have hiff : ∀ i : Fin 65536, dims.resultIdx? (ix1 i) idx = some (ix1 x) ↔ g i.val = x.val := fun i => by
    rw [lands, hg, StableHlo.Predicate.toInt_ofNat_small _ (hg31 i)]
    omega
  unfold Host.scatter
  refine (Routing.foldl_count _ (ix1 x) (fun n => decide (g n.val = x.val)) (fun r n => ?_) _ z 0 (hz _)).trans ?_
  · have hj : S65536.rowMajor.symm n = ix1 (n.cast (Routing.numel1 65536)) := Routing.symm1 n
    have hi : dims.resultIdx? (S65536.rowMajor.symm n) idx = some (ix1 x) ↔ g n.val = x.val := by
      rw [hj]
      exact hiff _
    generalize dims.resultIdx? (S65536.rowMajor.symm n) idx = o at hi ⊢
    cases o with
    | none =>
      show r (ix1 x) = _
      rw [if_neg fun h => by have := hi.2 (of_decide_eq_true h); cases this]
    | some k =>
      by_cases e : g n.val = x.val
      · have hk : k = ix1 x := Option.some.inj (hi.2 e)
        subst hk
        rw [if_pos (decide_eq_true e), ← hu (S65536.rowMajor.symm n)]
        exact if_pos rfl
      · rw [if_neg fun h => e (of_decide_eq_true h)]
        exact if_neg fun h => e (hi.1 (congrArg some h.symm))
  · rw [Nat.zero_add, Routing.countP_finRange _ (fun i => g i = x.val)]
    exact congrArg (fun n => BitVec.ofNat 32 (Nat.count (fun i => g i = x.val) n)) (Routing.numel1 65536)

/-- An index that is a small number is not wrapped. -/
theorem unwrapped (n : ℕ) (hn : n < 128) : Scalar.select (IntOp.cmpi .slt (IntOp.maxsi 0#32 (BitVec.ofNat 32 n)) 0#32)
    (IntOp.addi (IntOp.maxsi 0#32 (BitVec.ofNat 32 n)) 32#32) (IntOp.maxsi 0#32 (BitVec.ofNat 32 n)) = BitVec.ofNat 32 n :=
  (by decide +kernel : ∀ n : Fin 128, Scalar.select (IntOp.cmpi .slt (IntOp.maxsi 0#32 (BitVec.ofNat 32 n.val)) 0#32)
    (IntOp.addi (IntOp.maxsi 0#32 (BitVec.ofNat 32 n.val)) 32#32) (IntOp.maxsi 0#32 (BitVec.ofNat 32 n.val)) = BitVec.ofNat 32 n.val) ⟨n, hn⟩

/-- The flat indices, held from below at zero. -/
def clipped (P : IVec S16384x4 32) : IVec S65536 32 :=
  maxsi (broadcastInDim S65536 ![] bcast_S_S65536 (id (constantI S_ 32 0#32))) (shapeCast _ P shapeCasts_S16384x4_S65536)

/-- The reference's counts of an array of picked indices. -/
def binned (P : IVec S16384x4 32) : IVec S32 32 :=
  Host.scatter scatter_S32_S65536x1_S65536_n_0_0_1 IntOp.addi (broadcastInDim S32 ![] bcast_S_S32 (constantI S_ 32 0#32))
    (broadcastInDim S65536x1 ![0] bcast_S65536_S65536x1_0 (select (cmpi .slt (clipped P) (broadcastInDim S65536 ![] bcast_S_S65536 (constantI S_ 32 0#32)))
      (addi (clipped P) (broadcastInDim S65536 ![] bcast_S_S65536 (constantI S_ 32 32#32))) (clipped P)))
    (broadcastInDim S65536 ![] bcast_S_S65536 (constantI S_ 32 1#32))

/-- A flat position's place, as a number. -/
def flat (A : S16384x32.Idx → EReal) (n : ℕ) : ℕ := if h : n < 65536 then (place (row A ⟨n / 4, by omega⟩) (n % 4)).val else 128

/-- The count of a number among the flat places is the tally of its lane. -/
theorem count_flat (A : S16384x32.Idx → EReal) (l : Fin 128) : ∀ N : ℕ, N ≤ 65536 → Nat.count (fun i => flat A i = l.val) N = tally A l N
  | 0, _ => rfl
  | N + 1, h => by
    rw [Nat.count_succ, count_flat A l N (by omega), tally, tally, Finset.sum_range_succ]
    refine congrArg _ ?_
    unfold flat hit
    rw [dif_pos (by omega), dif_pos (by omega)]
    simp only [Fin.ext_iff]

/-- A flat index, before it is held at zero. -/
theorem flat_at (P : IVec S16384x4 32) (n : Fin 65536) :
    shapeCast S65536 P shapeCasts_S16384x4_S65536 (ix1 n) = P (ix2 (⟨n.val / 4, by omega⟩ : Fin 16384) (⟨n.val % 4, by omega⟩ : Fin 4)) := by
  pointwise

/-- The reference's counts of the picked places. -/
theorem binned_at (A : S16384x32.Idx → EReal) (P : IVec S16384x4 32)
    (hP : ∀ T k, P (ix2 T k) = BitVec.ofNat 32 (place (row A T) k.val).val) (l : Fin 32) :
    binned P (ix1 l) = BitVec.ofNat 32 (tally A ⟨l.val, by omega⟩ 65536) := by
  have hlt : ∀ n : Fin 65536, flat A n.val < 128 := fun n => by
    unfold flat
    rw [dif_pos n.isLt]
    exact Fin.isLt _
  have hx : ∀ n : Fin 65536, shapeCast S65536 P shapeCasts_S16384x4_S65536 (ix1 n) = BitVec.ofNat 32 (flat A n.val) := fun n => by
    rw [flat_at, hP]
    unfold flat
    rw [dif_pos n.isLt]
  refine (histogram _ (fun _ => rfl) _ _ (fun _ => rfl) (flat A) (fun n => ?_) (fun n => (hlt n).trans (by decide)) l).trans ?_
  · refine Eq.trans ?_ (unwrapped (flat A n.val) (hlt n))
    rw [← hx n]
    generalize hS : shapeCast S65536 P shapeCasts_S16384x4_S65536 = S
    pointwise [clipped, hS]
    rfl
  · exact congrArg (BitVec.ofNat 32) (count_flat A ⟨l.val, by omega⟩ 65536 le_rfl)

end Cert.Reference6Ideal.RouteRef

end
-- ==== Proof.RouteClaim.lean ====
/-
  The router kernel and its reference pick the same logits, and leave the same gates and counts, of logits above the padding's value.
-/
module

public import proofs.«01_k».proof.Defs
public import proofs.«01_k».proof.Proof.Frames
public import proofs.«01_k».proof.Proof.RouteHist
public import Idealize.ShloMosaic.Lib.Claim

@[expose] public section

set_option maxRecDepth 16384

noncomputable section

namespace Cert.RouteClaim

open Cert.Route Idealize.ShloMosaic Idealize.ShloMosaic.TcCoe Idealize.SL.Sem
open Cert.Kernel6Ideal.RouteValue (row padValue gate row_low row_pad meta_at gates_at counts_result)

/-- The precondition's side conditions hold. -/
theorem facts : Cert.Pre_above_padding.Facts := by
  constructor <;> decide

/-- The precondition puts every logit above the padding's value. -/
theorem above_padding [Cert.Pre_above_padding.Facts] (A : FVec Ideal Cert.Pre_above_padding.S16384x32 .f32)
    (h : Cert.Pre_above_padding.fn (F := Ideal) A = fun _ => 1#1) (T : Fin 16384) (k : Fin 32) : padValue < (A (ix2 T k) : EReal) := by
  have h2 : BitVec.ofBool (decide (padValue < (A (ix2 T k) : EReal))) = 1#1 := congrFun h (ix2 T k)
  by_contra h3
  rw [decide_eq_false h3] at h2
  exact absurd h2 (by decide)

section values

variable (m : (ℓ : Loc Cert.Kernel6Ideal.nD Cert.Kernel6Ideal.τ Cert.Kernel6Ideal.sig) → Buf (Elt Ideal) ℓ) (c : Dev Cert.Kernel6Ideal.nD)
variable (A : FVec Ideal Cert.Reference6Ideal.S16384x32 .f32)
variable (hA : A = m ((c.tc : Thread Cert.Kernel6Ideal.nD Cert.Kernel6Ideal.τ).loc Cert.Kernel6Ideal.main_arg0))
variable (hlow : ∀ (T : Fin 16384) (k : Fin 32), padValue < (A (ix2 T k) : EReal))

include hA hlow in
/-- The picked indices agree. -/
theorem same_indices :
    (Host.topK Cert.Reference6Ideal.S16384x4 1 (FloatOps.cmpfTotal .gt) A Cert.Reference6Ideal.Gen.facts.sliceFits_S16384x32_S16384x4).2
      = Pipeline.afterTail₀ Cert.Kernel6Ideal.cfgs (Cert.Kernel6Ideal.Gen.dats m) 0 (Cert.Kernel6Ideal.Gen.V0 m) [Cert.Kernel6Ideal.Gen.hostOps1] c Cert.Kernel6Ideal.main_v3 := by
  subst hA
  funext i
  refine (congrArg _ (eq_ix2 i)).trans ((Cert.Reference6Ideal.RouteRef.indices_place _ (i 0) (hlow (i 0)) (i 1)).trans ?_)
  exact (meta_at m c (i 0) (i 1)).symm.trans (congrArg (Pipeline.afterTail₀ Cert.Kernel6Ideal.cfgs (Cert.Kernel6Ideal.Gen.dats m) 0 (Cert.Kernel6Ideal.Gen.V0 m) [Cert.Kernel6Ideal.Gen.hostOps1] c Cert.Kernel6Ideal.main_v3) (eq_ix2 i)).symm

include hA hlow in
/-- The gates agree. -/
theorem same_gates :
    Cert.Reference6Ideal.RouteRef.soft (Host.topK Cert.Reference6Ideal.S16384x4 1 (FloatOps.cmpfTotal .gt) A Cert.Reference6Ideal.Gen.facts.sliceFits_S16384x32_S16384x4).1
      = Pipeline.afterTail₀ Cert.Kernel6Ideal.cfgs (Cert.Kernel6Ideal.Gen.dats m) 0 (Cert.Kernel6Ideal.Gen.V0 m) [Cert.Kernel6Ideal.Gen.hostOps1] c Cert.Kernel6Ideal.main_v4 := by
  subst hA
  funext i
  refine (congrArg _ (eq_ix2 i)).trans ((Cert.Reference6Ideal.RouteRef.soft_at _ (i 0) _
    (fun j => Cert.Reference6Ideal.RouteRef.values_place _ (i 0) (hlow (i 0)) j)
    (fun j => Cert.Reference6Ideal.RouteRef.first_greatest _ (i 0) _) (i 1)).trans ?_)
  exact (gates_at m c hlow (i 0) (i 1)).symm.trans (congrArg (Pipeline.afterTail₀ Cert.Kernel6Ideal.cfgs (Cert.Kernel6Ideal.Gen.dats m) 0 (Cert.Kernel6Ideal.Gen.V0 m) [Cert.Kernel6Ideal.Gen.hostOps1] c Cert.Kernel6Ideal.main_v4) (eq_ix2 i)).symm

include hA hlow in
/-- The counts agree. -/
theorem same_counts :
    Cert.Reference6Ideal.RouteRef.binned (Host.topK Cert.Reference6Ideal.S16384x4 1 (FloatOps.cmpfTotal .gt) A Cert.Reference6Ideal.Gen.facts.sliceFits_S16384x32_S16384x4).2
      = Pipeline.afterTail₀ Cert.Kernel6Ideal.cfgs (Cert.Kernel6Ideal.Gen.dats m) 0 (Cert.Kernel6Ideal.Gen.V0 m) [Cert.Kernel6Ideal.Gen.hostOps1] c Cert.Kernel6Ideal.main_v6 := by
  subst hA
  funext i
  refine (congrArg _ (eq_ix1 i)).trans ((Cert.Reference6Ideal.RouteRef.binned_at _ _
    (fun T k => Cert.Reference6Ideal.RouteRef.indices_place _ T (hlow T) k) (i 0)).trans ?_)
  exact (counts_result m c (i 0)).symm.trans (congrArg (Pipeline.afterTail₀ Cert.Kernel6Ideal.cfgs (Cert.Kernel6Ideal.Gen.dats m) 0 (Cert.Kernel6Ideal.Gen.V0 m) [Cert.Kernel6Ideal.Gen.hostOps1] c Cert.Kernel6Ideal.main_v6) (eq_ix1 i)).symm

end values

/-- The router: from agreeing logits above the padding's value, the kernel and the reference end with equal results. -/
theorem algebraic [Cert.Pre_above_padding.Facts] : Cert.algebraic_Kernel6Ideal_Reference6Ideal_pre_above_padding := by
  intro m g m' g' hpre hagree
  let V := fun c => Pipeline.afterTail₀ Cert.Kernel6Ideal.cfgs (Cert.Kernel6Ideal.Gen.dats m) 0 (Cert.Kernel6Ideal.Gen.V0 m) [Cert.Kernel6Ideal.Gen.hostOps1] c
  refine ⟨fun c => V c Cert.Kernel6Ideal.main_v3, fun c => V c Cert.Kernel6Ideal.main_v4, fun c => V c Cert.Kernel6Ideal.main_v6, (θ_run _ _ _).mono (fun r h c => ⟨(h.1 c).2 Cert.Kernel6Ideal.main_v3 (by decide), (h.1 c).2 Cert.Kernel6Ideal.main_v4 (by decide), (h.1 c).2 Cert.Kernel6Ideal.main_v6 (by decide), h.2 c⟩)
    (θ_run_and (Cert.Kernel6Ideal.Gen.run_main m g) (Cert.Kernel6Ideal.Gen.unchanged m g)), ?_⟩
  refine (θ_run _ _ _).mono (fun r h c => ⟨(h c).1.trans ?_, (h c).2.1.trans ?_, (h c).2.2.1.trans ?_, (h c).2.2.2⟩) (Cert.Reference6Ideal.Value.run m' g')
  · exact same_indices m c _ (hagree c) (fun T k => by rw [hagree c]; exact above_padding _ (hpre c) T k)
  · exact same_gates m c _ (hagree c) (fun T k => by rw [hagree c]; exact above_padding _ (hpre c) T k)
  · exact same_counts m c _ (hagree c) (fun T k => by rw [hagree c]; exact above_padding _ (hpre c) T k)

/-- The frame under the precondition is the plain frame. -/
theorem kernelFrame [Cert.Pre_above_padding.Facts] : Cert.quiescent_Kernel6Ideal_pre_above_padding :=
  fun m ρ _ => Cert.Frames.kernel6Ideal m ρ trivial

/-- The reference's frame under the precondition is the plain frame. -/
theorem referenceFrame [Cert.Pre_above_padding.Facts] : Cert.quiescent_Reference6Ideal_pre_above_padding :=
  fun m ρ _ => Cert.Frames.reference6Ideal m ρ trivial

end Cert.RouteClaim

end
-- ==== Proof.lean ====
/-
  The certificate: the frames of the eighteen programs, the idealizations, and the value claims.
-/
module

public import proofs.«01_k».proof.Defs
public import proofs.«01_k».proof.Proof.Frames
public import proofs.«01_k».proof.Proof.RefFrame
public import proofs.«01_k».proof.Proof.InClaim
public import proofs.«01_k».proof.Proof.OutClaim
public import proofs.«01_k».proof.Proof.TrigRef
public import proofs.«01_k».proof.Proof.RetClaim
public import proofs.«01_k».proof.Proof.ModClaim
public import proofs.«01_k».proof.Proof.RouteClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, RetClaim.facts, OutClaim.facts, RouteClaim.facts,
  Frames.kernel, Frames.kernelIdeal, @RetClaim.kernelFrame RetClaim.facts, ReferenceIdeal.RefFrame.frame, @RetClaim.referenceFrame RetClaim.facts,
  Frames.kernel2, Frames.kernel2Ideal, Frames.reference2Ideal,
  Frames.kernel3, Frames.kernel3Ideal, @OutClaim.kernelFrame OutClaim.facts, Frames.reference3Ideal, @OutClaim.referenceFrame OutClaim.facts,
  Frames.kernel4, Frames.kernel4Ideal, Frames.reference4Ideal,
  Frames.kernel5, Frames.kernel5Ideal, Frames.reference5Ideal,
  Frames.kernel6, Frames.kernel6Ideal, @RouteClaim.kernelFrame RouteClaim.facts, Frames.reference6Ideal, @RouteClaim.referenceFrame RouteClaim.facts,
  trivial, @RetClaim.algebraic RetClaim.facts, trivial, InClaim.algebraic, trivial, @OutClaim.algebraic OutClaim.facts, trivial, TrigClaim.algebraic, trivial, ModClaim.algebraic, trivial, @RouteClaim.algebraic RouteClaim.facts⟩

end Cert.Proof

end
